-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Ex [hPre_ex_addressed : Cert.Pre_ex_addressed.Facts] (m : (ℓ : Loc Cert.Ex.nD Cert.Ex.τ Cert.Ex.sig) → Buf (Elt Bits) ℓ) : Prop :=
  ∀ c : Dev Cert.Ex.nD,
    (Cert.Pre_ex_addressed.fn (F := Bits) (m ((c.tc : Thread Cert.Ex.nD Cert.Ex.τ).loc Cert.Ex.main_arg0)) (m ((c.tc : Thread Cert.Ex.nD Cert.Ex.τ).loc Cert.Ex.main_arg1)) (m ((c.tc : Thread Cert.Ex.nD Cert.Ex.τ).loc Cert.Ex.main_arg2)) (m ((c.tc : Thread Cert.Ex.nD Cert.Ex.τ).loc Cert.Ex.main_arg3)) (m ((c.tc : Thread Cert.Ex.nD Cert.Ex.τ).loc Cert.Ex.main_arg4)) (m ((c.tc : Thread Cert.Ex.nD Cert.Ex.τ).loc Cert.Ex.main_arg5)) (m ((c.tc : Thread Cert.Ex.nD Cert.Ex.τ).loc Cert.Ex.main_arg6))) = (fun _ => 1#1)

def Pre_ExIdeal [hPre_ex_addressed : Cert.Pre_ex_addressed.Facts] (m : (ℓ : Loc Cert.ExIdeal.nD Cert.ExIdeal.τ Cert.ExIdeal.sig) → Buf (Elt Ideal) ℓ) : Prop :=
  ∀ c : Dev Cert.ExIdeal.nD,
    (Cert.Pre_ex_addressed.fn (F := Ideal) (m ((c.tc : Thread Cert.ExIdeal.nD Cert.ExIdeal.τ).loc Cert.ExIdeal.main_arg0)) (m ((c.tc : Thread Cert.ExIdeal.nD Cert.ExIdeal.τ).loc Cert.ExIdeal.main_arg1)) (m ((c.tc : Thread Cert.ExIdeal.nD Cert.ExIdeal.τ).loc Cert.ExIdeal.main_arg2)) (m ((c.tc : Thread Cert.ExIdeal.nD Cert.ExIdeal.τ).loc Cert.ExIdeal.main_arg3)) (m ((c.tc : Thread Cert.ExIdeal.nD Cert.ExIdeal.τ).loc Cert.ExIdeal.main_arg4)) (m ((c.tc : Thread Cert.ExIdeal.nD Cert.ExIdeal.τ).loc Cert.ExIdeal.main_arg5)) (m ((c.tc : Thread Cert.ExIdeal.nD Cert.ExIdeal.τ).loc Cert.ExIdeal.main_arg6))) = (fun _ => 1#1)

def Pre_ExRefIdeal [hPre_ex_addressed : Cert.Pre_ex_addressed.Facts] (m : (ℓ : Loc Cert.ExRefIdeal.nD Cert.ExRefIdeal.τ Cert.ExRefIdeal.sig) → Buf (Elt Ideal) ℓ) : Prop :=
  ∀ c : Dev Cert.ExRefIdeal.nD,
    (Cert.Pre_ex_addressed.fn (F := Ideal) (m ((c.tc : Thread Cert.ExRefIdeal.nD Cert.ExRefIdeal.τ).loc Cert.ExRefIdeal.main_arg0)) (m ((c.tc : Thread Cert.ExRefIdeal.nD Cert.ExRefIdeal.τ).loc Cert.ExRefIdeal.main_arg1)) (m ((c.tc : Thread Cert.ExRefIdeal.nD Cert.ExRefIdeal.τ).loc Cert.ExRefIdeal.main_arg2)) (m ((c.tc : Thread Cert.ExRefIdeal.nD Cert.ExRefIdeal.τ).loc Cert.ExRefIdeal.main_arg3)) (m ((c.tc : Thread Cert.ExRefIdeal.nD Cert.ExRefIdeal.τ).loc Cert.ExRefIdeal.main_arg4)) (m ((c.tc : Thread Cert.ExRefIdeal.nD Cert.ExRefIdeal.τ).loc Cert.ExRefIdeal.main_arg5)) (m ((c.tc : Thread Cert.ExRefIdeal.nD Cert.ExRefIdeal.τ).loc Cert.ExRefIdeal.main_arg6))) = (fun _ => 1#1)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1)
      ∧ r.2.mem ((c.tc : Thread Cert.Uq.nD Cert.Uq.τ).loc Cert.Uq.main_arg2) = m ((c.tc : Thread Cert.Uq.nD Cert.Uq.τ).loc Cert.Uq.main_arg2))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
      ∧ r.2.mem ((c.tc : Thread Cert.UqIdeal.nD Cert.UqIdeal.τ).loc Cert.UqIdeal.main_arg2) = m ((c.tc : Thread Cert.UqIdeal.nD Cert.UqIdeal.τ).loc Cert.UqIdeal.main_arg2))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1)
      ∧ r.2.mem ((c.tc : Thread Cert.UqRefIdeal.nD Cert.UqRefIdeal.τ).loc Cert.UqRefIdeal.main_arg2) = m ((c.tc : Thread Cert.UqRefIdeal.nD Cert.UqRefIdeal.τ).loc Cert.UqRefIdeal.main_arg2))
      ∧ r.2.sem = fun _ => 0)

def quiescent_Ex [hEx : Cert.Ex.Facts] [hPre_ex_addressed : Cert.Pre_ex_addressed.Facts] : Prop :=
  ∀ (m : (ℓ : Loc Cert.Ex.nD Cert.Ex.τ Cert.Ex.sig) → Buf (Elt Bits) ℓ) (g : Dev Cert.Ex.nD → PrngReg), Pre_Ex m →
    θ_run (Cert.Ex.defs (F := Bits)) (onTc (τ := Cert.Ex.τ) (Cert.Ex.main (F := Bits))) ⟨m, fun _ => 0, g⟩ (fun r => (∀ c : Dev Cert.Ex.nD,
      r.2.mem ((c.tc : Thread Cert.Ex.nD Cert.Ex.τ).loc Cert.Ex.main_arg0) = m ((c.tc : Thread Cert.Ex.nD Cert.Ex.τ).loc Cert.Ex.main_arg0)
      ∧ r.2.mem ((c.tc : Thread Cert.Ex.nD Cert.Ex.τ).loc Cert.Ex.main_arg1) = m ((c.tc : Thread Cert.Ex.nD Cert.Ex.τ).loc Cert.Ex.main_arg1)
      ∧ r.2.mem ((c.tc : Thread Cert.Ex.nD Cert.Ex.τ).loc Cert.Ex.main_arg2) = m ((c.tc : Thread Cert.Ex.nD Cert.Ex.τ).loc Cert.Ex.main_arg2)
      ∧ r.2.mem ((c.tc : Thread Cert.Ex.nD Cert.Ex.τ).loc Cert.Ex.main_arg3) = m ((c.tc : Thread Cert.Ex.nD Cert.Ex.τ).loc Cert.Ex.main_arg3)
      ∧ r.2.mem ((c.tc : Thread Cert.Ex.nD Cert.Ex.τ).loc Cert.Ex.main_arg4) = m ((c.tc : Thread Cert.Ex.nD Cert.Ex.τ).loc Cert.Ex.main_arg4)
      ∧ r.2.mem ((c.tc : Thread Cert.Ex.nD Cert.Ex.τ).loc Cert.Ex.main_arg5) = m ((c.tc : Thread Cert.Ex.nD Cert.Ex.τ).loc Cert.Ex.main_arg5)
      ∧ r.2.mem ((c.tc : Thread Cert.Ex.nD Cert.Ex.τ).loc Cert.Ex.main_arg6) = m ((c.tc : Thread Cert.Ex.nD Cert.Ex.τ).loc Cert.Ex.main_arg6))
      ∧ r.2.sem = fun _ => 0)

def quiescent_ExIdeal [hExIdeal : Cert.ExIdeal.Facts] [hPre_ex_addressed : Cert.Pre_ex_addressed.Facts] : Prop :=
  ∀ (m : (ℓ : Loc Cert.ExIdeal.nD Cert.ExIdeal.τ Cert.ExIdeal.sig) → Buf (Elt Ideal) ℓ) (g : Dev Cert.ExIdeal.nD → PrngReg), Pre_ExIdeal m →
    θ_run (Cert.ExIdeal.defs (F := Ideal)) (onTc (τ := Cert.ExIdeal.τ) (Cert.ExIdeal.main (F := Ideal))) ⟨m, fun _ => 0, g⟩ (fun r => (∀ c : Dev Cert.ExIdeal.nD,
      r.2.mem ((c.tc : Thread Cert.ExIdeal.nD Cert.ExIdeal.τ).loc Cert.ExIdeal.main_arg0) = m ((c.tc : Thread Cert.ExIdeal.nD Cert.ExIdeal.τ).loc Cert.ExIdeal.main_arg0)
      ∧ r.2.mem ((c.tc : Thread Cert.ExIdeal.nD Cert.ExIdeal.τ).loc Cert.ExIdeal.main_arg1) = m ((c.tc : Thread Cert.ExIdeal.nD Cert.ExIdeal.τ).loc Cert.ExIdeal.main_arg1)
      ∧ r.2.mem ((c.tc : Thread Cert.ExIdeal.nD Cert.ExIdeal.τ).loc Cert.ExIdeal.main_arg2) = m ((c.tc : Thread Cert.ExIdeal.nD Cert.ExIdeal.τ).loc Cert.ExIdeal.main_arg2)
      ∧ r.2.mem ((c.tc : Thread Cert.ExIdeal.nD Cert.ExIdeal.τ).loc Cert.ExIdeal.main_arg3) = m ((c.tc : Thread Cert.ExIdeal.nD Cert.ExIdeal.τ).loc Cert.ExIdeal.main_arg3)
      ∧ r.2.mem ((c.tc : Thread Cert.ExIdeal.nD Cert.ExIdeal.τ).loc Cert.ExIdeal.main_arg4) = m ((c.tc : Thread Cert.ExIdeal.nD Cert.ExIdeal.τ).loc Cert.ExIdeal.main_arg4)
      ∧ r.2.mem ((c.tc : Thread Cert.ExIdeal.nD Cert.ExIdeal.τ).loc Cert.ExIdeal.main_arg5) = m ((c.tc : Thread Cert.ExIdeal.nD Cert.ExIdeal.τ).loc Cert.ExIdeal.main_arg5)
      ∧ r.2.mem ((c.tc : Thread Cert.ExIdeal.nD Cert.ExIdeal.τ).loc Cert.ExIdeal.main_arg6) = m ((c.tc : Thread Cert.ExIdeal.nD Cert.ExIdeal.τ).loc Cert.ExIdeal.main_arg6))
      ∧ r.2.sem = fun _ => 0)

def quiescent_ExRefIdeal [hExRefIdeal : Cert.ExRefIdeal.Facts] [hPre_ex_addressed : Cert.Pre_ex_addressed.Facts] : Prop :=
  ∀ (m : (ℓ : Loc Cert.ExRefIdeal.nD Cert.ExRefIdeal.τ Cert.ExRefIdeal.sig) → Buf (Elt Ideal) ℓ) (g : Dev Cert.ExRefIdeal.nD → PrngReg), Pre_ExRefIdeal m →
    θ_run (Cert.ExRefIdeal.defs (F := Ideal)) (onTc (τ := Cert.ExRefIdeal.τ) (Cert.ExRefIdeal.main (F := Ideal))) ⟨m, fun _ => 0, g⟩ (fun r => (∀ c : Dev Cert.ExRefIdeal.nD,
      r.2.mem ((c.tc : Thread Cert.ExRefIdeal.nD Cert.ExRefIdeal.τ).loc Cert.ExRefIdeal.main_arg0) = m ((c.tc : Thread Cert.ExRefIdeal.nD Cert.ExRefIdeal.τ).loc Cert.ExRefIdeal.main_arg0)
      ∧ r.2.mem ((c.tc : Thread Cert.ExRefIdeal.nD Cert.ExRefIdeal.τ).loc Cert.ExRefIdeal.main_arg1) = m ((c.tc : Thread Cert.ExRefIdeal.nD Cert.ExRefIdeal.τ).loc Cert.ExRefIdeal.main_arg1)
      ∧ r.2.mem ((c.tc : Thread Cert.ExRefIdeal.nD Cert.ExRefIdeal.τ).loc Cert.ExRefIdeal.main_arg2) = m ((c.tc : Thread Cert.ExRefIdeal.nD Cert.ExRefIdeal.τ).loc Cert.ExRefIdeal.main_arg2)
      ∧ r.2.mem ((c.tc : Thread Cert.ExRefIdeal.nD Cert.ExRefIdeal.τ).loc Cert.ExRefIdeal.main_arg3) = m ((c.tc : Thread Cert.ExRefIdeal.nD Cert.ExRefIdeal.τ).loc Cert.ExRefIdeal.main_arg3)
      ∧ r.2.mem ((c.tc : Thread Cert.ExRefIdeal.nD Cert.ExRefIdeal.τ).loc Cert.ExRefIdeal.main_arg4) = m ((c.tc : Thread Cert.ExRefIdeal.nD Cert.ExRefIdeal.τ).loc Cert.ExRefIdeal.main_arg4)
      ∧ r.2.mem ((c.tc : Thread Cert.ExRefIdeal.nD Cert.ExRefIdeal.τ).loc Cert.ExRefIdeal.main_arg5) = m ((c.tc : Thread Cert.ExRefIdeal.nD Cert.ExRefIdeal.τ).loc Cert.ExRefIdeal.main_arg5)
      ∧ r.2.mem ((c.tc : Thread Cert.ExRefIdeal.nD Cert.ExRefIdeal.τ).loc Cert.ExRefIdeal.main_arg6) = m ((c.tc : Thread Cert.ExRefIdeal.nD Cert.ExRefIdeal.τ).loc Cert.ExRefIdeal.main_arg6))
      ∧ r.2.sem = fun _ => 0)

def preserves_Sb_SbIdeal : Prop :=
  True

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v28) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v60) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v7_0)) (v1 : (c : Dev Cert.OutLnIdeal.nD) → Buf (Elt Ideal) ((c.tc : Thread Cert.OutLnIdeal.nD Cert.OutLnIdeal.τ).loc Cert.OutLnIdeal.main_v7_1)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v7_0) = v0 c
          ∧ r.2.mem ((c.tc : Thread Cert.OutLnIdeal.nD Cert.OutLnIdeal.τ).loc Cert.OutLnIdeal.main_v7_1) = v1 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v34) = v0 c
          ∧ r.2.mem ((c.tc : Thread Cert.OutLnRefIdeal.nD Cert.OutLnRefIdeal.τ).loc Cert.OutLnRefIdeal.main_v35) = v1 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v5) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v4) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)
      ∧ m' ((c.tc : Thread Cert.UqRefIdeal.nD Cert.UqRefIdeal.τ).loc Cert.UqRefIdeal.main_arg2) = m ((c.tc : Thread Cert.UqIdeal.nD Cert.UqIdeal.τ).loc Cert.UqIdeal.main_arg2)) →
    ∃ (v0 : (c : Dev Cert.UqIdeal.nD) → Buf (Elt Ideal) ((c.tc : Thread Cert.UqIdeal.nD Cert.UqIdeal.τ).loc Cert.UqIdeal.main_v3)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v3) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
          ∧ r.2.mem ((c.tc : Thread Cert.UqIdeal.nD Cert.UqIdeal.τ).loc Cert.UqIdeal.main_arg2) = m ((c.tc : Thread Cert.UqIdeal.nD Cert.UqIdeal.τ).loc Cert.UqIdeal.main_arg2))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v18) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1)
          ∧ r.2.mem ((c.tc : Thread Cert.UqRefIdeal.nD Cert.UqRefIdeal.τ).loc Cert.UqRefIdeal.main_arg2) = m' ((c.tc : Thread Cert.UqRefIdeal.nD Cert.UqRefIdeal.τ).loc Cert.UqRefIdeal.main_arg2))

def preserves_Ex_ExIdeal : Prop :=
  True

def algebraic_ExIdeal_ExRefIdeal [hExIdeal : Cert.ExIdeal.Facts] [hExRefIdeal : Cert.ExRefIdeal.Facts] [hPre_ex_addressed : Cert.Pre_ex_addressed.Facts] : Prop :=
  ∀ (m : (ℓ : Loc Cert.ExIdeal.nD Cert.ExIdeal.τ Cert.ExIdeal.sig) → Buf (Elt Ideal) ℓ) (g : Dev Cert.ExIdeal.nD → PrngReg)
    (m' : (ℓ : Loc Cert.ExRefIdeal.nD Cert.ExRefIdeal.τ Cert.ExRefIdeal.sig) → Buf (Elt Ideal) ℓ) (g' : Dev Cert.ExRefIdeal.nD → PrngReg), Pre_ExIdeal m →
    (∀ c : Dev Cert.ExIdeal.nD,
      m' ((c.tc : Thread Cert.ExRefIdeal.nD Cert.ExRefIdeal.τ).loc Cert.ExRefIdeal.main_arg0) = m ((c.tc : Thread Cert.ExIdeal.nD Cert.ExIdeal.τ).loc Cert.ExIdeal.main_arg0)
      ∧ m' ((c.tc : Thread Cert.ExRefIdeal.nD Cert.ExRefIdeal.τ).loc Cert.ExRefIdeal.main_arg1) = m ((c.tc : Thread Cert.ExIdeal.nD Cert.ExIdeal.τ).loc Cert.ExIdeal.main_arg1)
      ∧ m' ((c.tc : Thread Cert.ExRefIdeal.nD Cert.ExRefIdeal.τ).loc Cert.ExRefIdeal.main_arg2) = m ((c.tc : Thread Cert.ExIdeal.nD Cert.ExIdeal.τ).loc Cert.ExIdeal.main_arg2)
      ∧ m' ((c.tc : Thread Cert.ExRefIdeal.nD Cert.ExRefIdeal.τ).loc Cert.ExRefIdeal.main_arg3) = m ((c.tc : Thread Cert.ExIdeal.nD Cert.ExIdeal.τ).loc Cert.ExIdeal.main_arg3)
      ∧ m' ((c.tc : Thread Cert.ExRefIdeal.nD Cert.ExRefIdeal.τ).loc Cert.ExRefIdeal.main_arg4) = m ((c.tc : Thread Cert.ExIdeal.nD Cert.ExIdeal.τ).loc Cert.ExIdeal.main_arg4)
      ∧ m' ((c.tc : Thread Cert.ExRefIdeal.nD Cert.ExRefIdeal.τ).loc Cert.ExRefIdeal.main_arg5) = m ((c.tc : Thread Cert.ExIdeal.nD Cert.ExIdeal.τ).loc Cert.ExIdeal.main_arg5)
      ∧ m' ((c.tc : Thread Cert.ExRefIdeal.nD Cert.ExRefIdeal.τ).loc Cert.ExRefIdeal.main_arg6) = m ((c.tc : Thread Cert.ExIdeal.nD Cert.ExIdeal.τ).loc Cert.ExIdeal.main_arg6)) →
    ∃ (v0 : (c : Dev Cert.ExIdeal.nD) → Buf (Elt Ideal) ((c.tc : Thread Cert.ExIdeal.nD Cert.ExIdeal.τ).loc Cert.ExIdeal.main_v1)),
      θ_run (Cert.ExIdeal.defs (F := Ideal)) (onTc (τ := Cert.ExIdeal.τ) (Cert.ExIdeal.main (F := Ideal))) ⟨m, fun _ => 0, g⟩ (fun r => ∀ c : Dev Cert.ExIdeal.nD,
          r.2.mem ((c.tc : Thread Cert.ExIdeal.nD Cert.ExIdeal.τ).loc Cert.ExIdeal.main_v1) = v0 c
          ∧ r.2.mem ((c.tc : Thread Cert.ExIdeal.nD Cert.ExIdeal.τ).loc Cert.ExIdeal.main_arg0) = m ((c.tc : Thread Cert.ExIdeal.nD Cert.ExIdeal.τ).loc Cert.ExIdeal.main_arg0)
          ∧ r.2.mem ((c.tc : Thread Cert.ExIdeal.nD Cert.ExIdeal.τ).loc Cert.ExIdeal.main_arg1) = m ((c.tc : Thread Cert.ExIdeal.nD Cert.ExIdeal.τ).loc Cert.ExIdeal.main_arg1)
          ∧ r.2.mem ((c.tc : Thread Cert.ExIdeal.nD Cert.ExIdeal.τ).loc Cert.ExIdeal.main_arg2) = m ((c.tc : Thread Cert.ExIdeal.nD Cert.ExIdeal.τ).loc Cert.ExIdeal.main_arg2)
          ∧ r.2.mem ((c.tc : Thread Cert.ExIdeal.nD Cert.ExIdeal.τ).loc Cert.ExIdeal.main_arg3) = m ((c.tc : Thread Cert.ExIdeal.nD Cert.ExIdeal.τ).loc Cert.ExIdeal.main_arg3)
          ∧ r.2.mem ((c.tc : Thread Cert.ExIdeal.nD Cert.ExIdeal.τ).loc Cert.ExIdeal.main_arg4) = m ((c.tc : Thread Cert.ExIdeal.nD Cert.ExIdeal.τ).loc Cert.ExIdeal.main_arg4)
          ∧ r.2.mem ((c.tc : Thread Cert.ExIdeal.nD Cert.ExIdeal.τ).loc Cert.ExIdeal.main_arg5) = m ((c.tc : Thread Cert.ExIdeal.nD Cert.ExIdeal.τ).loc Cert.ExIdeal.main_arg5)
          ∧ r.2.mem ((c.tc : Thread Cert.ExIdeal.nD Cert.ExIdeal.τ).loc Cert.ExIdeal.main_arg6) = m ((c.tc : Thread Cert.ExIdeal.nD Cert.ExIdeal.τ).loc Cert.ExIdeal.main_arg6))
      ∧ θ_run (Cert.ExRefIdeal.defs (F := Ideal)) (onTc (τ := Cert.ExRefIdeal.τ) (Cert.ExRefIdeal.main (F := Ideal))) ⟨m', fun _ => 0, g'⟩ (fun r => ∀ c : Dev Cert.ExRefIdeal.nD,
          r.2.mem ((c.tc : Thread Cert.ExRefIdeal.nD Cert.ExRefIdeal.τ).loc Cert.ExRefIdeal.main_v45) = v0 c
          ∧ r.2.mem ((c.tc : Thread Cert.ExRefIdeal.nD Cert.ExRefIdeal.τ).loc Cert.ExRefIdeal.main_arg0) = m' ((c.tc : Thread Cert.ExRefIdeal.nD Cert.ExRefIdeal.τ).loc Cert.ExRefIdeal.main_arg0)
          ∧ r.2.mem ((c.tc : Thread Cert.ExRefIdeal.nD Cert.ExRefIdeal.τ).loc Cert.ExRefIdeal.main_arg1) = m' ((c.tc : Thread Cert.ExRefIdeal.nD Cert.ExRefIdeal.τ).loc Cert.ExRefIdeal.main_arg1)
          ∧ r.2.mem ((c.tc : Thread Cert.ExRefIdeal.nD Cert.ExRefIdeal.τ).loc Cert.ExRefIdeal.main_arg2) = m' ((c.tc : Thread Cert.ExRefIdeal.nD Cert.ExRefIdeal.τ).loc Cert.ExRefIdeal.main_arg2)
          ∧ r.2.mem ((c.tc : Thread Cert.ExRefIdeal.nD Cert.ExRefIdeal.τ).loc Cert.ExRefIdeal.main_arg3) = m' ((c.tc : Thread Cert.ExRefIdeal.nD Cert.ExRefIdeal.τ).loc Cert.ExRefIdeal.main_arg3)
          ∧ r.2.mem ((c.tc : Thread Cert.ExRefIdeal.nD Cert.ExRefIdeal.τ).loc Cert.ExRefIdeal.main_arg4) = m' ((c.tc : Thread Cert.ExRefIdeal.nD Cert.ExRefIdeal.τ).loc Cert.ExRefIdeal.main_arg4)
          ∧ r.2.mem ((c.tc : Thread Cert.ExRefIdeal.nD Cert.ExRefIdeal.τ).loc Cert.ExRefIdeal.main_arg5) = m' ((c.tc : Thread Cert.ExRefIdeal.nD Cert.ExRefIdeal.τ).loc Cert.ExRefIdeal.main_arg5)
          ∧ r.2.mem ((c.tc : Thread Cert.ExRefIdeal.nD Cert.ExRefIdeal.τ).loc Cert.ExRefIdeal.main_arg6) = m' ((c.tc : Thread Cert.ExRefIdeal.nD Cert.ExRefIdeal.τ).loc Cert.ExRefIdeal.main_arg6))

def Claim : Prop :=
  ∃ (hSb : Cert.Sb.Facts) (hSbIdeal : Cert.SbIdeal.Facts) (hSbRefIdeal : Cert.SbRefIdeal.Facts) (hMerge : Cert.Merge.Facts) (hMergeIdeal : Cert.MergeIdeal.Facts) (hMergeRefIdeal : Cert.MergeRefIdeal.Facts) (hOutLn : Cert.OutLn.Facts) (hOutLnIdeal : Cert.OutLnIdeal.Facts) (hOutLnRefIdeal : Cert.OutLnRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hUq : Cert.Uq.Facts) (hUqIdeal : Cert.UqIdeal.Facts) (hUqRefIdeal : Cert.UqRefIdeal.Facts) (hEx : Cert.Ex.Facts) (hExIdeal : Cert.ExIdeal.Facts) (hExRefIdeal : Cert.ExRefIdeal.Facts) (hPre_sb_finite : Cert.Pre_sb_finite.Facts) (hPre_ex_addressed : Cert.Pre_ex_addressed.Facts),
    quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_Merge (hMerge := hMerge)
    ∧ quiescent_MergeIdeal (hMergeIdeal := hMergeIdeal)
    ∧ quiescent_MergeRefIdeal (hMergeRefIdeal := hMergeRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_Uq (hUq := hUq)
    ∧ quiescent_UqIdeal (hUqIdeal := hUqIdeal)
    ∧ quiescent_UqRefIdeal (hUqRefIdeal := hUqRefIdeal)
    ∧ quiescent_Ex (hEx := hEx) (hPre_ex_addressed := hPre_ex_addressed)
    ∧ quiescent_ExIdeal (hExIdeal := hExIdeal) (hPre_ex_addressed := hPre_ex_addressed)
    ∧ quiescent_ExRefIdeal (hExRefIdeal := hExRefIdeal) (hPre_ex_addressed := hPre_ex_addressed)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_Merge_MergeIdeal
    ∧ algebraic_MergeIdeal_MergeRefIdeal (hMergeIdeal := hMergeIdeal) (hMergeRefIdeal := hMergeRefIdeal)
    ∧ preserves_OutLn_OutLnIdeal
    ∧ algebraic_OutLnIdeal_OutLnRefIdeal (hOutLnIdeal := hOutLnIdeal) (hOutLnRefIdeal := hOutLnRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_Uq_UqIdeal
    ∧ algebraic_UqIdeal_UqRefIdeal (hUqIdeal := hUqIdeal) (hUqRefIdeal := hUqRefIdeal)
    ∧ preserves_Ex_ExIdeal
    ∧ algebraic_ExIdeal_ExRefIdeal (hExIdeal := hExIdeal) (hExRefIdeal := hExRefIdeal) (hPre_ex_addressed := hPre_ex_addressed)
-- ==== Pre_ex_addressed.lean ====
abbrev S16384x2048 : Shape := ⟨2, ![16384, 2048]⟩
abbrev S40960 : Shape := ⟨1, ![40960]⟩
abbrev S160 : Shape := ⟨1, ![160]⟩
abbrev S1 : Shape := ⟨1, ![1]⟩
abbrev S4x32x2048x512 : Shape := ⟨4, ![4, 32, 2048, 512]⟩
abbrev S4x32x512x2048 : Shape := ⟨4, ![4, 32, 512, 2048]⟩
abbrev S160x256 : Shape := ⟨2, ![160, 256]⟩
abbrev S160x1 : Shape := ⟨2, ![160, 1]⟩
abbrev S_ : Shape := ⟨0, ![]⟩
abbrev S1x1 : Shape := ⟨2, ![1, 1]⟩

class Facts : Prop where
  shapeCasts_S40960_S160x256 : S40960.ShapeCasts S160x256
  bcast_S160_S160x1_0 : S160.BroadcastsInDim S160x1 (![0] : Fin 1 → Fin S160x1.rank)
  bcast_S_S160x256 : S_.BroadcastsInDim S160x256 (![] : Fin 0 → Fin S160x256.rank)
  bcast_S_S160x1 : S_.BroadcastsInDim S160x1 (![] : Fin 0 → Fin S160x1.rank)
  bcast_S160x1_S160x256_0_1 : S160x1.BroadcastsInDim S160x256 (![0, 1] : Fin 2 → Fin S160x256.rank)
  bcast_S_S1 : S_.BroadcastsInDim S1 (![] : Fin 0 → Fin S1.rank)
  bcast_S1_S1x1_1 : S1.BroadcastsInDim S1x1 (![1] : Fin 1 → Fin S1x1.rank)
  bcast_S1x1_S160x256_0_1 : S1x1.BroadcastsInDim S160x256 (![0, 1] : Fin 2 → Fin S160x256.rank)

variable [Facts]

def fn_part1 {F : FTy → Type} [FloatOps F] (main_arg3 : IVec S1 32) (main_v14 : IVec S160x256 1) (main_v18 : IVec S160x256 1) : IVec S160x256 1 :=
  let main_v19 : IVec S160x256 1 := andi main_v14 main_v18
  let main_c_4 : IVec S_ 32 := constantI S_ 32 160#32
  let main_v20 : IVec S1 32 := broadcastInDim S1 ![] bcast_S_S1 main_c_4
  let main_v21 : IVec S1 1 := cmpi .sle main_arg3 main_v20
  let main_v22 : IVec S1x1 1 := broadcastInDim S1x1 ![1] bcast_S1_S1x1_1 main_v21
  let main_v23 : IVec S160x256 1 := broadcastInDim S160x256 ![0, 1] bcast_S1x1_S160x256_0_1 main_v22
  let main_v24 : IVec S160x256 1 := andi main_v19 main_v23
  main_v24

def fn {F : FTy → Type} [FloatOps F] (main_arg0 : FVec F S16384x2048 .f32) (main_arg1 : IVec S40960 32) (main_arg2 : IVec S160 32) (main_arg3 : IVec S1 32) (main_arg4 : FVec F S4x32x2048x512 .f32) (main_arg5 : FVec F S4x32x2048x512 .f32) (main_arg6 : FVec F S4x32x512x2048 .f32) : IVec S160x256 1 :=
  let main_v0 : IVec S160x256 32 := shapeCast S160x256 main_arg1 shapeCasts_S40960_S160x256
  let main_v1 : IVec S160x1 32 := broadcastInDim S160x1 ![0] bcast_S160_S160x1_0 main_arg2
  let main_c : IVec S_ 32 := constantI S_ 32 0#32
  let main_v2 : IVec S160x256 32 := broadcastInDim S160x256 ![] bcast_S_S160x256 main_c
  let main_v3 : IVec S160x256 1 := cmpi .sge main_v0 main_v2
  let main_c_0 : IVec S_ 32 := constantI S_ 32 16384#32
  let main_v4 : IVec S160x256 32 := broadcastInDim S160x256 ![] bcast_S_S160x256 main_c_0
  let main_v5 : IVec S160x256 1 := cmpi .slt main_v0 main_v4
  let main_v6 : IVec S160x256 1 := andi main_v3 main_v5
  let main_c_1 : IVec S_ 32 := constantI S_ 32 0#32
  let main_v7 : IVec S160x1 32 := broadcastInDim S160x1 ![] bcast_S_S160x1 main_c_1
  let main_v8 : IVec S160x1 1 := cmpi .sge main_v1 main_v7
  let main_v9 : IVec S160x256 1 := broadcastInDim S160x256 ![0, 1] bcast_S160x1_S160x256_0_1 main_v8
  let main_v10 : IVec S160x256 1 := andi main_v6 main_v9
  let main_c_2 : IVec S_ 32 := constantI S_ 32 32#32
  let main_v11 : IVec S160x1 32 := broadcastInDim S160x1 ![] bcast_S_S160x1 main_c_2
  let main_v12 : IVec S160x1 1 := cmpi .slt main_v1 main_v11
  let main_v13 : IVec S160x256 1 := broadcastInDim S160x256 ![0, 1] bcast_S160x1_S160x256_0_1 main_v12
  let main_v14 : IVec S160x256 1 := andi main_v10 main_v13
  let main_c_3 : IVec S_ 32 := constantI S_ 32 1#32
  let main_v15 : IVec S1 32 := broadcastInDim S1 ![] bcast_S_S1 main_c_3
  let main_v16 : IVec S1 1 := cmpi .sge main_arg3 main_v15
  let main_v17 : IVec S1x1 1 := broadcastInDim S1x1 ![1] bcast_S1_S1x1_1 main_v16
  let main_v18 : IVec S160x256 1 := broadcastInDim S160x256 ![0, 1] bcast_S1x1_S160x256_0_1 main_v17
  fn_part1 (F := F) main_arg3 main_v14 main_v18
-- ==== Pre_sb_finite.lean ====
abbrev S16384x2048 : Shape := ⟨2, ![16384, 2048]⟩
abbrev S16384x1024 : Shape := ⟨2, ![16384, 1024]⟩
abbrev S_ : Shape := ⟨0, ![]⟩

class Facts : Prop where
  slices_S16384x2048_S16384x1024_0_0 : S16384x2048.Slices ![0, 0] S16384x1024
  bitsLt_bf16_f32 : FTy.bits .bf16 < FTy.bits .f32
  bcast_S_S16384x1024 : S_.BroadcastsInDim S16384x1024 (![] : Fin 0 → Fin S16384x1024.rank)

variable [Facts]

def fn {F : FTy → Type} [FloatOps F] (main_arg0 : FVec F S16384x2048 .bf16) : IVec S16384x1024 1 :=
  let main_v0 : FVec F S16384x1024 .bf16 := (extractStridedSlice S16384x1024 ![0, 0] · slices_S16384x2048_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  main_v4
-- ==== Sb.lean ====
abbrev S16384x2048 : Shape := ⟨2, ![16384, 2048]⟩
abbrev S16384x512 : Shape := ⟨2, ![16384, 512]⟩
abbrev S256x512 : Shape := ⟨2, ![256, 512]⟩
abbrev S2048x512 : Shape := ⟨2, ![2048, 512]⟩
abbrev S256x128 : Shape := ⟨2, ![256, 128]⟩
abbrev S256x256 : Shape := ⟨2, ![256, 256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v19 : BitVec 32 := Scalar.muli arg1 c256_i32
  v19
def k0_off1 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v21 : Index := Scalar.indexCast v20
  let c0_13 : Index := 0#32
  ![v21.toNat, 0]
def k0_off2 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v56 : Index := Scalar.indexCast v20
  let c128_24 : Index := 128#32
  ![v56.toNat, 128]
def k0_off3 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v91 : Index := Scalar.indexCast v20
  let c256_35 : Index := 256#32
  ![v91.toNat, 256]
def k0_off4 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v126 : Index := Scalar.indexCast v20
  let c384_46 : Index := 384#32
  ![v126.toNat, 384]
@[reducible] def k0_t1_loop (i : grid0.Coords) : Scf.Loop 32 :=
  let c0_i32_61 : BitVec 32 := 0#32
  let arg1 : BitVec 32 := BitVec.ofNat 32 (i 1).val
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_63 : BitVec 32 := 1#32
  ⟨c0_i32_61, v182, c1_i32_63⟩
def k0_mult2 (i : grid0.Coords) (k0_t1 : Fin (k0_t1_loop i).trips) : BitVec 32 :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c256_i32_79 : BitVec 32 := 256#32
  let v202 : BitVec 32 := Scalar.muli v200 c256_i32_79
  v202
def k0_off5 (i : grid0.Coords) (k0_t1 : Fin (k0_t1_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c256_i32_79 : BitVec 32 := 256#32
  let v202 : BitVec 32 := Scalar.muli v200 c256_i32_79
  let v203 : BitVec 32 := v202
  let v204 : Index := Scalar.indexCast v203
  let c0_80 : Index := 0#32
  ![v204.toNat, 0]
def k0_off6 (i : grid0.Coords) (k0_t1 : Fin (k0_t1_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c256_i32_79 : BitVec 32 := 256#32
  let v202 : BitVec 32 := Scalar.muli v200 c256_i32_79
  let v203 : BitVec 32 := v202
  let v235 : Index := Scalar.indexCast v203
  let c128_89 : Index := 128#32
  ![v235.toNat, 128]
def k0_off7 (i : grid0.Coords) (k0_t1 : Fin (k0_t1_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c256_i32_79 : BitVec 32 := 256#32
  let v202 : BitVec 32 := Scalar.muli v200 c256_i32_79
  let v203 : BitVec 32 := v202
  let v266 : Index := Scalar.indexCast v203
  let c256_98 : Index := 256#32
  ![v266.toNat, 256]
def k0_off8 (i : grid0.Coords) (k0_t1 : Fin (k0_t1_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c256_i32_79 : BitVec 32 := 256#32
  let v202 : BitVec 32 := Scalar.muli v200 c256_i32_79
  let v203 : BitVec 32 := v202
  let v297 : Index := Scalar.indexCast v203
  let c384_107 : Index := 384#32
  ![v297.toNat, 384]
def k0_mult3 (i : grid0.Coords) (k0_t1 : Fin (k0_t1_loop i).trips) : BitVec 32 :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  v328
def k0_off9 (i : grid0.Coords) (k0_t1 : Fin (k0_t1_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  let v329 : BitVec 32 := v328
  let v330 : Index := Scalar.indexCast v329
  let c0_117 : Index := 0#32
  ![v330.toNat, 0]
def k0_off10 (i : grid0.Coords) (k0_t1 : Fin (k0_t1_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  let v329 : BitVec 32 := v328
  let v361 : Index := Scalar.indexCast v329
  let c128_126 : Index := 128#32
  ![v361.toNat, 128]
def k0_off11 (i : grid0.Coords) (k0_t1 : Fin (k0_t1_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  let v329 : BitVec 32 := v328
  let v392 : Index := Scalar.indexCast v329
  let c256_135 : Index := 256#32
  ![v392.toNat, 256]
def k0_off12 (i : grid0.Coords) (k0_t1 : Fin (k0_t1_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c1_i32_63 : BitVec 32 := 1#32
  let arg6 : BitVec 32 := Scf.iv c0_i32_61 c1_i32_63 k0_t1
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  let v329 : BitVec 32 := v328
  let v423 : Index := Scalar.indexCast v329
  let c384_144 : Index := 384#32
  ![v423.toNat, 384]
@[reducible] def k0_t2_loop (i : grid0.Coords) : Scf.Loop 32 :=
  let c0_i32_61 : BitVec 32 := 0#32
  let arg1 : BitVec 32 := BitVec.ofNat 32 (i 1).val
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let v179 : BitVec 32 := Scalar.addi c0_i32_61 v178
  let c1_i32_64 : BitVec 32 := 1#32
  ⟨v182, v179, c1_i32_64⟩
def k0_mult4 (i : grid0.Coords) (k0_t2 : Fin (k0_t2_loop i).trips) : BitVec 32 :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c256_i32_79 : BitVec 32 := 256#32
  let v202 : BitVec 32 := Scalar.muli v200 c256_i32_79
  v202
def k0_off13 (i : grid0.Coords) (k0_t2 : Fin (k0_t2_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c256_i32_79 : BitVec 32 := 256#32
  let v202 : BitVec 32 := Scalar.muli v200 c256_i32_79
  let v203 : BitVec 32 := v202
  let v204 : Index := Scalar.indexCast v203
  let c0_80 : Index := 0#32
  ![v204.toNat, 0]
def k0_off14 (i : grid0.Coords) (k0_t2 : Fin (k0_t2_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c256_i32_79 : BitVec 32 := 256#32
  let v202 : BitVec 32 := Scalar.muli v200 c256_i32_79
  let v203 : BitVec 32 := v202
  let v235 : Index := Scalar.indexCast v203
  let c128_89 : Index := 128#32
  ![v235.toNat, 128]
def k0_off15 (i : grid0.Coords) (k0_t2 : Fin (k0_t2_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c256_i32_79 : BitVec 32 := 256#32
  let v202 : BitVec 32 := Scalar.muli v200 c256_i32_79
  let v203 : BitVec 32 := v202
  let v266 : Index := Scalar.indexCast v203
  let c256_98 : Index := 256#32
  ![v266.toNat, 256]
def k0_off16 (i : grid0.Coords) (k0_t2 : Fin (k0_t2_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c256_i32_79 : BitVec 32 := 256#32
  let v202 : BitVec 32 := Scalar.muli v200 c256_i32_79
  let v203 : BitVec 32 := v202
  let v297 : Index := Scalar.indexCast v203
  let c384_107 : Index := 384#32
  ![v297.toNat, 384]
def k0_mult5 (i : grid0.Coords) (k0_t2 : Fin (k0_t2_loop i).trips) : BitVec 32 :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  v328
def k0_off17 (i : grid0.Coords) (k0_t2 : Fin (k0_t2_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  let v329 : BitVec 32 := v328
  let v330 : Index := Scalar.indexCast v329
  let c0_117 : Index := 0#32
  ![v330.toNat, 0]
def k0_off18 (i : grid0.Coords) (k0_t2 : Fin (k0_t2_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  let v329 : BitVec 32 := v328
  let v361 : Index := Scalar.indexCast v329
  let c128_126 : Index := 128#32
  ![v361.toNat, 128]
def k0_off19 (i : grid0.Coords) (k0_t2 : Fin (k0_t2_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  let v329 : BitVec 32 := v328
  let v392 : Index := Scalar.indexCast v329
  let c256_135 : Index := 256#32
  ![v392.toNat, 256]
def k0_off20 (i : grid0.Coords) (k0_t2 : Fin (k0_t2_loop i).trips) : Fin 2 → Nat :=
  let arg1 : BitVec 32 := BitVec.ofNat 32 (i 1).val
  let c1_i32_76 : BitVec 32 := 1#32
  let v198 : BitVec 32 := Scalar.subi arg1 c1_i32_76
  let c2_i32_77 : BitVec 32 := 2#32
  let c0_i32_61 : BitVec 32 := 0#32
  let c0_i32 : BitVec 32 := 0#32
  let v162 : BitVec 1 := Scalar.cmpi .sgt arg1 c0_i32
  let v163 : BitVec 32 := Scalar.extui v162
  let c0_i32_57 : BitVec 32 := 0#32
  let v164 : BitVec 1 := Scalar.cmpi .slt arg1 c0_i32_57
  let v165 : BitVec 32 := Scalar.extui v164
  let v166 : BitVec 32 := Scalar.subi v163 v165
  let c2_i32 : BitVec 32 := 2#32
  let c0_i32_58 : BitVec 32 := 0#32
  let v167 : BitVec 1 := Scalar.cmpi .sgt c2_i32 c0_i32_58
  let v168 : BitVec 32 := Scalar.extui v167
  let c0_i32_59 : BitVec 32 := 0#32
  let v169 : BitVec 1 := Scalar.cmpi .slt c2_i32 c0_i32_59
  let v170 : BitVec 32 := Scalar.extui v169
  let v171 : BitVec 32 := Scalar.subi v168 v170
  let v172 : BitVec 1 := Scalar.cmpi .ne v166 v171
  let v173 : BitVec 32 := Scalar.remsi arg1 c2_i32
  let c0_i32_60 : BitVec 32 := 0#32
  let v174 : BitVec 1 := Scalar.cmpi .ne v173 c0_i32_60
  let v175 : BitVec 1 := Scalar.andi v172 v174
  let v161 : BitVec 32 := Scalar.divsi arg1 c2_i32
  let c1_i32 : BitVec 32 := 1#32
  let v176 : BitVec 32 := Scalar.subi v161 c1_i32
  let v177 : BitVec 32 := Scalar.select v175 v176 v161
  let v178 : BitVec 32 := Scalar.subi v177 c0_i32_61
  let c1_i32_62 : BitVec 32 := 1#32
  let v180 : BitVec 32 := Scalar.divsi v178 c1_i32_62
  let v181 : BitVec 32 := Scalar.muli v180 c1_i32_62
  let v182 : BitVec 32 := Scalar.addi c0_i32_61 v181
  let c1_i32_64 : BitVec 32 := 1#32
  let arg6 : BitVec 32 := Scf.iv v182 c1_i32_64 k0_t2
  let v199 : BitVec 32 := Scalar.muli c2_i32_77 arg6
  let v200 : BitVec 32 := Scalar.subi v198 v199
  let c1_i32_78 : BitVec 32 := 1#32
  let v201 : BitVec 32 := Scalar.subi v200 c1_i32_78
  let c256_i32_116 : BitVec 32 := 256#32
  let v328 : BitVec 32 := Scalar.muli v201 c256_i32_116
  let v329 : BitVec 32 := v328
  let v423 : Index := Scalar.indexCast v329
  let c384_144 : Index := 384#32
  ![v423.toNat, 384]
def k0_cond1 (i : grid0.Coords) : BitVec 1 :=
  let arg1 : BitVec 32 := BitVec.ofNat 32 (i 1).val
  let c2_i32_65 : BitVec 32 := 2#32
  let v185 : BitVec 32 := Scalar.remsi arg1 c2_i32_65
  let c1_i32_66 : BitVec 32 := 1#32
  let v186 : BitVec 1 := Scalar.cmpi .eq v185 c1_i32_66
  let v187 : BitVec 32 := Scalar.extui v186
  let c0_i32_67 : BitVec 32 := 0#32
  let v188 : BitVec 1 := Scalar.cmpi .ne v187 c0_i32_67
  v188

def k0_mult6 : BitVec 32 :=
  let c0_i32_76 : BitVec 32 := 0#32
  c0_i32_76
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbRefIdeal.lean ====
abbrev S16384x2048 : Shape := ⟨2, ![16384, 2048]⟩
abbrev S16384x512 : Shape := ⟨2, ![16384, 512]⟩
abbrev S8x2048x4x128 : Shape := ⟨4, ![8, 2048, 4, 128]⟩
abbrev S8x4x2048x2048 : Shape := ⟨4, ![8, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x128x2048 : Shape := ⟨4, ![8, 4, 128, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x512, .f32⟩
  | .hbm, ⟨3, _⟩ => ⟨S8x2048x4x128, .f32⟩
  | .hbm, ⟨4, _⟩ => ⟨S16384x512, .f32⟩
  | .hbm, ⟨5, _⟩ => ⟨S8x2048x4x128, .f32⟩
  | .hbm, ⟨6, _⟩ => ⟨S16384x512, .f32⟩
  | .hbm, ⟨7, _⟩ => ⟨S8x2048x4x128, .f32⟩
  | .hbm, ⟨8, _⟩ => ⟨S8x4x2048x2048, .f32⟩
  | .hbm, ⟨9, _⟩ => ⟨S_, .f32⟩
  | .hbm, ⟨10, _⟩ => ⟨S8x4x2048x2048, .f32⟩
  | .hbm, ⟨11, _⟩ => ⟨S8x4x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S8x4x2048x2048, .f32⟩
  | .hbm, ⟨19, _⟩ => ⟨S_, .f32⟩
  | .hbm, ⟨20, _⟩ => ⟨S8x4x2048x2048, .f32⟩
  | .hbm, ⟨21, _⟩ => ⟨S8x4x2048x2048, .f32⟩
  | .hbm, ⟨22, _⟩ => ⟨S8x4x2048x2048, .f32⟩
  | .hbm, ⟨23, _⟩ => ⟨S8x4x2048x2048, .f32⟩
  | .hbm, ⟨24, _⟩ => ⟨S8x4x2048x2048, .i1⟩
  | .hbm, ⟨25, _⟩ => ⟨S8x4x2048x2048, .f32⟩
  | .hbm, ⟨26, _⟩ => ⟨S8x4x2048x2048, .f32⟩
  | .hbm, ⟨27, _⟩ => ⟨S8x4x2048x2048, .f32⟩
  | .hbm, ⟨28, _⟩ => ⟨S8x4x2048x2048, .f32⟩
  | .hbm, ⟨29, _⟩ => ⟨S8x4x2048x2048, .f32⟩
  | .hbm, ⟨30, _⟩ => ⟨S8x4x2048x2048, .f32⟩
  | .hbm, ⟨31, _⟩ => ⟨S8x4x2048x2048, .f32⟩
  | .hbm, ⟨32, _⟩ => ⟨S8x4x2048x2048, .f32⟩
  | .hbm, ⟨33, _⟩ => ⟨S8x4x2048x2048, .f32⟩
  | .hbm, ⟨34, _⟩ => ⟨S8x4x2048x2048, .f32⟩
  | .hbm, ⟨35, _⟩ => ⟨S8x4x2048x2048, .f32⟩
  | .hbm, ⟨36, _⟩ => ⟨S_, .f32⟩
  | .hbm, ⟨37, _⟩ => ⟨S8x4x2048x2048, .f32⟩
  | .hbm, ⟨38, _⟩ => ⟨S8x4x2048x2048, .f32⟩
  | .hbm, ⟨39, _⟩ => ⟨S8x4x2048x2048, .f32⟩
  | .hbm, ⟨40, _⟩ => ⟨S8x4x2048x2048, .f32⟩
  | .hbm, ⟨41, _⟩ => ⟨S8x4x2048x2048, .i1⟩
  | .hbm, ⟨42, _⟩ => ⟨S8x4x2048x2048, .f32⟩
  | .hbm, ⟨43, _⟩ => ⟨S8x4x2048x2048, .f32⟩
  | .hbm, ⟨44, _⟩ => ⟨S8x4x2048x2048, .f32⟩
  | .hbm, ⟨45, _⟩ => ⟨S8x4x2048x2048, .f32⟩
  | .hbm, ⟨46, _⟩ => ⟨S8x4x2048x2048, .f32⟩
  | .hbm, ⟨47, _⟩ => ⟨S8x4x2048x2048, .f32⟩
  | .hbm, ⟨48, _⟩ => ⟨S8x4x2048x2048, .f32⟩
  | .hbm, ⟨49, _⟩ => ⟨S8x4x2048x2048, .f32⟩
  | .hbm, ⟨50, _⟩ => ⟨S8x4x2048x2048, .f32⟩
  | .hbm, ⟨51, _⟩ => ⟨S_, .f32⟩
  | .hbm, ⟨52, _⟩ => ⟨S_, .f32⟩
  | .hbm, ⟨53, _⟩ => ⟨S8x4x2048x2048, .i1⟩
  | .hbm, ⟨54, _⟩ => ⟨S8x4x2048x2048, .f32⟩
  | .hbm, ⟨55, _⟩ => ⟨S8x4x2048x2048, .f32⟩
  | .hbm, ⟨56, _⟩ => ⟨S_, .f32⟩
  | .hbm, ⟨57, _⟩ => ⟨S_, .f32⟩
  | .hbm, ⟨58, _⟩ => ⟨S8x4x2048x2048, .f32⟩
  | .hbm, ⟨59, _⟩ => ⟨S8x4x2048x2048, .f32⟩
  | .hbm, ⟨60, _⟩ => ⟨S8x4x2048x2048, .f32⟩
  | .hbm, ⟨61, _⟩ => ⟨S8x4x2048x2048, .f32⟩
  | .hbm, ⟨62, _⟩ => ⟨S_, .f32⟩
  | .hbm, ⟨63, _⟩ => ⟨S_, .f32⟩
  | .hbm, ⟨64, _⟩ => ⟨S8x4x2048x2048, .i1⟩
  | .hbm, ⟨65, _⟩ => ⟨S8x4x2048x2048, .f32⟩
  | .hbm, ⟨66, _⟩ => ⟨S8x4x2048x2048, .f32⟩
  | .hbm, ⟨67, _⟩ => ⟨S8x4x128x2048, .f32⟩
  | .hbm, ⟨68, _⟩ => ⟨S8x2048x4x128, .f32⟩
  | .hbm, ⟨69, _⟩ => ⟨S16384x512, .f32⟩
  | .hbm, ⟨70, _⟩ => ⟨S16384x512, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v18 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Merge.lean ====
abbrev S16384x2048 : Shape := ⟨2, ![16384, 2048]⟩
abbrev S16384x512 : Shape := ⟨2, ![16384, 512]⟩
abbrev S4x4x2048x2048 : Shape := ⟨4, ![4, 4, 2048, 2048]⟩
abbrev S4x4x512x2048 : Shape := ⟨4, ![4, 4, 512, 2048]⟩
abbrev S1024x2048 : Shape := ⟨2, ![1024, 2048]⟩
abbrev S1024x512 : Shape := ⟨2, ![1024, 512]⟩
abbrev S1x4x2048x256 : Shape := ⟨4, ![1, 4, 2048, 256]⟩
abbrev S1x4x512x256 : Shape := ⟨4, ![1, 4, 512, 256]⟩
abbrev S1024x256 : Shape := ⟨2, ![1024, 256]⟩
abbrev S1x1x2048x256 : Shape := ⟨4, ![1, 1, 2048, 256]⟩
abbrev S2048x256 : Shape := ⟨2, ![2048, 256]⟩
abbrev S1x1x512x256 : Shape := ⟨4, ![1, 1, 512, 256]⟩
abbrev S512x256 : Shape := ⟨2, ![512, 256]⟩

abbrev nBuf : Space → Nat
  | .hbm => 10
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S4x4x2048x2048, .f32⟩
  | .hbm, ⟨6, _⟩ => ⟨S4x4x512x2048, .f32⟩
  | .hbm, ⟨7, _⟩ => ⟨S4x4x2048x2048, .bf16⟩
  | .hbm, ⟨8, _⟩ => ⟨S4x4x512x2048, .bf16⟩
  | .hbm, ⟨9, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x4x2048x256, .bf16⟩
  | .local _ .vmem, ⟨11, _⟩ => ⟨S1x4x2048x256, .bf16⟩
  | .local _ .vmem, ⟨12, _⟩ => ⟨S1x4x512x256, .bf16⟩
  | .local _ .vmem, ⟨13, _⟩ => ⟨S1x4x512x256, .bf16⟩
  | .local _ .vmem, ⟨14, _⟩ => ⟨S1024x256, .bf16⟩
  | .local _ .vmem, ⟨15, _⟩ => ⟨S1024x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16384x2048 : Shape := ⟨2, ![16384, 2048]⟩
abbrev S16384x512 : Shape := ⟨2, ![16384, 512]⟩
abbrev S4x4x2048x2048 : Shape := ⟨4, ![4, 4, 2048, 2048]⟩
abbrev S4x4x512x2048 : Shape := ⟨4, ![4, 4, 512, 2048]⟩
abbrev S1x1x2048x2048 : Shape := ⟨4, ![1, 1, 2048, 2048]⟩
abbrev S2048x2048 : Shape := ⟨2, ![2048, 2048]⟩
abbrev S_ : Shape := ⟨0, ![]⟩
abbrev S1x1x512x2048 : Shape := ⟨4, ![1, 1, 512, 2048]⟩
abbrev S512x2048 : Shape := ⟨2, ![512, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S4x4x2048x2048, .f32⟩
  | .hbm, ⟨6, _⟩ => ⟨S4x4x512x2048, .f32⟩
  | .hbm, ⟨7, _⟩ => ⟨S16384x2048, .f32⟩
  | .hbm, ⟨8, _⟩ => ⟨S1x1x2048x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x512, .f32⟩
  | .hbm, ⟨20, _⟩ => ⟨S1x1x512x2048, .f32⟩
  | .hbm, ⟨21, _⟩ => ⟨S512x2048, .f32⟩
  | .hbm, ⟨22, _⟩ => ⟨S16384x2048, .f32⟩
  | .hbm, ⟨23, _⟩ => ⟨S16384x2048, .f32⟩
  | .hbm, ⟨24, _⟩ => ⟨S1x1x2048x2048, .f32⟩
  | .hbm, ⟨25, _⟩ => ⟨S2048x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x512, .f32⟩
  | .hbm, ⟨36, _⟩ => ⟨S1x1x512x2048, .f32⟩
  | .hbm, ⟨37, _⟩ => ⟨S512x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S1x1x2048x2048, .f32⟩
  | .hbm, ⟨42, _⟩ => ⟨S2048x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S16384x512, .f32⟩
  | .hbm, ⟨53, _⟩ => ⟨S1x1x512x2048, .f32⟩
  | .hbm, ⟨54, _⟩ => ⟨S512x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S1x1x2048x2048, .f32⟩
  | .hbm, ⟨59, _⟩ => ⟨S2048x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S16384x2048, .f32⟩
  | .hbm, ⟨65, _⟩ => ⟨S16384x2048, .f32⟩
  | .hbm, ⟨66, _⟩ => ⟨S_, .f32⟩
  | .hbm, ⟨67, _⟩ => ⟨S16384x2048, .f32⟩
  | .hbm, ⟨68, _⟩ => ⟨S16384x2048, .f32⟩
  | .hbm, ⟨69, _⟩ => ⟨S16384x512, .f32⟩
  | .hbm, ⟨70, _⟩ => ⟨S1x1x512x2048, .f32⟩
  | .hbm, ⟨71, _⟩ => ⟨S512x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== OutLn.lean ====
abbrev S16384x2048 : Shape := ⟨2, ![16384, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S1x1x2048 : Shape := ⟨3, ![1, 1, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S4x2048x2048, .f32⟩
  | .hbm, ⟨2, _⟩ => ⟨S16384x2048, .f32⟩
  | .hbm, ⟨3, _⟩ => ⟨S4x2048, .f32⟩
  | .hbm, ⟨4, _⟩ => ⟨S4x2048, .f32⟩
  | .hbm, ⟨5, _⟩ => ⟨S4x2048x2048, .bf16⟩
  | .hbm, ⟨6, _⟩ => ⟨S4x1x2048, .f32⟩
  | .hbm, ⟨7, _⟩ => ⟨S1x1x2048, .f32⟩
  | .hbm, ⟨8, _⟩ => ⟨S1x2048, .f32⟩
  | .hbm, ⟨9, _⟩ => ⟨S4x1x2048, .f32⟩
  | .hbm, ⟨10, _⟩ => ⟨S1x1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutLnRefIdeal.lean ====
abbrev S16384x2048 : Shape := ⟨2, ![16384, 2048]⟩
abbrev S4x2048x2048 : Shape := ⟨3, ![4, 2048, 2048]⟩
abbrev S4x2048 : Shape := ⟨2, ![4, 2048]⟩
abbrev S_ : Shape := ⟨0, ![]⟩
abbrev S1x2048x2048 : Shape := ⟨3, ![1, 2048, 2048]⟩
abbrev S2048x2048 : Shape := ⟨2, ![2048, 2048]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x2048, .f32⟩
  | .hbm, ⟨2, _⟩ => ⟨S16384x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S1x2048x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== InA.lean ====
abbrev S16384x2048 : Shape := ⟨2, ![16384, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S4x2048x2048, .bf16⟩
  | .hbm, ⟨2, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InARefIdeal.lean ====
abbrev S16384x2048 : Shape := ⟨2, ![16384, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x2048, .bf16⟩
  | .hbm, ⟨2, _⟩ => ⟨S16384x2048, .f32⟩
  | .hbm, ⟨3, _⟩ => ⟨S1x2048x2048, .bf16⟩
  | .hbm, ⟨4, _⟩ => ⟨S2048x2048, .bf16⟩
  | .hbm, ⟨5, _⟩ => ⟨S2048x2048, .f32⟩
  | .hbm, ⟨6, _⟩ => ⟨S16384x2048, .f32⟩
  | .hbm, ⟨7, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InB.lean ====
abbrev S16384x2048 : Shape := ⟨2, ![16384, 2048]⟩
abbrev S4x2048x4608 : Shape := ⟨3, ![4, 2048, 4608]⟩
abbrev S16384x4608 : Shape := ⟨2, ![16384, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S4x2048x4608, .bf16⟩
  | .hbm, ⟨2, _⟩ => ⟨S16384x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBRefIdeal.lean ====
abbrev S16384x2048 : Shape := ⟨2, ![16384, 2048]⟩
abbrev S4x2048x4608 : Shape := ⟨3, ![4, 2048, 4608]⟩
abbrev S1x2048x4608 : Shape := ⟨3, ![1, 2048, 4608]⟩
abbrev S2048x4608 : Shape := ⟨2, ![2048, 4608]⟩
abbrev S16384x4608 : Shape := ⟨2, ![16384, 4608]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x4608, .bf16⟩
  | .hbm, ⟨2, _⟩ => ⟨S16384x2048, .f32⟩
  | .hbm, ⟨3, _⟩ => ⟨S1x2048x4608, .bf16⟩
  | .hbm, ⟨4, _⟩ => ⟨S2048x4608, .bf16⟩
  | .hbm, ⟨5, _⟩ => ⟨S2048x4608, .f32⟩
  | .hbm, ⟨6, _⟩ => ⟨S16384x4608, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Uq.lean ====
abbrev S16384x4608 : Shape := ⟨2, ![16384, 4608]⟩
abbrev S4x384 : Shape := ⟨2, ![4, 384]⟩
abbrev S384x1536 : Shape := ⟨2, ![384, 1536]⟩
abbrev S4x1x384 : Shape := ⟨3, ![4, 1, 384]⟩
abbrev S1x1x384 : Shape := ⟨3, ![1, 1, 384]⟩
abbrev S1x384 : Shape := ⟨2, ![1, 384]⟩
abbrev S16384x1536 : Shape := ⟨2, ![16384, 1536]⟩
abbrev S512x512 : Shape := ⟨2, ![512, 512]⟩
abbrev S512x1536 : Shape := ⟨2, ![512, 1536]⟩
abbrev S512x384 : Shape := ⟨2, ![512, 384]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x4608, .f32⟩
  | .hbm, ⟨1, _⟩ => ⟨S4x384, .f32⟩
  | .hbm, ⟨2, _⟩ => ⟨S384x1536, .bf16⟩
  | .hbm, ⟨3, _⟩ => ⟨S4x1x384, .f32⟩
  | .hbm, ⟨4, _⟩ => ⟨S1x1x384, .f32⟩
  | .hbm, ⟨5, _⟩ => ⟨S1x384, .f32⟩
  | .hbm, ⟨6, _⟩ => ⟨S16384x1536, .bf16⟩
  | .local _ .vmem, ⟨0, _⟩ => ⟨S512x512, .f32⟩
  | .local _ .vmem, ⟨1, _⟩ => ⟨S512x512, .f32⟩
  | .local _ .vmem, ⟨2, _⟩ => ⟨S1x384, .f32⟩
  | .local _ .vmem, ⟨3, _⟩ => ⟨S384x1536, .bf16⟩
  | .local _ .vmem, ⟨4, _⟩ => ⟨S512x1536, .bf16⟩
  | .local _ .vmem, ⟨5, _⟩ => ⟨S512x1536, .bf16⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UqRefIdeal.lean ====
abbrev S16384x4608 : Shape := ⟨2, ![16384, 4608]⟩
abbrev S4x384 : Shape := ⟨2, ![4, 384]⟩
abbrev S384x1536 : Shape := ⟨2, ![384, 1536]⟩
abbrev S16384x384 : Shape := ⟨2, ![16384, 384]⟩
abbrev S_ : Shape := ⟨0, ![]⟩
abbrev S16384 : Shape := ⟨1, ![16384]⟩
abbrev S16384x1 : Shape := ⟨2, ![16384, 1]⟩
abbrev S1x384 : Shape := ⟨2, ![1, 384]⟩
abbrev S384 : Shape := ⟨1, ![384]⟩
abbrev S16384x1536 : Shape := ⟨2, ![16384, 1536]⟩

abbrev nBuf : Space → Nat
  | .hbm => 25
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S4x384, .f32⟩
  | .hbm, ⟨2, _⟩ => ⟨S384x1536, .bf16⟩
  | .hbm, ⟨3, _⟩ => ⟨S16384x384, .f32⟩
  | .hbm, ⟨4, _⟩ => ⟨S16384x384, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x384, .f32⟩
  | .hbm, ⟨16, _⟩ => ⟨S16384x384, .f32⟩
  | .hbm, ⟨17, _⟩ => ⟨S1x384, .f32⟩
  | .hbm, ⟨18, _⟩ => ⟨S384, .f32⟩
  | .hbm, ⟨19, _⟩ => ⟨S1x384, .f32⟩
  | .hbm, ⟨20, _⟩ => ⟨S16384x384, .f32⟩
  | .hbm, ⟨21, _⟩ => ⟨S16384x384, .f32⟩
  | .hbm, ⟨22, _⟩ => ⟨S384x1536, .f32⟩
  | .hbm, ⟨23, _⟩ => ⟨S16384x1536, .f32⟩
  | .hbm, ⟨24, _⟩ => ⟨S16384x1536, .bf16⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Ex.lean ====
abbrev S16384x2048 : Shape := ⟨2, ![16384, 2048]⟩
abbrev S40960 : Shape := ⟨1, ![40960]⟩
abbrev S160 : Shape := ⟨1, ![160]⟩
abbrev S1 : Shape := ⟨1, ![1]⟩
abbrev S4x32x2048x512 : Shape := ⟨4, ![4, 32, 2048, 512]⟩
abbrev S4x32x512x2048 : Shape := ⟨4, ![4, 32, 512, 2048]⟩
abbrev S160x1x256 : Shape := ⟨3, ![160, 1, 256]⟩
abbrev S40960x2048 : Shape := ⟨2, ![40960, 2048]⟩
abbrev S1x1x256 : Shape := ⟨3, ![1, 1, 256]⟩
abbrev S1x1x2048x512 : Shape := ⟨4, ![1, 1, 2048, 512]⟩
abbrev S1x1x512x2048 : Shape := ⟨4, ![1, 1, 512, 2048]⟩
abbrev S256x2048 : Shape := ⟨2, ![256, 2048]⟩
abbrev S3x256x2048 : Shape := ⟨3, ![3, 256, 2048]⟩
abbrev S2048x512 : Shape := ⟨2, ![2048, 512]⟩
abbrev S512x2048 : Shape := ⟨2, ![512, 2048]⟩
abbrev S3 : Shape := ⟨1, ![3]⟩
abbrev S1x1x1 : Shape := ⟨3, ![1, 1, 1]⟩
abbrev S_ : Shape := ⟨0, ![]⟩
abbrev S1x1x2048 : Shape := ⟨3, ![1, 1, 2048]⟩
abbrev S1x2048 : Shape := ⟨2, ![1, 2048]⟩
abbrev S1x256x2048 : Shape := ⟨3, ![1, 256, 2048]⟩
abbrev S256x512 : Shape := ⟨2, ![256, 512]⟩

abbrev nBuf : Space → Nat
  | .hbm => 7
  | .vmem => 12
  | .smem => 8
  | _ => 0

abbrev bufTy : (tb : Table) → Fin (tcTables nBuf tb) → BufTy
  | .hbm, ⟨0, _⟩ => ⟨S16384x2048, .f32⟩
  | .hbm, ⟨1, _⟩ => ⟨S40960, .i32⟩
  | .hbm, ⟨2, _⟩ => ⟨S4x32x2048x512, .f32⟩
  | .hbm, ⟨3, _⟩ => ⟨S4x32x2048x512, .f32⟩
  | .hbm, ⟨4, _⟩ => ⟨S4x32x512x2048, .f32⟩
  | .hbm, ⟨5, _⟩ => ⟨S160x1x256, .i32⟩
  | .hbm, ⟨6, _⟩ => ⟨S40960x2048, .f32⟩
  | .local _ .vmem, ⟨0, _⟩ => ⟨S1x1x2048x512, .f32⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x512x2048, .f32⟩
  | .local _ .vmem, ⟨5, _⟩ => ⟨S1x1x512x2048, .f32⟩
  | .local _ .vmem, ⟨6, _⟩ => ⟨S256x2048, .f32⟩
  | .local _ .vmem, ⟨7, _⟩ => ⟨S256x2048, .f32⟩
  | .local _ .vmem, ⟨8, _⟩ => ⟨S3x256x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .smem, ⟨0, _⟩ => ⟨S160, .i32⟩
  | .local _ .smem, ⟨1, _⟩ => ⟨S1, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | .local _ .smem, ⟨6, _⟩ => ⟨S1x1x256, .i32⟩
  | .local _ .smem, ⟨7, _⟩ => ⟨S1x1x256, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_arg2 : Ref sig .tc := ⟨.smem, 0, rfl⟩
abbrev main_arg3 : Ref sig .tc := ⟨.smem, 1, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_stg2_0 : Ref sig .tc := ⟨.smem, 6, rfl⟩
abbrev cc0_stg2_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) : BitVec 1 :=
  let arg0 : BitVec 32 := BitVec.ofNat 32 (i 0).val
  let c0_i32_2 : BitVec 32 := 0#32
  let v13 : BitVec 1 := Scalar.cmpi .eq arg0 c0_i32_2
  let v14 : BitVec 32 := Scalar.extui v13
  let c0_i32_3 : BitVec 32 := 0#32
  let v15 : BitVec 1 := Scalar.cmpi .ne v14 c0_i32_3
  v15

@[reducible] def k0_t1_loop : Scf.Loop 32 :=
  let c0_i32_7 : BitVec 32 := 0#32
  let c32_i32 : BitVec 32 := 32#32
  let v26 : BitVec 32 := Scalar.addi c0_i32_7 c32_i32
  let c1_i32_8 : BitVec 32 := 1#32
  ⟨c0_i32_7, v26, c1_i32_8⟩
def k0_off3 (k0_t1 : Fin k0_t1_loop.trips) : Fin 3 → Nat :=
  let c0_13 : Index := 0#32
  let c0_14 : Index := 0#32
  let c0_i32_7 : BitVec 32 := 0#32
  let c1_i32_8 : BitVec 32 := 1#32
  let arg16 : BitVec 32 := Scf.iv c0_i32_7 c1_i32_8 k0_t1
  let c8_i32 : BitVec 32 := 8#32
  let v30 : BitVec 32 := Scalar.muli arg16 c8_i32
  let c0_i32_12 : BitVec 32 := 0#32
  let v31 : BitVec 32 := Scalar.addi v30 c0_i32_12
  let v32 : Index := Scalar.indexCast v31
  ![0, 0, v32.toNat]
def k0_off4 (k0_t1 : Fin k0_t1_loop.trips) : Fin 3 → Nat :=
  let c0_i32_15 : BitVec 32 := 0#32
  let c0_i32_7 : BitVec 32 := 0#32
  let c1_i32_8 : BitVec 32 := 1#32
  let arg16 : BitVec 32 := Scf.iv c0_i32_7 c1_i32_8 k0_t1
  let c8_i32 : BitVec 32 := 8#32
  let v30 : BitVec 32 := Scalar.muli arg16 c8_i32
  let c0_i32_12 : BitVec 32 := 0#32
  let v31 : BitVec 32 := Scalar.addi v30 c0_i32_12
  let c0_i32_17 : BitVec 32 := 0#32
  ![0, v31.toNat, 0]
def k0_off5 (v33 : BitVec 32) : Fin 2 → Nat :=
  let c0_i32_18 : BitVec 32 := 0#32
  ![v33.toNat, 0]

def k0_chk1 (i : grid0.Coords) (v33 : BitVec 32) : Prop :=
  (∀ (k0_h2 : k0_cond2 i = 1#1), ∀ a, (k0_off5 v33) a + S1x2048.size a ≤ S16384x2048.size a)
theorem k0_off5_inb : ∀ (i : grid0.Coords) (v33 : BitVec 32) (k0_hw1 : k0_chk1 i v33), ∀ (k0_h2 : k0_cond2 i = 1#1), ∀ a, (k0_off5 v33) a + S1x2048.size a ≤ S16384x2048.size a := fun i v33 k0_hw1 k0_h2 => k0_hw1 k0_h2

def k0_off6 (k0_t1 : Fin k0_t1_loop.trips) : Fin 3 → Nat :=
  let c0_21 : Index := 0#32
  let c0_22 : Index := 0#32
  let c0_i32_7 : BitVec 32 := 0#32
  let c1_i32_8 : BitVec 32 := 1#32
  let arg16 : BitVec 32 := Scf.iv c0_i32_7 c1_i32_8 k0_t1
  let c8_i32_19 : BitVec 32 := 8#32
  let v39 : BitVec 32 := Scalar.muli arg16 c8_i32_19
  let c1_i32_20 : BitVec 32 := 1#32
  let v40 : BitVec 32 := Scalar.addi v39 c1_i32_20
  let v41 : Index := Scalar.indexCast v40
  ![0, 0, v41.toNat]
def k0_off7 (k0_t1 : Fin k0_t1_loop.trips) : Fin 3 → Nat :=
  let c0_i32_23 : BitVec 32 := 0#32
  let c0_i32_7 : BitVec 32 := 0#32
  let c1_i32_8 : BitVec 32 := 1#32
  let arg16 : BitVec 32 := Scf.iv c0_i32_7 c1_i32_8 k0_t1
  let c8_i32_19 : BitVec 32 := 8#32
  let v39 : BitVec 32 := Scalar.muli arg16 c8_i32_19
  let c1_i32_20 : BitVec 32 := 1#32
  let v40 : BitVec 32 := Scalar.addi v39 c1_i32_20
  let c0_i32_25 : BitVec 32 := 0#32
  ![0, v40.toNat, 0]
def k0_off8 (v42 : BitVec 32) : Fin 2 → Nat :=
  let c0_i32_26 : BitVec 32 := 0#32
  ![v42.toNat, 0]

def k0_chk2 (i : grid0.Coords) (v42 : BitVec 32) : Prop :=
  (∀ (k0_h2 : k0_cond2 i = 1#1), ∀ a, (k0_off8 v42) a + S1x2048.size a ≤ S16384x2048.size a)
theorem k0_off8_inb : ∀ (i : grid0.Coords) (v42 : BitVec 32) (k0_hw2 : k0_chk2 i v42), ∀ (k0_h2 : k0_cond2 i = 1#1), ∀ a, (k0_off8 v42) a + S1x2048.size a ≤ S16384x2048.size a := fun i v42 k0_hw2 k0_h2 => k0_hw2 k0_h2

def k0_off9 (k0_t1 : Fin k0_t1_loop.trips) : Fin 3 → Nat :=
  let c0_29 : Index := 0#32
  let c0_30 : Index := 0#32
  let c0_i32_7 : BitVec 32 := 0#32
  let c1_i32_8 : BitVec 32 := 1#32
  let arg16 : BitVec 32 := Scf.iv c0_i32_7 c1_i32_8 k0_t1
  let c8_i32_27 : BitVec 32 := 8#32
  let v48 : BitVec 32 := Scalar.muli arg16 c8_i32_27
  let c2_i32_28 : BitVec 32 := 2#32
  let v49 : BitVec 32 := Scalar.addi v48 c2_i32_28
  let v50 : Index := Scalar.indexCast v49
  ![0, 0, v50.toNat]
def k0_off10 (k0_t1 : Fin k0_t1_loop.trips) : Fin 3 → Nat :=
  let c0_i32_31 : BitVec 32 := 0#32
  let c0_i32_7 : BitVec 32 := 0#32
  let c1_i32_8 : BitVec 32 := 1#32
  let arg16 : BitVec 32 := Scf.iv c0_i32_7 c1_i32_8 k0_t1
  let c8_i32_27 : BitVec 32 := 8#32
  let v48 : BitVec 32 := Scalar.muli arg16 c8_i32_27
  let c2_i32_28 : BitVec 32 := 2#32
  let v49 : BitVec 32 := Scalar.addi v48 c2_i32_28
  let c0_i32_33 : BitVec 32 := 0#32
  ![0, v49.toNat, 0]
def k0_off11 (v51 : BitVec 32) : Fin 2 → Nat :=
  let c0_i32_34 : BitVec 32 := 0#32
  ![v51.toNat, 0]

def k0_chk3 (i : grid0.Coords) (v51 : BitVec 32) : Prop :=
  (∀ (k0_h2 : k0_cond2 i = 1#1), ∀ a, (k0_off11 v51) a + S1x2048.size a ≤ S16384x2048.size a)
theorem k0_off11_inb : ∀ (i : grid0.Coords) (v51 : BitVec 32) (k0_hw3 : k0_chk3 i v51), ∀ (k0_h2 : k0_cond2 i = 1#1), ∀ a, (k0_off11 v51) a + S1x2048.size a ≤ S16384x2048.size a := fun i v51 k0_hw3 k0_h2 => k0_hw3 k0_h2

def k0_off12 (k0_t1 : Fin k0_t1_loop.trips) : Fin 3 → Nat :=
  let c0_37 : Index := 0#32
  let c0_38 : Index := 0#32
  let c0_i32_7 : BitVec 32 := 0#32
  let c1_i32_8 : BitVec 32 := 1#32
  let arg16 : BitVec 32 := Scf.iv c0_i32_7 c1_i32_8 k0_t1
  let c8_i32_35 : BitVec 32 := 8#32
  let v57 : BitVec 32 := Scalar.muli arg16 c8_i32_35
  let c3_i32_36 : BitVec 32 := 3#32
  let v58 : BitVec 32 := Scalar.addi v57 c3_i32_36
  let v59 : Index := Scalar.indexCast v58
  ![0, 0, v59.toNat]
def k0_off13 (k0_t1 : Fin k0_t1_loop.trips) : Fin 3 → Nat :=
  let c0_i32_39 : BitVec 32 := 0#32
  let c0_i32_7 : BitVec 32 := 0#32
  let c1_i32_8 : BitVec 32 := 1#32
  let arg16 : BitVec 32 := Scf.iv c0_i32_7 c1_i32_8 k0_t1
  let c8_i32_35 : BitVec 32 := 8#32
  let v57 : BitVec 32 := Scalar.muli arg16 c8_i32_35
  let c3_i32_36 : BitVec 32 := 3#32
  let v58 : BitVec 32 := Scalar.addi v57 c3_i32_36
  let c0_i32_41 : BitVec 32 := 0#32
  ![0, v58.toNat, 0]
def k0_off14 (v60 : BitVec 32) : Fin 2 → Nat :=
  let c0_i32_42 : BitVec 32 := 0#32
  ![v60.toNat, 0]

def k0_chk4 (i : grid0.Coords) (v60 : BitVec 32) : Prop :=
  (∀ (k0_h2 : k0_cond2 i = 1#1), ∀ a, (k0_off14 v60) a + S1x2048.size a ≤ S16384x2048.size a)
theorem k0_off14_inb : ∀ (i : grid0.Coords) (v60 : BitVec 32) (k0_hw4 : k0_chk4 i v60), ∀ (k0_h2 : k0_cond2 i = 1#1), ∀ a, (k0_off14 v60) a + S1x2048.size a ≤ S16384x2048.size a := fun i v60 k0_hw4 k0_h2 => k0_hw4 k0_h2

def k0_off15 (k0_t1 : Fin k0_t1_loop.trips) : Fin 3 → Nat :=
  let c0_44 : Index := 0#32
  let c0_45 : Index := 0#32
  let c0_i32_7 : BitVec 32 := 0#32
  let c1_i32_8 : BitVec 32 := 1#32
  let arg16 : BitVec 32 := Scf.iv c0_i32_7 c1_i32_8 k0_t1
  let c8_i32_43 : BitVec 32 := 8#32
  let v66 : BitVec 32 := Scalar.muli arg16 c8_i32_43
  let c4_i32 : BitVec 32 := 4#32
  let v67 : BitVec 32 := Scalar.addi v66 c4_i32
  let v68 : Index := Scalar.indexCast v67
  ![0, 0, v68.toNat]
def k0_off16 (k0_t1 : Fin k0_t1_loop.trips) : Fin 3 → Nat :=
  let c0_i32_46 : BitVec 32 := 0#32
  let c0_i32_7 : BitVec 32 := 0#32
  let c1_i32_8 : BitVec 32 := 1#32
  let arg16 : BitVec 32 := Scf.iv c0_i32_7 c1_i32_8 k0_t1
  let c8_i32_43 : BitVec 32 := 8#32
  let v66 : BitVec 32 := Scalar.muli arg16 c8_i32_43
  let c4_i32 : BitVec 32 := 4#32
  let v67 : BitVec 32 := Scalar.addi v66 c4_i32
  let c0_i32_48 : BitVec 32 := 0#32
  ![0, v67.toNat, 0]
def k0_off17 (v69 : BitVec 32) : Fin 2 → Nat :=
  let c0_i32_49 : BitVec 32 := 0#32
  ![v69.toNat, 0]

def k0_chk5 (i : grid0.Coords) (v69 : BitVec 32) : Prop :=
  (∀ (k0_h2 : k0_cond2 i = 1#1), ∀ a, (k0_off17 v69) a + S1x2048.size a ≤ S16384x2048.size a)
theorem k0_off17_inb : ∀ (i : grid0.Coords) (v69 : BitVec 32) (k0_hw5 : k0_chk5 i v69), ∀ (k0_h2 : k0_cond2 i = 1#1), ∀ a, (k0_off17 v69) a + S1x2048.size a ≤ S16384x2048.size a := fun i v69 k0_hw5 k0_h2 => k0_hw5 k0_h2

def k0_off18 (k0_t1 : Fin k0_t1_loop.trips) : Fin 3 → Nat :=
  let c0_51 : Index := 0#32
  let c0_52 : Index := 0#32
  let c0_i32_7 : BitVec 32 := 0#32
  let c1_i32_8 : BitVec 32 := 1#32
  let arg16 : BitVec 32 := Scf.iv c0_i32_7 c1_i32_8 k0_t1
  let c8_i32_50 : BitVec 32 := 8#32
  let v75 : BitVec 32 := Scalar.muli arg16 c8_i32_50
  let c5_i32 : BitVec 32 := 5#32
  let v76 : BitVec 32 := Scalar.addi v75 c5_i32
  let v77 : Index := Scalar.indexCast v76
  ![0, 0, v77.toNat]
def k0_off19 (k0_t1 : Fin k0_t1_loop.trips) : Fin 3 → Nat :=
  let c0_i32_53 : BitVec 32 := 0#32
  let c0_i32_7 : BitVec 32 := 0#32
  let c1_i32_8 : BitVec 32 := 1#32
  let arg16 : BitVec 32 := Scf.iv c0_i32_7 c1_i32_8 k0_t1
  let c8_i32_50 : BitVec 32 := 8#32
  let v75 : BitVec 32 := Scalar.muli arg16 c8_i32_50
  let c5_i32 : BitVec 32 := 5#32
  let v76 : BitVec 32 := Scalar.addi v75 c5_i32
  let c0_i32_55 : BitVec 32 := 0#32
  ![0, v76.toNat, 0]
def k0_off20 (v78 : BitVec 32) : Fin 2 → Nat :=
  let c0_i32_56 : BitVec 32 := 0#32
  ![v78.toNat, 0]

def k0_chk6 (i : grid0.Coords) (v78 : BitVec 32) : Prop :=
  (∀ (k0_h2 : k0_cond2 i = 1#1), ∀ a, (k0_off20 v78) a + S1x2048.size a ≤ S16384x2048.size a)
theorem k0_off20_inb : ∀ (i : grid0.Coords) (v78 : BitVec 32) (k0_hw6 : k0_chk6 i v78), ∀ (k0_h2 : k0_cond2 i = 1#1), ∀ a, (k0_off20 v78) a + S1x2048.size a ≤ S16384x2048.size a := fun i v78 k0_hw6 k0_h2 => k0_hw6 k0_h2

def k0_off21 (k0_t1 : Fin k0_t1_loop.trips) : Fin 3 → Nat :=
  let c0_58 : Index := 0#32
  let c0_59 : Index := 0#32
  let c0_i32_7 : BitVec 32 := 0#32
  let c1_i32_8 : BitVec 32 := 1#32
  let arg16 : BitVec 32 := Scf.iv c0_i32_7 c1_i32_8 k0_t1
  let c8_i32_57 : BitVec 32 := 8#32
  let v84 : BitVec 32 := Scalar.muli arg16 c8_i32_57
  let c6_i32 : BitVec 32 := 6#32
  let v85 : BitVec 32 := Scalar.addi v84 c6_i32
  let v86 : Index := Scalar.indexCast v85
  ![0, 0, v86.toNat]
def k0_off22 (k0_t1 : Fin k0_t1_loop.trips) : Fin 3 → Nat :=
  let c0_i32_60 : BitVec 32 := 0#32
  let c0_i32_7 : BitVec 32 := 0#32
  let c1_i32_8 : BitVec 32 := 1#32
  let arg16 : BitVec 32 := Scf.iv c0_i32_7 c1_i32_8 k0_t1
  let c8_i32_57 : BitVec 32 := 8#32
  let v84 : BitVec 32 := Scalar.muli arg16 c8_i32_57
  let c6_i32 : BitVec 32 := 6#32
  let v85 : BitVec 32 := Scalar.addi v84 c6_i32
  let c0_i32_62 : BitVec 32 := 0#32
  ![0, v85.toNat, 0]
def k0_off23 (v87 : BitVec 32) : Fin 2 → Nat :=
  let c0_i32_63 : BitVec 32 := 0#32
  ![v87.toNat, 0]

def k0_chk7 (i : grid0.Coords) (v87 : BitVec 32) : Prop :=
  (∀ (k0_h2 : k0_cond2 i = 1#1), ∀ a, (k0_off23 v87) a + S1x2048.size a ≤ S16384x2048.size a)
theorem k0_off23_inb : ∀ (i : grid0.Coords) (v87 : BitVec 32) (k0_hw7 : k0_chk7 i v87), ∀ (k0_h2 : k0_cond2 i = 1#1), ∀ a, (k0_off23 v87) a + S1x2048.size a ≤ S16384x2048.size a := fun i v87 k0_hw7 k0_h2 => k0_hw7 k0_h2

def k0_off24 (k0_t1 : Fin k0_t1_loop.trips) : Fin 3 → Nat :=
  let c0_65 : Index := 0#32
  let c0_66 : Index := 0#32
  let c0_i32_7 : BitVec 32 := 0#32
  let c1_i32_8 : BitVec 32 := 1#32
  let arg16 : BitVec 32 := Scf.iv c0_i32_7 c1_i32_8 k0_t1
  let c8_i32_64 : BitVec 32 := 8#32
  let v93 : BitVec 32 := Scalar.muli arg16 c8_i32_64
  let c7_i32 : BitVec 32 := 7#32
  let v94 : BitVec 32 := Scalar.addi v93 c7_i32
  let v95 : Index := Scalar.indexCast v94
  ![0, 0, v95.toNat]
def k0_off25 (k0_t1 : Fin k0_t1_loop.trips) : Fin 3 → Nat :=
  let c0_i32_67 : BitVec 32 := 0#32
  let c0_i32_7 : BitVec 32 := 0#32
  let c1_i32_8 : BitVec 32 := 1#32
  let arg16 : BitVec 32 := Scf.iv c0_i32_7 c1_i32_8 k0_t1
  let c8_i32_64 : BitVec 32 := 8#32
  let v93 : BitVec 32 := Scalar.muli arg16 c8_i32_64
  let c7_i32 : BitVec 32 := 7#32
  let v94 : BitVec 32 := Scalar.addi v93 c7_i32
  let c0_i32_69 : BitVec 32 := 0#32
  ![0, v94.toNat, 0]
def k0_off26 (v96 : BitVec 32) : Fin 2 → Nat :=
  let c0_i32_70 : BitVec 32 := 0#32
  ![v96.toNat, 0]

def k0_chk8 (i : grid0.Coords) (v96 : BitVec 32) : Prop :=
  (∀ (k0_h2 : k0_cond2 i = 1#1), ∀ a, (k0_off26 v96) a + S1x2048.size a ≤ S16384x2048.size a)
theorem k0_off26_inb : ∀ (i : grid0.Coords) (v96 : BitVec 32) (k0_hw8 : k0_chk8 i v96), ∀ (k0_h2 : k0_cond2 i = 1#1), ∀ a, (k0_off26 v96) a + S1x2048.size a ≤ S16384x2048.size a := fun i v96 k0_hw8 k0_h2 => k0_hw8 k0_h2

@[reducible] def k0_t2_loop : Scf.Loop 32 :=
  let c0_i32_12 : BitVec 32 := 0#32
  let c32_i32_13 : BitVec 32 := 32#32
  let v30 : BitVec 32 := Scalar.addi c0_i32_12 c32_i32_13
  let c1_i32_14 : BitVec 32 := 1#32
  ⟨c0_i32_12, v30, c1_i32_14⟩
def k0_off27 (k0_t2 : Fin k0_t2_loop.trips) : Fin 3 → Nat :=
  let c0_17 : Index := 0#32
  let c0_18 : Index := 0#32
  let c0_i32_12 : BitVec 32 := 0#32
  let c1_i32_14 : BitVec 32 := 1#32
  let arg16 : BitVec 32 := Scf.iv c0_i32_12 c1_i32_14 k0_t2
  let c8_i32 : BitVec 32 := 8#32
  let v31 : BitVec 32 := Scalar.muli arg16 c8_i32
  let c0_i32_16 : BitVec 32 := 0#32
  let v32 : BitVec 32 := Scalar.addi v31 c0_i32_16
  let v33 : Index := Scalar.indexCast v32
  ![0, 0, v33.toNat]
def k0_off28 (k0_t2 : Fin k0_t2_loop.trips) : Fin 3 → Nat :=
  let c1_i32_19 : BitVec 32 := 1#32
  let c0_i32_12 : BitVec 32 := 0#32
  let c1_i32_14 : BitVec 32 := 1#32
  let arg16 : BitVec 32 := Scf.iv c0_i32_12 c1_i32_14 k0_t2
  let c8_i32 : BitVec 32 := 8#32
  let v31 : BitVec 32 := Scalar.muli arg16 c8_i32
  let c0_i32_16 : BitVec 32 := 0#32
  let v32 : BitVec 32 := Scalar.addi v31 c0_i32_16
  let c0_i32_21 : BitVec 32 := 0#32
  ![1, v32.toNat, 0]
def k0_off29 (v34 : BitVec 32) : Fin 2 → Nat :=
  let c0_i32_22 : BitVec 32 := 0#32
  ![v34.toNat, 0]
def k0_cond3 (v0 : BitVec 32) : BitVec 1 :=
  let c1_i32_10 : BitVec 32 := 1#32
  let v27 : BitVec 1 := Scalar.cmpi .sgt v0 c1_i32_10
  let v28 : BitVec 32 := Scalar.extui v27
  let c0_i32_11 : BitVec 32 := 0#32
  let v29 : BitVec 1 := Scalar.cmpi .ne v28 c0_i32_11
  v29

def k0_chk9 (i : grid0.Coords) (v0 : BitVec 32) (v34 : BitVec 32) : Prop :=
  (∀ (k0_h2 : k0_cond2 i = 1#1), ∀ (k0_h3 : k0_cond3 v0 = 1#1), ∀ a, (k0_off29 v34) a + S1x2048.size a ≤ S16384x2048.size a)
theorem k0_off29_inb : ∀ (i : grid0.Coords) (v0 : BitVec 32) (v34 : BitVec 32) (k0_hw9 : k0_chk9 i v0 v34), ∀ (k0_h2 : k0_cond2 i = 1#1), ∀ (k0_h3 : k0_cond3 v0 = 1#1), ∀ a, (k0_off29 v34) a + S1x2048.size a ≤ S16384x2048.size a := fun i v0 v34 k0_hw9 k0_h2 k0_h3 => k0_hw9 k0_h2 k0_h3

def k0_off30 (k0_t2 : Fin k0_t2_loop.trips) : Fin 3 → Nat :=
  let c0_25 : Index := 0#32
  let c0_26 : Index := 0#32
  let c0_i32_12 : BitVec 32 := 0#32
  let c1_i32_14 : BitVec 32 := 1#32
  let arg16 : BitVec 32 := Scf.iv c0_i32_12 c1_i32_14 k0_t2
  let c8_i32_23 : BitVec 32 := 8#32
  let v40 : BitVec 32 := Scalar.muli arg16 c8_i32_23
  let c1_i32_24 : BitVec 32 := 1#32
  let v41 : BitVec 32 := Scalar.addi v40 c1_i32_24
  let v42 : Index := Scalar.indexCast v41
  ![0, 0, v42.toNat]
def k0_off31 (k0_t2 : Fin k0_t2_loop.trips) : Fin 3 → Nat :=
  let c1_i32_27 : BitVec 32 := 1#32
  let c0_i32_12 : BitVec 32 := 0#32
  let c1_i32_14 : BitVec 32 := 1#32
  let arg16 : BitVec 32 := Scf.iv c0_i32_12 c1_i32_14 k0_t2
  let c8_i32_23 : BitVec 32 := 8#32
  let v40 : BitVec 32 := Scalar.muli arg16 c8_i32_23
  let c1_i32_24 : BitVec 32 := 1#32
  let v41 : BitVec 32 := Scalar.addi v40 c1_i32_24
  let c0_i32_29 : BitVec 32 := 0#32
  ![1, v41.toNat, 0]
def k0_off32 (v43 : BitVec 32) : Fin 2 → Nat :=
  let c0_i32_30 : BitVec 32 := 0#32
  ![v43.toNat, 0]

def k0_chk10 (i : grid0.Coords) (v0 : BitVec 32) (v43 : BitVec 32) : Prop :=
  (∀ (k0_h2 : k0_cond2 i = 1#1), ∀ (k0_h3 : k0_cond3 v0 = 1#1), ∀ a, (k0_off32 v43) a + S1x2048.size a ≤ S16384x2048.size a)
theorem k0_off32_inb : ∀ (i : grid0.Coords) (v0 : BitVec 32) (v43 : BitVec 32) (k0_hw10 : k0_chk10 i v0 v43), ∀ (k0_h2 : k0_cond2 i = 1#1), ∀ (k0_h3 : k0_cond3 v0 = 1#1), ∀ a, (k0_off32 v43) a + S1x2048.size a ≤ S16384x2048.size a := fun i v0 v43 k0_hw10 k0_h2 k0_h3 => k0_hw10 k0_h2 k0_h3

def k0_off33 (k0_t2 : Fin k0_t2_loop.trips) : Fin 3 → Nat :=
  let c0_33 : Index := 0#32
  let c0_34 : Index := 0#32
  let c0_i32_12 : BitVec 32 := 0#32
  let c1_i32_14 : BitVec 32 := 1#32
  let arg16 : BitVec 32 := Scf.iv c0_i32_12 c1_i32_14 k0_t2
  let c8_i32_31 : BitVec 32 := 8#32
  let v49 : BitVec 32 := Scalar.muli arg16 c8_i32_31
  let c2_i32_32 : BitVec 32 := 2#32
  let v50 : BitVec 32 := Scalar.addi v49 c2_i32_32
  let v51 : Index := Scalar.indexCast v50
  ![0, 0, v51.toNat]
def k0_off34 (k0_t2 : Fin k0_t2_loop.trips) : Fin 3 → Nat :=
  let c1_i32_35 : BitVec 32 := 1#32
  let c0_i32_12 : BitVec 32 := 0#32
  let c1_i32_14 : BitVec 32 := 1#32
  let arg16 : BitVec 32 := Scf.iv c0_i32_12 c1_i32_14 k0_t2
  let c8_i32_31 : BitVec 32 := 8#32
  let v49 : BitVec 32 := Scalar.muli arg16 c8_i32_31
  let c2_i32_32 : BitVec 32 := 2#32
  let v50 : BitVec 32 := Scalar.addi v49 c2_i32_32
  let c0_i32_37 : BitVec 32 := 0#32
  ![1, v50.toNat, 0]
def k0_off35 (v52 : BitVec 32) : Fin 2 → Nat :=
  let c0_i32_38 : BitVec 32 := 0#32
  ![v52.toNat, 0]

def k0_chk11 (i : grid0.Coords) (v0 : BitVec 32) (v52 : BitVec 32) : Prop :=
  (∀ (k0_h2 : k0_cond2 i = 1#1), ∀ (k0_h3 : k0_cond3 v0 = 1#1), ∀ a, (k0_off35 v52) a + S1x2048.size a ≤ S16384x2048.size a)
theorem k0_off35_inb : ∀ (i : grid0.Coords) (v0 : BitVec 32) (v52 : BitVec 32) (k0_hw11 : k0_chk11 i v0 v52), ∀ (k0_h2 : k0_cond2 i = 1#1), ∀ (k0_h3 : k0_cond3 v0 = 1#1), ∀ a, (k0_off35 v52) a + S1x2048.size a ≤ S16384x2048.size a := fun i v0 v52 k0_hw11 k0_h2 k0_h3 => k0_hw11 k0_h2 k0_h3

def k0_off36 (k0_t2 : Fin k0_t2_loop.trips) : Fin 3 → Nat :=
  let c0_41 : Index := 0#32
  let c0_42 : Index := 0#32
  let c0_i32_12 : BitVec 32 := 0#32
  let c1_i32_14 : BitVec 32 := 1#32
  let arg16 : BitVec 32 := Scf.iv c0_i32_12 c1_i32_14 k0_t2
  let c8_i32_39 : BitVec 32 := 8#32
  let v58 : BitVec 32 := Scalar.muli arg16 c8_i32_39
  let c3_i32_40 : BitVec 32 := 3#32
  let v59 : BitVec 32 := Scalar.addi v58 c3_i32_40
  let v60 : Index := Scalar.indexCast v59
  ![0, 0, v60.toNat]
def k0_off37 (k0_t2 : Fin k0_t2_loop.trips) : Fin 3 → Nat :=
  let c1_i32_43 : BitVec 32 := 1#32
  let c0_i32_12 : BitVec 32 := 0#32
  let c1_i32_14 : BitVec 32 := 1#32
  let arg16 : BitVec 32 := Scf.iv c0_i32_12 c1_i32_14 k0_t2
  let c8_i32_39 : BitVec 32 := 8#32
  let v58 : BitVec 32 := Scalar.muli arg16 c8_i32_39
  let c3_i32_40 : BitVec 32 := 3#32
  let v59 : BitVec 32 := Scalar.addi v58 c3_i32_40
  let c0_i32_45 : BitVec 32 := 0#32
  ![1, v59.toNat, 0]
def k0_off38 (v61 : BitVec 32) : Fin 2 → Nat :=
  let c0_i32_46 : BitVec 32 := 0#32
  ![v61.toNat, 0]

def k0_chk12 (i : grid0.Coords) (v0 : BitVec 32) (v61 : BitVec 32) : Prop :=
  (∀ (k0_h2 : k0_cond2 i = 1#1), ∀ (k0_h3 : k0_cond3 v0 = 1#1), ∀ a, (k0_off38 v61) a + S1x2048.size a ≤ S16384x2048.size a)
theorem k0_off38_inb : ∀ (i : grid0.Coords) (v0 : BitVec 32) (v61 : BitVec 32) (k0_hw12 : k0_chk12 i v0 v61), ∀ (k0_h2 : k0_cond2 i = 1#1), ∀ (k0_h3 : k0_cond3 v0 = 1#1), ∀ a, (k0_off38 v61) a + S1x2048.size a ≤ S16384x2048.size a := fun i v0 v61 k0_hw12 k0_h2 k0_h3 => k0_hw12 k0_h2 k0_h3

def k0_off39 (k0_t2 : Fin k0_t2_loop.trips) : Fin 3 → Nat :=
  let c0_48 : Index := 0#32
  let c0_49 : Index := 0#32
  let c0_i32_12 : BitVec 32 := 0#32
  let c1_i32_14 : BitVec 32 := 1#32
  let arg16 : BitVec 32 := Scf.iv c0_i32_12 c1_i32_14 k0_t2
  let c8_i32_47 : BitVec 32 := 8#32
  let v67 : BitVec 32 := Scalar.muli arg16 c8_i32_47
  let c4_i32 : BitVec 32 := 4#32
  let v68 : BitVec 32 := Scalar.addi v67 c4_i32
  let v69 : Index := Scalar.indexCast v68
  ![0, 0, v69.toNat]
def k0_off40 (k0_t2 : Fin k0_t2_loop.trips) : Fin 3 → Nat :=
  let c1_i32_50 : BitVec 32 := 1#32
  let c0_i32_12 : BitVec 32 := 0#32
  let c1_i32_14 : BitVec 32 := 1#32
  let arg16 : BitVec 32 := Scf.iv c0_i32_12 c1_i32_14 k0_t2
  let c8_i32_47 : BitVec 32 := 8#32
  let v67 : BitVec 32 := Scalar.muli arg16 c8_i32_47
  let c4_i32 : BitVec 32 := 4#32
  let v68 : BitVec 32 := Scalar.addi v67 c4_i32
  let c0_i32_52 : BitVec 32 := 0#32
  ![1, v68.toNat, 0]
def k0_off41 (v70 : BitVec 32) : Fin 2 → Nat :=
  let c0_i32_53 : BitVec 32 := 0#32
  ![v70.toNat, 0]

def k0_chk13 (i : grid0.Coords) (v0 : BitVec 32) (v70 : BitVec 32) : Prop :=
  (∀ (k0_h2 : k0_cond2 i = 1#1), ∀ (k0_h3 : k0_cond3 v0 = 1#1), ∀ a, (k0_off41 v70) a + S1x2048.size a ≤ S16384x2048.size a)
theorem k0_off41_inb : ∀ (i : grid0.Coords) (v0 : BitVec 32) (v70 : BitVec 32) (k0_hw13 : k0_chk13 i v0 v70), ∀ (k0_h2 : k0_cond2 i = 1#1), ∀ (k0_h3 : k0_cond3 v0 = 1#1), ∀ a, (k0_off41 v70) a + S1x2048.size a ≤ S16384x2048.size a := fun i v0 v70 k0_hw13 k0_h2 k0_h3 => k0_hw13 k0_h2 k0_h3

def k0_off42 (k0_t2 : Fin k0_t2_loop.trips) : Fin 3 → Nat :=
  let c0_55 : Index := 0#32
  let c0_56 : Index := 0#32
  let c0_i32_12 : BitVec 32 := 0#32
  let c1_i32_14 : BitVec 32 := 1#32
  let arg16 : BitVec 32 := Scf.iv c0_i32_12 c1_i32_14 k0_t2
  let c8_i32_54 : BitVec 32 := 8#32
  let v76 : BitVec 32 := Scalar.muli arg16 c8_i32_54
  let c5_i32 : BitVec 32 := 5#32
  let v77 : BitVec 32 := Scalar.addi v76 c5_i32
  let v78 : Index := Scalar.indexCast v77
  ![0, 0, v78.toNat]
def k0_off43 (k0_t2 : Fin k0_t2_loop.trips) : Fin 3 → Nat :=
  let c1_i32_57 : BitVec 32 := 1#32
  let c0_i32_12 : BitVec 32 := 0#32
  let c1_i32_14 : BitVec 32 := 1#32
  let arg16 : BitVec 32 := Scf.iv c0_i32_12 c1_i32_14 k0_t2
  let c8_i32_54 : BitVec 32 := 8#32
  let v76 : BitVec 32 := Scalar.muli arg16 c8_i32_54
  let c5_i32 : BitVec 32 := 5#32
  let v77 : BitVec 32 := Scalar.addi v76 c5_i32
  let c0_i32_59 : BitVec 32 := 0#32
  ![1, v77.toNat, 0]
def k0_off44 (v79 : BitVec 32) : Fin 2 → Nat :=
  let c0_i32_60 : BitVec 32 := 0#32
  ![v79.toNat, 0]

def k0_chk14 (i : grid0.Coords) (v0 : BitVec 32) (v79 : BitVec 32) : Prop :=
  (∀ (k0_h2 : k0_cond2 i = 1#1), ∀ (k0_h3 : k0_cond3 v0 = 1#1), ∀ a, (k0_off44 v79) a + S1x2048.size a ≤ S16384x2048.size a)
theorem k0_off44_inb : ∀ (i : grid0.Coords) (v0 : BitVec 32) (v79 : BitVec 32) (k0_hw14 : k0_chk14 i v0 v79), ∀ (k0_h2 : k0_cond2 i = 1#1), ∀ (k0_h3 : k0_cond3 v0 = 1#1), ∀ a, (k0_off44 v79) a + S1x2048.size a ≤ S16384x2048.size a := fun i v0 v79 k0_hw14 k0_h2 k0_h3 => k0_hw14 k0_h2 k0_h3

def k0_off45 (k0_t2 : Fin k0_t2_loop.trips) : Fin 3 → Nat :=
  let c0_62 : Index := 0#32
  let c0_63 : Index := 0#32
  let c0_i32_12 : BitVec 32 := 0#32
  let c1_i32_14 : BitVec 32 := 1#32
  let arg16 : BitVec 32 := Scf.iv c0_i32_12 c1_i32_14 k0_t2
  let c8_i32_61 : BitVec 32 := 8#32
  let v85 : BitVec 32 := Scalar.muli arg16 c8_i32_61
  let c6_i32 : BitVec 32 := 6#32
  let v86 : BitVec 32 := Scalar.addi v85 c6_i32
  let v87 : Index := Scalar.indexCast v86
  ![0, 0, v87.toNat]
def k0_off46 (k0_t2 : Fin k0_t2_loop.trips) : Fin 3 → Nat :=
  let c1_i32_64 : BitVec 32 := 1#32
  let c0_i32_12 : BitVec 32 := 0#32
  let c1_i32_14 : BitVec 32 := 1#32
  let arg16 : BitVec 32 := Scf.iv c0_i32_12 c1_i32_14 k0_t2
  let c8_i32_61 : BitVec 32 := 8#32
  let v85 : BitVec 32 := Scalar.muli arg16 c8_i32_61
  let c6_i32 : BitVec 32 := 6#32
  let v86 : BitVec 32 := Scalar.addi v85 c6_i32
  let c0_i32_66 : BitVec 32 := 0#32
  ![1, v86.toNat, 0]
def k0_off47 (v88 : BitVec 32) : Fin 2 → Nat :=
  let c0_i32_67 : BitVec 32 := 0#32
  ![v88.toNat, 0]

def k0_chk15 (i : grid0.Coords) (v0 : BitVec 32) (v88 : BitVec 32) : Prop :=
  (∀ (k0_h2 : k0_cond2 i = 1#1), ∀ (k0_h3 : k0_cond3 v0 = 1#1), ∀ a, (k0_off47 v88) a + S1x2048.size a ≤ S16384x2048.size a)
theorem k0_off47_inb : ∀ (i : grid0.Coords) (v0 : BitVec 32) (v88 : BitVec 32) (k0_hw15 : k0_chk15 i v0 v88), ∀ (k0_h2 : k0_cond2 i = 1#1), ∀ (k0_h3 : k0_cond3 v0 = 1#1), ∀ a, (k0_off47 v88) a + S1x2048.size a ≤ S16384x2048.size a := fun i v0 v88 k0_hw15 k0_h2 k0_h3 => k0_hw15 k0_h2 k0_h3

def k0_off48 (k0_t2 : Fin k0_t2_loop.trips) : Fin 3 → Nat :=
  let c0_69 : Index := 0#32
  let c0_70 : Index := 0#32
  let c0_i32_12 : BitVec 32 := 0#32
  let c1_i32_14 : BitVec 32 := 1#32
  let arg16 : BitVec 32 := Scf.iv c0_i32_12 c1_i32_14 k0_t2
  let c8_i32_68 : BitVec 32 := 8#32
  let v94 : BitVec 32 := Scalar.muli arg16 c8_i32_68
  let c7_i32 : BitVec 32 := 7#32
  let v95 : BitVec 32 := Scalar.addi v94 c7_i32
  let v96 : Index := Scalar.indexCast v95
  ![0, 0, v96.toNat]
def k0_off49 (k0_t2 : Fin k0_t2_loop.trips) : Fin 3 → Nat :=
  let c1_i32_71 : BitVec 32 := 1#32
  let c0_i32_12 : BitVec 32 := 0#32
  let c1_i32_14 : BitVec 32 := 1#32
  let arg16 : BitVec 32 := Scf.iv c0_i32_12 c1_i32_14 k0_t2
  let c8_i32_68 : BitVec 32 := 8#32
  let v94 : BitVec 32 := Scalar.muli arg16 c8_i32_68
  let c7_i32 : BitVec 32 := 7#32
  let v95 : BitVec 32 := Scalar.addi v94 c7_i32
  let c0_i32_73 : BitVec 32 := 0#32
  ![1, v95.toNat, 0]
def k0_off50 (v97 : BitVec 32) : Fin 2 → Nat :=
  let c0_i32_74 : BitVec 32 := 0#32
  ![v97.toNat, 0]

def k0_chk16 (i : grid0.Coords) (v0 : BitVec 32) (v97 : BitVec 32) : Prop :=
  (∀ (k0_h2 : k0_cond2 i = 1#1), ∀ (k0_h3 : k0_cond3 v0 = 1#1), ∀ a, (k0_off50 v97) a + S1x2048.size a ≤ S16384x2048.size a)
theorem k0_off50_inb : ∀ (i : grid0.Coords) (v0 : BitVec 32) (v97 : BitVec 32) (k0_hw16 : k0_chk16 i v0 v97), ∀ (k0_h2 : k0_cond2 i = 1#1), ∀ (k0_h3 : k0_cond3 v0 = 1#1), ∀ a, (k0_off50 v97) a + S1x2048.size a ≤ S16384x2048.size a := fun i v0 v97 k0_hw16 k0_h2 k0_h3 => k0_hw16 k0_h2 k0_h3

@[reducible] def k0_t3_loop : Scf.Loop 32 :=
  let c0_i32_9 : BitVec 32 := 0#32
  let c32_i32 : BitVec 32 := 32#32
  let v28 : BitVec 32 := Scalar.addi c0_i32_9 c32_i32
  let c1_i32_10 : BitVec 32 := 1#32
  ⟨c0_i32_9, v28, c1_i32_10⟩
def k0_off51 (k0_t3 : Fin k0_t3_loop.trips) : Fin 3 → Nat :=
  let c0_13 : Index := 0#32
  let c0_14 : Index := 0#32
  let c0_i32_9 : BitVec 32 := 0#32
  let c1_i32_10 : BitVec 32 := 1#32
  let arg16 : BitVec 32 := Scf.iv c0_i32_9 c1_i32_10 k0_t3
  let c8_i32 : BitVec 32 := 8#32
  let v29 : BitVec 32 := Scalar.muli arg16 c8_i32
  let c0_i32_12 : BitVec 32 := 0#32
  let v30 : BitVec 32 := Scalar.addi v29 c0_i32_12
  let v31 : Index := Scalar.indexCast v30
  ![0, 0, v31.toNat]
def k0_off52 (i : grid0.Coords) : Fin 1 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  ![v27.toNat]
def k0_off53 (i : grid0.Coords) (k0_t3 : Fin k0_t3_loop.trips) : Fin 3 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  let c0_i32_9 : BitVec 32 := 0#32
  let c1_i32_10 : BitVec 32 := 1#32
  let arg16 : BitVec 32 := Scf.iv c0_i32_9 c1_i32_10 k0_t3
  let c8_i32 : BitVec 32 := 8#32
  let v29 : BitVec 32 := Scalar.muli arg16 c8_i32
  let c0_i32_12 : BitVec 32 := 0#32
  let v30 : BitVec 32 := Scalar.addi v29 c0_i32_12
  let c0_i32_15 : BitVec 32 := 0#32
  ![v27.toNat, v30.toNat, 0]
def k0_off54 (v32 : BitVec 32) : Fin 2 → Nat :=
  let c0_i32_16 : BitVec 32 := 0#32
  ![v32.toNat, 0]
def k0_cond4 (i : grid0.Coords) (v0 : BitVec 32) : BitVec 1 :=
  let arg0 : BitVec 32 := BitVec.ofNat 32 (i 0).val
  let c2_i32 : BitVec 32 := 2#32
  let v16 : BitVec 32 := Scalar.addi arg0 c2_i32
  let v17 : BitVec 1 := Scalar.cmpi .slt v16 v0
  let v18 : BitVec 32 := Scalar.extui v17
  let c0_i32_4 : BitVec 32 := 0#32
  let v19 : BitVec 1 := Scalar.cmpi .ne v18 c0_i32_4
  v19

def k0_chk17 (i : grid0.Coords) (v0 : BitVec 32) (v32 : BitVec 32) : Prop :=
  (∀ (k0_h4 : k0_cond4 i v0 = 1#1), ∀ a, (k0_off54 v32) a + S1x2048.size a ≤ S16384x2048.size a)
theorem k0_off54_inb : ∀ (i : grid0.Coords) (v0 : BitVec 32) (v32 : BitVec 32) (k0_hw17 : k0_chk17 i v0 v32), ∀ (k0_h4 : k0_cond4 i v0 = 1#1), ∀ a, (k0_off54 v32) a + S1x2048.size a ≤ S16384x2048.size a := fun i v0 v32 k0_hw17 k0_h4 => k0_hw17 k0_h4

def k0_off55 (k0_t3 : Fin k0_t3_loop.trips) : Fin 3 → Nat :=
  let c0_19 : Index := 0#32
  let c0_20 : Index := 0#32
  let c0_i32_9 : BitVec 32 := 0#32
  let c1_i32_10 : BitVec 32 := 1#32
  let arg16 : BitVec 32 := Scf.iv c0_i32_9 c1_i32_10 k0_t3
  let c8_i32_17 : BitVec 32 := 8#32
  let v38 : BitVec 32 := Scalar.muli arg16 c8_i32_17
  let c1_i32_18 : BitVec 32 := 1#32
  let v39 : BitVec 32 := Scalar.addi v38 c1_i32_18
  let v40 : Index := Scalar.indexCast v39
  ![0, 0, v40.toNat]
def k0_off56 (i : grid0.Coords) : Fin 1 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  ![v27.toNat]
def k0_off57 (i : grid0.Coords) (k0_t3 : Fin k0_t3_loop.trips) : Fin 3 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  let c0_i32_9 : BitVec 32 := 0#32
  let c1_i32_10 : BitVec 32 := 1#32
  let arg16 : BitVec 32 := Scf.iv c0_i32_9 c1_i32_10 k0_t3
  let c8_i32_17 : BitVec 32 := 8#32
  let v38 : BitVec 32 := Scalar.muli arg16 c8_i32_17
  let c1_i32_18 : BitVec 32 := 1#32
  let v39 : BitVec 32 := Scalar.addi v38 c1_i32_18
  let c0_i32_21 : BitVec 32 := 0#32
  ![v27.toNat, v39.toNat, 0]
def k0_off58 (v41 : BitVec 32) : Fin 2 → Nat :=
  let c0_i32_22 : BitVec 32 := 0#32
  ![v41.toNat, 0]

def k0_chk18 (i : grid0.Coords) (v0 : BitVec 32) (v41 : BitVec 32) : Prop :=
  (∀ (k0_h4 : k0_cond4 i v0 = 1#1), ∀ a, (k0_off58 v41) a + S1x2048.size a ≤ S16384x2048.size a)
theorem k0_off58_inb : ∀ (i : grid0.Coords) (v0 : BitVec 32) (v41 : BitVec 32) (k0_hw18 : k0_chk18 i v0 v41), ∀ (k0_h4 : k0_cond4 i v0 = 1#1), ∀ a, (k0_off58 v41) a + S1x2048.size a ≤ S16384x2048.size a := fun i v0 v41 k0_hw18 k0_h4 => k0_hw18 k0_h4

def k0_off59 (k0_t3 : Fin k0_t3_loop.trips) : Fin 3 → Nat :=
  let c0_25 : Index := 0#32
  let c0_26 : Index := 0#32
  let c0_i32_9 : BitVec 32 := 0#32
  let c1_i32_10 : BitVec 32 := 1#32
  let arg16 : BitVec 32 := Scf.iv c0_i32_9 c1_i32_10 k0_t3
  let c8_i32_23 : BitVec 32 := 8#32
  let v47 : BitVec 32 := Scalar.muli arg16 c8_i32_23
  let c2_i32_24 : BitVec 32 := 2#32
  let v48 : BitVec 32 := Scalar.addi v47 c2_i32_24
  let v49 : Index := Scalar.indexCast v48
  ![0, 0, v49.toNat]
def k0_off60 (i : grid0.Coords) : Fin 1 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  ![v27.toNat]
def k0_off61 (i : grid0.Coords) (k0_t3 : Fin k0_t3_loop.trips) : Fin 3 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  let c0_i32_9 : BitVec 32 := 0#32
  let c1_i32_10 : BitVec 32 := 1#32
  let arg16 : BitVec 32 := Scf.iv c0_i32_9 c1_i32_10 k0_t3
  let c8_i32_23 : BitVec 32 := 8#32
  let v47 : BitVec 32 := Scalar.muli arg16 c8_i32_23
  let c2_i32_24 : BitVec 32 := 2#32
  let v48 : BitVec 32 := Scalar.addi v47 c2_i32_24
  let c0_i32_27 : BitVec 32 := 0#32
  ![v27.toNat, v48.toNat, 0]
def k0_off62 (v50 : BitVec 32) : Fin 2 → Nat :=
  let c0_i32_28 : BitVec 32 := 0#32
  ![v50.toNat, 0]

def k0_chk19 (i : grid0.Coords) (v0 : BitVec 32) (v50 : BitVec 32) : Prop :=
  (∀ (k0_h4 : k0_cond4 i v0 = 1#1), ∀ a, (k0_off62 v50) a + S1x2048.size a ≤ S16384x2048.size a)
theorem k0_off62_inb : ∀ (i : grid0.Coords) (v0 : BitVec 32) (v50 : BitVec 32) (k0_hw19 : k0_chk19 i v0 v50), ∀ (k0_h4 : k0_cond4 i v0 = 1#1), ∀ a, (k0_off62 v50) a + S1x2048.size a ≤ S16384x2048.size a := fun i v0 v50 k0_hw19 k0_h4 => k0_hw19 k0_h4

def k0_off63 (k0_t3 : Fin k0_t3_loop.trips) : Fin 3 → Nat :=
  let c0_31 : Index := 0#32
  let c0_32 : Index := 0#32
  let c0_i32_9 : BitVec 32 := 0#32
  let c1_i32_10 : BitVec 32 := 1#32
  let arg16 : BitVec 32 := Scf.iv c0_i32_9 c1_i32_10 k0_t3
  let c8_i32_29 : BitVec 32 := 8#32
  let v56 : BitVec 32 := Scalar.muli arg16 c8_i32_29
  let c3_i32_30 : BitVec 32 := 3#32
  let v57 : BitVec 32 := Scalar.addi v56 c3_i32_30
  let v58 : Index := Scalar.indexCast v57
  ![0, 0, v58.toNat]
def k0_off64 (i : grid0.Coords) : Fin 1 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  ![v27.toNat]
def k0_off65 (i : grid0.Coords) (k0_t3 : Fin k0_t3_loop.trips) : Fin 3 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  let c0_i32_9 : BitVec 32 := 0#32
  let c1_i32_10 : BitVec 32 := 1#32
  let arg16 : BitVec 32 := Scf.iv c0_i32_9 c1_i32_10 k0_t3
  let c8_i32_29 : BitVec 32 := 8#32
  let v56 : BitVec 32 := Scalar.muli arg16 c8_i32_29
  let c3_i32_30 : BitVec 32 := 3#32
  let v57 : BitVec 32 := Scalar.addi v56 c3_i32_30
  let c0_i32_33 : BitVec 32 := 0#32
  ![v27.toNat, v57.toNat, 0]
def k0_off66 (v59 : BitVec 32) : Fin 2 → Nat :=
  let c0_i32_34 : BitVec 32 := 0#32
  ![v59.toNat, 0]

def k0_chk20 (i : grid0.Coords) (v0 : BitVec 32) (v59 : BitVec 32) : Prop :=
  (∀ (k0_h4 : k0_cond4 i v0 = 1#1), ∀ a, (k0_off66 v59) a + S1x2048.size a ≤ S16384x2048.size a)
theorem k0_off66_inb : ∀ (i : grid0.Coords) (v0 : BitVec 32) (v59 : BitVec 32) (k0_hw20 : k0_chk20 i v0 v59), ∀ (k0_h4 : k0_cond4 i v0 = 1#1), ∀ a, (k0_off66 v59) a + S1x2048.size a ≤ S16384x2048.size a := fun i v0 v59 k0_hw20 k0_h4 => k0_hw20 k0_h4

def k0_off67 (k0_t3 : Fin k0_t3_loop.trips) : Fin 3 → Nat :=
  let c0_36 : Index := 0#32
  let c0_37 : Index := 0#32
  let c0_i32_9 : BitVec 32 := 0#32
  let c1_i32_10 : BitVec 32 := 1#32
  let arg16 : BitVec 32 := Scf.iv c0_i32_9 c1_i32_10 k0_t3
  let c8_i32_35 : BitVec 32 := 8#32
  let v65 : BitVec 32 := Scalar.muli arg16 c8_i32_35
  let c4_i32 : BitVec 32 := 4#32
  let v66 : BitVec 32 := Scalar.addi v65 c4_i32
  let v67 : Index := Scalar.indexCast v66
  ![0, 0, v67.toNat]
def k0_off68 (i : grid0.Coords) : Fin 1 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  ![v27.toNat]
def k0_off69 (i : grid0.Coords) (k0_t3 : Fin k0_t3_loop.trips) : Fin 3 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  let c0_i32_9 : BitVec 32 := 0#32
  let c1_i32_10 : BitVec 32 := 1#32
  let arg16 : BitVec 32 := Scf.iv c0_i32_9 c1_i32_10 k0_t3
  let c8_i32_35 : BitVec 32 := 8#32
  let v65 : BitVec 32 := Scalar.muli arg16 c8_i32_35
  let c4_i32 : BitVec 32 := 4#32
  let v66 : BitVec 32 := Scalar.addi v65 c4_i32
  let c0_i32_38 : BitVec 32 := 0#32
  ![v27.toNat, v66.toNat, 0]
def k0_off70 (v68 : BitVec 32) : Fin 2 → Nat :=
  let c0_i32_39 : BitVec 32 := 0#32
  ![v68.toNat, 0]

def k0_chk21 (i : grid0.Coords) (v0 : BitVec 32) (v68 : BitVec 32) : Prop :=
  (∀ (k0_h4 : k0_cond4 i v0 = 1#1), ∀ a, (k0_off70 v68) a + S1x2048.size a ≤ S16384x2048.size a)
theorem k0_off70_inb : ∀ (i : grid0.Coords) (v0 : BitVec 32) (v68 : BitVec 32) (k0_hw21 : k0_chk21 i v0 v68), ∀ (k0_h4 : k0_cond4 i v0 = 1#1), ∀ a, (k0_off70 v68) a + S1x2048.size a ≤ S16384x2048.size a := fun i v0 v68 k0_hw21 k0_h4 => k0_hw21 k0_h4

def k0_off71 (k0_t3 : Fin k0_t3_loop.trips) : Fin 3 → Nat :=
  let c0_41 : Index := 0#32
  let c0_42 : Index := 0#32
  let c0_i32_9 : BitVec 32 := 0#32
  let c1_i32_10 : BitVec 32 := 1#32
  let arg16 : BitVec 32 := Scf.iv c0_i32_9 c1_i32_10 k0_t3
  let c8_i32_40 : BitVec 32 := 8#32
  let v74 : BitVec 32 := Scalar.muli arg16 c8_i32_40
  let c5_i32 : BitVec 32 := 5#32
  let v75 : BitVec 32 := Scalar.addi v74 c5_i32
  let v76 : Index := Scalar.indexCast v75
  ![0, 0, v76.toNat]
def k0_off72 (i : grid0.Coords) : Fin 1 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  ![v27.toNat]
def k0_off73 (i : grid0.Coords) (k0_t3 : Fin k0_t3_loop.trips) : Fin 3 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  let c0_i32_9 : BitVec 32 := 0#32
  let c1_i32_10 : BitVec 32 := 1#32
  let arg16 : BitVec 32 := Scf.iv c0_i32_9 c1_i32_10 k0_t3
  let c8_i32_40 : BitVec 32 := 8#32
  let v74 : BitVec 32 := Scalar.muli arg16 c8_i32_40
  let c5_i32 : BitVec 32 := 5#32
  let v75 : BitVec 32 := Scalar.addi v74 c5_i32
  let c0_i32_43 : BitVec 32 := 0#32
  ![v27.toNat, v75.toNat, 0]
def k0_off74 (v77 : BitVec 32) : Fin 2 → Nat :=
  let c0_i32_44 : BitVec 32 := 0#32
  ![v77.toNat, 0]

def k0_chk22 (i : grid0.Coords) (v0 : BitVec 32) (v77 : BitVec 32) : Prop :=
  (∀ (k0_h4 : k0_cond4 i v0 = 1#1), ∀ a, (k0_off74 v77) a + S1x2048.size a ≤ S16384x2048.size a)
theorem k0_off74_inb : ∀ (i : grid0.Coords) (v0 : BitVec 32) (v77 : BitVec 32) (k0_hw22 : k0_chk22 i v0 v77), ∀ (k0_h4 : k0_cond4 i v0 = 1#1), ∀ a, (k0_off74 v77) a + S1x2048.size a ≤ S16384x2048.size a := fun i v0 v77 k0_hw22 k0_h4 => k0_hw22 k0_h4

def k0_off75 (k0_t3 : Fin k0_t3_loop.trips) : Fin 3 → Nat :=
  let c0_46 : Index := 0#32
  let c0_47 : Index := 0#32
  let c0_i32_9 : BitVec 32 := 0#32
  let c1_i32_10 : BitVec 32 := 1#32
  let arg16 : BitVec 32 := Scf.iv c0_i32_9 c1_i32_10 k0_t3
  let c8_i32_45 : BitVec 32 := 8#32
  let v83 : BitVec 32 := Scalar.muli arg16 c8_i32_45
  let c6_i32 : BitVec 32 := 6#32
  let v84 : BitVec 32 := Scalar.addi v83 c6_i32
  let v85 : Index := Scalar.indexCast v84
  ![0, 0, v85.toNat]
def k0_off76 (i : grid0.Coords) : Fin 1 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  ![v27.toNat]
def k0_off77 (i : grid0.Coords) (k0_t3 : Fin k0_t3_loop.trips) : Fin 3 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  let c0_i32_9 : BitVec 32 := 0#32
  let c1_i32_10 : BitVec 32 := 1#32
  let arg16 : BitVec 32 := Scf.iv c0_i32_9 c1_i32_10 k0_t3
  let c8_i32_45 : BitVec 32 := 8#32
  let v83 : BitVec 32 := Scalar.muli arg16 c8_i32_45
  let c6_i32 : BitVec 32 := 6#32
  let v84 : BitVec 32 := Scalar.addi v83 c6_i32
  let c0_i32_48 : BitVec 32 := 0#32
  ![v27.toNat, v84.toNat, 0]
def k0_off78 (v86 : BitVec 32) : Fin 2 → Nat :=
  let c0_i32_49 : BitVec 32 := 0#32
  ![v86.toNat, 0]

def k0_chk23 (i : grid0.Coords) (v0 : BitVec 32) (v86 : BitVec 32) : Prop :=
  (∀ (k0_h4 : k0_cond4 i v0 = 1#1), ∀ a, (k0_off78 v86) a + S1x2048.size a ≤ S16384x2048.size a)
theorem k0_off78_inb : ∀ (i : grid0.Coords) (v0 : BitVec 32) (v86 : BitVec 32) (k0_hw23 : k0_chk23 i v0 v86), ∀ (k0_h4 : k0_cond4 i v0 = 1#1), ∀ a, (k0_off78 v86) a + S1x2048.size a ≤ S16384x2048.size a := fun i v0 v86 k0_hw23 k0_h4 => k0_hw23 k0_h4

def k0_off79 (k0_t3 : Fin k0_t3_loop.trips) : Fin 3 → Nat :=
  let c0_51 : Index := 0#32
  let c0_52 : Index := 0#32
  let c0_i32_9 : BitVec 32 := 0#32
  let c1_i32_10 : BitVec 32 := 1#32
  let arg16 : BitVec 32 := Scf.iv c0_i32_9 c1_i32_10 k0_t3
  let c8_i32_50 : BitVec 32 := 8#32
  let v92 : BitVec 32 := Scalar.muli arg16 c8_i32_50
  let c7_i32 : BitVec 32 := 7#32
  let v93 : BitVec 32 := Scalar.addi v92 c7_i32
  let v94 : Index := Scalar.indexCast v93
  ![0, 0, v94.toNat]
def k0_off80 (i : grid0.Coords) : Fin 1 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  ![v27.toNat]
def k0_off81 (i : grid0.Coords) (k0_t3 : Fin k0_t3_loop.trips) : Fin 3 → Nat :=
  let arg0 : BitVec 32 := BitVec.ofNat 32 (i 0).val
  let c2_i32_7 : BitVec 32 := 2#32
  let v26 : BitVec 32 := Scalar.addi arg0 c2_i32_7
  let c3_i32_8 : BitVec 32 := 3#32
  let v27 : BitVec 32 := Scalar.remsi v26 c3_i32_8
  let c0_i32_9 : BitVec 32 := 0#32
  let c1_i32_10 : BitVec 32 := 1#32
  let arg16 : BitVec 32 := Scf.iv c0_i32_9 c1_i32_10 k0_t3
  let c8_i32_50 : BitVec 32 := 8#32
  let v92 : BitVec 32 := Scalar.muli arg16 c8_i32_50
  let c7_i32 : BitVec 32 := 7#32
  let v93 : BitVec 32 := Scalar.addi v92 c7_i32
  let c0_i32_53 : BitVec 32 := 0#32
  ![v27.toNat, v93.toNat, 0]
def k0_off82 (v95 : BitVec 32) : Fin 2 → Nat :=
  let c0_i32_54 : BitVec 32 := 0#32
  ![v95.toNat, 0]

def k0_chk24 (i : grid0.Coords) (v0 : BitVec 32) (v95 : BitVec 32) : Prop :=
  (∀ (k0_h4 : k0_cond4 i v0 = 1#1), ∀ a, (k0_off82 v95) a + S1x2048.size a ≤ S16384x2048.size a)
theorem k0_off82_inb : ∀ (i : grid0.Coords) (v0 : BitVec 32) (v95 : BitVec 32) (k0_hw24 : k0_chk24 i v0 v95), ∀ (k0_h4 : k0_cond4 i v0 = 1#1), ∀ a, (k0_off82 v95) a + S1x2048.size a ≤ S16384x2048.size a := fun i v0 v95 k0_hw24 k0_h4 => k0_hw24 k0_h4

@[reducible] def k0_t4_loop : Scf.Loop 32 :=
  let c0_i32_7 : BitVec 32 := 0#32
  let c32_i32 : BitVec 32 := 32#32
  let v26 : BitVec 32 := Scalar.addi c0_i32_7 c32_i32
  let c1_i32_8 : BitVec 32 := 1#32
  ⟨c0_i32_7, v26, c1_i32_8⟩
def k0_off83 (i : grid0.Coords) : Fin 1 → Nat :=
  let arg0 : BitVec 32 := BitVec.ofNat 32 (i 0).val
  let c3_i32 : BitVec 32 := 3#32
  let v1 : BitVec 32 := Scalar.remsi arg0 c3_i32
  ![v1.toNat]
def k0_off84 (i : grid0.Coords) : Fin 3 → Nat :=
  let arg0 : BitVec 32 := BitVec.ofNat 32 (i 0).val
  let c3_i32 : BitVec 32 := 3#32
  let v1 : BitVec 32 := Scalar.remsi arg0 c3_i32
  let c0_i32_24 : BitVec 32 := 0#32
  let c0_i32_25 : BitVec 32 := 0#32
  ![v1.toNat, 0, 0]
def k0_off85 (i : grid0.Coords) : Fin 3 → Nat :=
  let arg0 : BitVec 32 := BitVec.ofNat 32 (i 0).val
  let c3_i32 : BitVec 32 := 3#32
  let v1 : BitVec 32 := Scalar.remsi arg0 c3_i32
  let v27 : Index := Scalar.indexCast v1
  let c0_9 : Index := 0#32
  let c0_10 : Index := 0#32
  ![v27.toNat, 0, 0]
def k0_cond5 (i : grid0.Coords) (v0 : BitVec 32) : BitVec 1 :=
  let arg0 : BitVec 32 := BitVec.ofNat 32 (i 0).val
  let v20 : BitVec 1 := Scalar.cmpi .slt arg0 v0
  let v21 : BitVec 32 := Scalar.extui v20
  let c0_i32_5 : BitVec 32 := 0#32
  let v22 : BitVec 1 := Scalar.cmpi .ne v21 c0_i32_5
  v22

def k0_cond6 (i : grid0.Coords) (v0 : BitVec 32) : BitVec 1 :=
  let arg0 : BitVec 32 := BitVec.ofNat 32 (i 0).val
  let v23 : BitVec 1 := Scalar.cmpi .sge arg0 v0
  let v24 : BitVec 32 := Scalar.extui v23
  let c0_i32_6 : BitVec 32 := 0#32
  let v25 : BitVec 1 := Scalar.cmpi .ne v24 c0_i32_6
  v25

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c159_i32 : BitVec 32 := 159#32
  let v1 : BitVec 32 := Scalar.minsi v0 c159_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.addi arg0 c2_i32
  let c159_i32 : BitVec 32 := 159#32
  let v1 : BitVec 32 := Scalar.minsi v0 c159_i32
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExRefIdeal.lean ====
abbrev S16384x2048 : Shape := ⟨2, ![16384, 2048]⟩
abbrev S40960 : Shape := ⟨1, ![40960]⟩
abbrev S160 : Shape := ⟨1, ![160]⟩
abbrev S1 : Shape := ⟨1, ![1]⟩
abbrev S4x32x2048x512 : Shape := ⟨4, ![4, 32, 2048, 512]⟩
abbrev S4x32x512x2048 : Shape := ⟨4, ![4, 32, 512, 2048]⟩
abbrev S_ : Shape := ⟨0, ![]⟩
abbrev S40960x1 : Shape := ⟨2, ![40960, 1]⟩
abbrev S40960x2048 : Shape := ⟨2, ![40960, 2048]⟩
abbrev S160x256x2048 : Shape := ⟨3, ![160, 256, 2048]⟩
abbrev S1x32x2048x512 : Shape := ⟨4, ![1, 32, 2048, 512]⟩
abbrev S32x2048x512 : Shape := ⟨3, ![32, 2048, 512]⟩
abbrev S160x1 : Shape := ⟨2, ![160, 1]⟩
abbrev S160x2048x512 : Shape := ⟨3, ![160, 2048, 512]⟩
abbrev S1x32x512x2048 : Shape := ⟨4, ![1, 32, 512, 2048]⟩
abbrev S32x512x2048 : Shape := ⟨3, ![32, 512, 2048]⟩
abbrev S160x512x2048 : Shape := ⟨3, ![160, 512, 2048]⟩
abbrev S160x256x512 : Shape := ⟨3, ![160, 256, 512]⟩
abbrev S160x1x1 : Shape := ⟨3, ![160, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S40960, .i32⟩
  | .hbm, ⟨2, _⟩ => ⟨S160, .i32⟩
  | .hbm, ⟨3, _⟩ => ⟨S1, .i32⟩
  | .hbm, ⟨4, _⟩ => ⟨S4x32x2048x512, .f32⟩
  | .hbm, ⟨5, _⟩ => ⟨S4x32x2048x512, .f32⟩
  | .hbm, ⟨6, _⟩ => ⟨S4x32x512x2048, .f32⟩
  | .hbm, ⟨7, _⟩ => ⟨S_, .i32⟩
  | .hbm, ⟨8, _⟩ => ⟨S40960, .i32⟩
  | .hbm, ⟨9, _⟩ => ⟨S40960, .i1⟩
  | .hbm, ⟨10, _⟩ => ⟨S_, .i32⟩
  | .hbm, ⟨11, _⟩ => ⟨S40960, .i32⟩
  | .hbm, ⟨12, _⟩ => ⟨S40960, .i32⟩
  | .hbm, ⟨13, _⟩ => ⟨S40960, .i32⟩
  | .hbm, ⟨14, _⟩ => ⟨S40960x1, .i32⟩
  | .hbm, ⟨15, _⟩ => ⟨S40960x2048, .f32⟩
  | .hbm, ⟨16, _⟩ => ⟨S160x256x2048, .f32⟩
  | .hbm, ⟨17, _⟩ => ⟨S1x32x2048x512, .f32⟩
  | .hbm, ⟨18, _⟩ => ⟨S32x2048x512, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x2048x512, .f32⟩
  | .hbm, ⟨28, _⟩ => ⟨S1x32x2048x512, .f32⟩
  | .hbm, ⟨29, _⟩ => ⟨S32x2048x512, .f32⟩
  | .hbm, ⟨30, _⟩ => ⟨S_, .i32⟩
  | .hbm, ⟨31, _⟩ => ⟨S160, .i32⟩
  | .hbm, ⟨32, _⟩ => ⟨S160, .i1⟩
  | .hbm, ⟨33, _⟩ => ⟨S_, .i32⟩
  | .hbm, ⟨34, _⟩ => ⟨S160, .i32⟩
  | .hbm, ⟨35, _⟩ => ⟨S160, .i32⟩
  | .hbm, ⟨36, _⟩ => ⟨S160, .i32⟩
  | .hbm, ⟨37, _⟩ => ⟨S160x1, .i32⟩
  | .hbm, ⟨38, _⟩ => ⟨S160x2048x512, .f32⟩
  | .hbm, ⟨39, _⟩ => ⟨S1x32x512x2048, .f32⟩
  | .hbm, ⟨40, _⟩ => ⟨S32x512x2048, .f32⟩
  | .hbm, ⟨41, _⟩ => ⟨S_, .i32⟩
  | .hbm, ⟨42, _⟩ => ⟨S160, .i32⟩
  | .hbm, ⟨43, _⟩ => ⟨S160, .i1⟩
  | .hbm, ⟨44, _⟩ => ⟨S_, .i32⟩
  | .hbm, ⟨45, _⟩ => ⟨S160, .i32⟩
  | .hbm, ⟨46, _⟩ => ⟨S160, .i32⟩
  | .hbm, ⟨47, _⟩ => ⟨S160, .i32⟩
  | .hbm, ⟨48, _⟩ => ⟨S160x1, .i32⟩
  | .hbm, ⟨49, _⟩ => ⟨S160x512x2048, .f32⟩
  | .hbm, ⟨50, _⟩ => ⟨S160x256x512, .f32⟩
  | .hbm, ⟨51, _⟩ => ⟨S160x256x512, .f32⟩
  | .hbm, ⟨52, _⟩ => ⟨S160x256x512, .f32⟩
  | .hbm, ⟨53, _⟩ => ⟨S160x256x512, .f32⟩
  | .hbm, ⟨54, _⟩ => ⟨S_, .f32⟩
  | .hbm, ⟨55, _⟩ => ⟨S160x256x512, .f32⟩
  | .hbm, ⟨56, _⟩ => ⟨S160x256x512, .f32⟩
  | .hbm, ⟨57, _⟩ => ⟨S_, .f32⟩
  | .hbm, ⟨58, _⟩ => ⟨S160x256x512, .f32⟩
  | .hbm, ⟨59, _⟩ => ⟨S160x256x512, .f32⟩
  | .hbm, ⟨60, _⟩ => ⟨S160x256x512, .f32⟩
  | .hbm, ⟨61, _⟩ => ⟨S160x256x512, .f32⟩
  | .hbm, ⟨62, _⟩ => ⟨S160x256x2048, .f32⟩
  | .hbm, ⟨63, _⟩ => ⟨S160, .i32⟩
  | .hbm, ⟨64, _⟩ => ⟨S160, .i32⟩
  | .hbm, ⟨65, _⟩ => ⟨S160, .i1⟩
  | .hbm, ⟨66, _⟩ => ⟨S160x1x1, .i1⟩
  | .hbm, ⟨67, _⟩ => ⟨S_, .f32⟩
  | .hbm, ⟨68, _⟩ => ⟨S_, .f32⟩
  | .hbm, ⟨69, _⟩ => ⟨S160x256x2048, .i1⟩
  | .hbm, ⟨70, _⟩ => ⟨S160x256x2048, .f32⟩
  | .hbm, ⟨71, _⟩ => ⟨S160x256x2048, .f32⟩
  | .hbm, ⟨72, _⟩ => ⟨S40960x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== Proof.SbIdealBody.lean ====
module

public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.Gen.SbIdeal.Frame
public import Idealize.ShloMosaic.Lib.Tactic
public import Idealize.ShloMosaic.Lib.Pipeline.Kit

@[expose] public section

set_option maxRecDepth 16384

noncomputable section

namespace Cert.Proof.SbIdeal

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One block of keys, for one head -/

/-- The scaled scores of 256 queries against 256 keys. -/
def score (q k : Vec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))

/-- `log β`: the logarithm of the logistic function of a score. -/
def logBeta (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- `log (1 - β)` of an off-diagonal block. -/
def logRest (z : FVec F S256x256 .f32) : FVec F S256x256 .f32 := subf (logBeta z) z

/-- `log (1 - β)` of the diagonal block: zero where the key is not before the query. -/
def logRestD (z : FVec F S256x256 .f32) : FVec F S256x256 .f32 :=
  select k0_pay116 (logRest z) (broadcast S256x256 (Scalar.ofBits .f32 0x00000000#32))

/-- The sums of `l` over the later keys of the block, as the product with the strict lower triangle. -/
def later (l : FVec F S256x256 .f32) : FVec F S256x256 .f32 :=
  matmul dot_S256x256_S256x256_S256x256_1_0_0_1_n_n none (truncf .bf16 l bitsLt_bf16_f32) k0_pay117
    (constant S256x256 .f32 0x00000000#32)

/-- The weights of the block's keys: `β` times what the later keys left, `run` the logarithm of what the later
    blocks left. -/
def weight (z l : FVec F S256x256 .f32) (run : FVec F S256x1 .f32) : FVec F S256x256 .f32 :=
  exp (addf (addf (logBeta z) (later l)) (broadcastTo S256x256 run broadcasts_S256x1_S256x256))

/-- The weighted values added to the total. -/
def addValues (acc : FVec F S256x128 .f32) (w : FVec F S256x256 .f32) (v : Vec F S256x128 .bf16) : FVec F S256x128 .f32 :=
  addf acc (matmul dot_S256x256_S256x128_S256x128_1_0_0_1_n_n none (truncf .bf16 w bitsLt_bf16_f32) v
    (constant S256x128 .f32 0x00000000#32))

/-- The running logarithm after the block: the first key's later keys, and the first key's own. -/
def addRest (run : FVec F S256x1 .f32) (l : FVec F S256x256 .f32) : FVec F S256x1 .f32 :=
  addf (addf run (extractStridedSlice S256x1 ![0, 0] (later l) slices_S256x256_o0_0_S256x1))
    (extractStridedSlice S256x1 ![0, 0] l slices_S256x256_o0_0_S256x1)

/-- What one head carries: the weighted total of the values, and the running logarithm. -/
abbrev Carry (F : FTy → Type) [FloatOps F] : Type := FVec F S256x128 .f32 × FVec F S256x1 .f32

/-- One off-diagonal block. -/
def stepB (q k v : Vec F S256x128 .bf16) (s : Carry F) : Carry F :=
  (addValues s.1 (weight (score q k) (logRest (score q k)) s.2) v, addRest s.2 (logRest (score q k)))

/-- Nothing carried yet. -/
def zero : Carry F :=
  (broadcast S256x128 (Scalar.ofBits .f32 0x00000000#32), broadcast S256x1 (Scalar.ofBits .f32 0x00000000#32))

/-- The diagonal block, from nothing. -/
def stepD (q k v : Vec F S256x128 .bf16) : Carry F :=
  (addValues zero.1 (select k0_pay116 (weight (score q k) (logRestD (score q k)) zero.2)
      (broadcast S256x256 (Scalar.ofBits .f32 0x00000000#32))) v,
    addRest zero.2 (logRestD (score q k)))

/-! ## The blocks of the staged windows -/

theorem inbQ (h : Fin 4) : ∀ a, (![0, 128 * h.val] : Fin 2 → Nat) a + S256x128.size a ≤ S256x512.size a := by
  revert h; decide
theorem inbK (n : Fin 8) (h : Fin 4) : ∀ a, (![256 * n.val, 128 * h.val] : Fin 2 → Nat) a + S256x128.size a ≤ S2048x512.size a := by
  revert n h; decide

/-- Head `h`'s columns of the queries. -/
def qblk (X : Vec F S256x512 .bf16) (h : Fin 4) : Vec F S256x128 .bf16 :=
  View.ld X (Rect.unit (s := S256x512) ![0, 128 * h.val] S256x128.size (inbQ h))

/-- Head `h`'s columns of block `n` of the keys (or of the values). -/
def kblk (X : Vec F S2048x512 .bf16) (n : ℕ) (h : Fin 4) : Vec F S256x128 .bf16 :=
  View.ld X (Rect.unit (s := S2048x512) ![256 * (⟨n % 8, Nat.mod_lt _ (by decide)⟩ : Fin 8).val, 128 * h.val] S256x128.size (inbK _ h))

/-- What head `h` of query block `a` carries after its diagonal block and `n` more, latest first. -/
def carry (x0 : Vec F S256x512 .bf16) (x1 x2 : Vec F S2048x512 .bf16) (a : ℕ) (h : Fin 4) : ℕ → Carry F
  | 0 => stepD (qblk x0 h) (kblk x1 a h) (kblk x2 a h)
  | n + 1 => stepB (qblk x0 h) (kblk x1 (a - 1 - n) h) (kblk x2 (a - 1 - n) h) (carry x0 x1 x2 a h n)

/-- The four heads' carries in the order the loops hold them. -/
def pack (s : Fin 4 → Carry F) : FVec F S256x128 .f32 × FVec F S256x1 .f32 × FVec F S256x128 .f32 × FVec F S256x1 .f32 × FVec F S256x128 .f32 × FVec F S256x1 .f32 × FVec F S256x128 .f32 × FVec F S256x1 .f32 :=
  ((s 0).1, (s 0).2, (s 1).1, (s 1).2, (s 2).1, (s 2).2, (s 3).1, (s 3).2)

/-! ## Where the loads read -/

theorem kblk_of (X : Vec F S2048x512 .bf16) (off : Fin 2 → Nat) (hin) (n : ℕ) (h : Fin 4) (hoff : off = ![256 * (n % 8), 128 * h.val]) :
    View.ld X (Rect.unit (s := S2048x512) off S256x128.size hin) = kblk X n h := by
  subst hoff; rfl

theorem offD1 : ∀ i : grid0.Coords, k0_off1 i = ![256 * ((i 1).val % 8), 0] := by decide +kernel
theorem offD2 : ∀ i : grid0.Coords, k0_off2 i = ![256 * ((i 1).val % 8), 128] := by decide +kernel
theorem offD3 : ∀ i : grid0.Coords, k0_off3 i = ![256 * ((i 1).val % 8), 256] := by decide +kernel
theorem offD4 : ∀ i : grid0.Coords, k0_off4 i = ![256 * ((i 1).val % 8), 384] := by decide +kernel
theorem off5 : ∀ (i : grid0.Coords) (k : Fin (k0_t1_loop i).trips), k0_off5 i k = ![256 * (((i 1).val - 1 - 2 * k.val) % 8), 0] := by decide +kernel
theorem off6 : ∀ (i : grid0.Coords) (k : Fin (k0_t1_loop i).trips), k0_off6 i k = ![256 * (((i 1).val - 1 - 2 * k.val) % 8), 128] := by decide +kernel
theorem off7 : ∀ (i : grid0.Coords) (k : Fin (k0_t1_loop i).trips), k0_off7 i k = ![256 * (((i 1).val - 1 - 2 * k.val) % 8), 256] := by decide +kernel
theorem off8 : ∀ (i : grid0.Coords) (k : Fin (k0_t1_loop i).trips), k0_off8 i k = ![256 * (((i 1).val - 1 - 2 * k.val) % 8), 384] := by decide +kernel
theorem off9 : ∀ (i : grid0.Coords) (k : Fin (k0_t1_loop i).trips), k0_off9 i k = ![256 * (((i 1).val - 1 - (2 * k.val + 1)) % 8), 0] := by decide +kernel
theorem off10 : ∀ (i : grid0.Coords) (k : Fin (k0_t1_loop i).trips), k0_off10 i k = ![256 * (((i 1).val - 1 - (2 * k.val + 1)) % 8), 128] := by decide +kernel
theorem off11 : ∀ (i : grid0.Coords) (k : Fin (k0_t1_loop i).trips), k0_off11 i k = ![256 * (((i 1).val - 1 - (2 * k.val + 1)) % 8), 256] := by decide +kernel
theorem off12 : ∀ (i : grid0.Coords) (k : Fin (k0_t1_loop i).trips), k0_off12 i k = ![256 * (((i 1).val - 1 - (2 * k.val + 1)) % 8), 384] := by decide +kernel

/-- The first loop makes half the query block's number of trips, rounded down; the second none. -/
theorem trips1 : ∀ i : grid0.Coords, Scf.trips (k0_t1_loop i).lb (k0_t1_loop i).ub (k0_t1_loop i).st = (i 1).val / 2 := by decide +kernel
theorem trips2 : ∀ i : grid0.Coords, Scf.trips (k0_t2_loop i).lb (k0_t2_loop i).ub (k0_t2_loop i).st = 0 := by decide +kernel
/-- The last block is taken apart just when the query block's number is odd. -/
theorem cond_odd : ∀ i : grid0.Coords, k0_cond1 i = 1#1 ↔ (i 1).val % 2 = 1 := by decide +kernel

/-! ## The loop over pairs -/

section Loop

variable (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S256x512 .bf16) (harg5 : arg5.IsWhole)
  (f3 : BufTy.Contents (Elt F) arg3.view.ty) (f4 : BufTy.Contents (Elt F) arg4.view.ty)

/-- One trip takes two blocks, for each head. -/
theorem trip_eq (arg1 : BitVec 32) (q : Fin 4 → Vec F S256x128 .bf16) (k : Fin (k0_t1_loop i).trips) (s : Fin 4 → Carry F) :
    tripR_k0_t1 (F := F) Variants.none c none i arg2 harg2 arg3 harg3 arg4 harg4 arg5 harg5 arg1 (q 0) (q 1) (q 2) (q 3) k0_pay117 f3 f4 k (pack s)
      = pack (fun h => stepB (q h) (kblk (arg3.view.read (Elt F) f3) ((i 1).val - 1 - (2 * k.val + 1)) h) (kblk (arg4.view.read (Elt F) f4) ((i 1).val - 1 - (2 * k.val + 1)) h)
          (stepB (q h) (kblk (arg3.view.read (Elt F) f3) ((i 1).val - 1 - 2 * k.val) h) (kblk (arg4.view.read (Elt F) f4) ((i 1).val - 1 - 2 * k.val) h) (s h))) := by
  unfold tripR_k0_t1 trip_k0_t1 pack
  dsimp only
  rw [← kblk_of (arg3.view.read (Elt F) f3) _ (k0_off5_inb i k) _ 0 (off5 i k), ← kblk_of (arg4.view.read (Elt F) f4) _ (k0_off5_inb i k) _ 0 (off5 i k),
    ← kblk_of (arg3.view.read (Elt F) f3) _ (k0_off6_inb i k) _ 1 (off6 i k), ← kblk_of (arg4.view.read (Elt F) f4) _ (k0_off6_inb i k) _ 1 (off6 i k),
    ← kblk_of (arg3.view.read (Elt F) f3) _ (k0_off7_inb i k) _ 2 (off7 i k), ← kblk_of (arg4.view.read (Elt F) f4) _ (k0_off7_inb i k) _ 2 (off7 i k),
    ← kblk_of (arg3.view.read (Elt F) f3) _ (k0_off8_inb i k) _ 3 (off8 i k), ← kblk_of (arg4.view.read (Elt F) f4) _ (k0_off8_inb i k) _ 3 (off8 i k),
    ← kblk_of (arg3.view.read (Elt F) f3) _ (k0_off9_inb i k) _ 0 (off9 i k), ← kblk_of (arg4.view.read (Elt F) f4) _ (k0_off9_inb i k) _ 0 (off9 i k),
    ← kblk_of (arg3.view.read (Elt F) f3) _ (k0_off10_inb i k) _ 1 (off10 i k), ← kblk_of (arg4.view.read (Elt F) f4) _ (k0_off10_inb i k) _ 1 (off10 i k),
    ← kblk_of (arg3.view.read (Elt F) f3) _ (k0_off11_inb i k) _ 2 (off11 i k), ← kblk_of (arg4.view.read (Elt F) f4) _ (k0_off11_inb i k) _ 2 (off11 i k),
    ← kblk_of (arg3.view.read (Elt F) f3) _ (k0_off12_inb i k) _ 3 (off12 i k), ← kblk_of (arg4.view.read (Elt F) f4) _ (k0_off12_inb i k) _ 3 (off12 i k)]
  rfl

/-- The pairs' loop from the carries after `0` blocks: after `n` trips, the carries after `2 n`. -/
theorem loop_eq (arg1 : BitVec 32) (x0 : Vec F S256x512 .bf16) (n : ℕ) (hn : n ≤ (k0_t1_loop i).trips) :
    st_k0_t1 (F := F) Variants.none c none i arg2 harg2 arg3 harg3 arg4 harg4 arg5 harg5 arg1 (qblk x0 0) (qblk x0 1) (qblk x0 2) (qblk x0 3) k0_pay117 f3 f4
        (pack fun h => carry x0 (arg3.view.read (Elt F) f3) (arg4.view.read (Elt F) f4) (i 1).val h 0) n
      = pack fun h => carry x0 (arg3.view.read (Elt F) f3) (arg4.view.read (Elt F) f4) (i 1).val h (2 * n) := by
  induction n with
  | zero => rfl
  | succ n ih =>
    refine (st_k0_t1_succ (F := F) Variants.none c none i arg2 harg2 arg3 harg3 arg4 harg4 arg5 harg5 arg1 (qblk x0 0) (qblk x0 1) (qblk x0 2) (qblk x0 3) k0_pay117 f3 f4 _ ⟨n, hn⟩).trans ?_
    rw [ih (Nat.le_of_succ_le hn), trip_eq c i arg2 harg2 arg3 harg3 arg4 harg4 arg5 harg5 f3 f4 arg1 (fun h => qblk x0 h) ⟨n, hn⟩]
    rfl

/-- The carries after the diagonal block, as the body computes them. -/
def initB (x0 : Vec F S256x512 .bf16) (x1 x2 : Vec F S2048x512 .bf16) : FVec F S256x128 .f32 × FVec F S256x1 .f32 × FVec F S256x128 .f32 × FVec F S256x1 .f32 × FVec F S256x128 .f32 × FVec F S256x1 .f32 × FVec F S256x128 .f32 × FVec F S256x1 .f32 :=
  let s0 := stepD (qblk x0 0) (View.ld x1 (Rect.unit (s := S2048x512) (k0_off1 i) S256x128.size (k0_off1_inb i))) (View.ld x2 (Rect.unit (s := S2048x512) (k0_off1 i) S256x128.size (k0_off1_inb i)))
  let s1 := stepD (qblk x0 1) (View.ld x1 (Rect.unit (s := S2048x512) (k0_off2 i) S256x128.size (k0_off2_inb i))) (View.ld x2 (Rect.unit (s := S2048x512) (k0_off2 i) S256x128.size (k0_off2_inb i)))
  let s2 := stepD (qblk x0 2) (View.ld x1 (Rect.unit (s := S2048x512) (k0_off3 i) S256x128.size (k0_off3_inb i))) (View.ld x2 (Rect.unit (s := S2048x512) (k0_off3 i) S256x128.size (k0_off3_inb i)))
  let s3 := stepD (qblk x0 3) (View.ld x1 (Rect.unit (s := S2048x512) (k0_off4 i) S256x128.size (k0_off4_inb i))) (View.ld x2 (Rect.unit (s := S2048x512) (k0_off4 i) S256x128.size (k0_off4_inb i)))
  (s0.1, s0.2, s1.1, s1.2, s2.1, s2.2, s3.1, s3.2)

theorem initB_eq (x0 : Vec F S256x512 .bf16) (x1 x2 : Vec F S2048x512 .bf16) :
    initB i x0 x1 x2 = pack fun h => carry x0 x1 x2 (i 1).val h 0 := by
  unfold initB pack
  dsimp only
  rw [kblk_of x1 _ _ _ 0 (offD1 i), kblk_of x2 _ _ _ 0 (offD1 i), kblk_of x1 _ _ _ 1 (offD2 i), kblk_of x2 _ _ _ 1 (offD2 i),
    kblk_of x1 _ _ _ 2 (offD3 i), kblk_of x2 _ _ _ 2 (offD3 i), kblk_of x1 _ _ _ 3 (offD4 i), kblk_of x2 _ _ _ 3 (offD4 i)]
  rfl

/-- Both loops together: every block but, at an odd query block, the first. -/
theorem loops_eq (arg1 v182 : BitVec 32) (x0 : Vec F S256x512 .bf16) :
    st_k0_t2 (F := F) Variants.none c none i arg2 harg2 arg3 harg3 arg4 harg4 arg5 harg5 arg1 (qblk x0 0) (qblk x0 1) (qblk x0 2) (qblk x0 3) k0_pay117 v182 f3 f4
        (st_k0_t1 (F := F) Variants.none c none i arg2 harg2 arg3 harg3 arg4 harg4 arg5 harg5 arg1 (qblk x0 0) (qblk x0 1) (qblk x0 2) (qblk x0 3) k0_pay117 f3 f4
          (initB i x0 (arg3.view.read (Elt F) f3) (arg4.view.read (Elt F) f4))
          (Scf.trips (k0_t1_loop i).lb (k0_t1_loop i).ub (k0_t1_loop i).st))
        (Scf.trips (k0_t2_loop i).lb (k0_t2_loop i).ub (k0_t2_loop i).st)
      = pack fun h => carry x0 (arg3.view.read (Elt F) f3) (arg4.view.read (Elt F) f4) (i 1).val h (2 * ((i 1).val / 2)) := by
  rw [trips2 i, st_k0_t2_zero, initB_eq, loop_eq _ _ _ _ _ _ _ _ _ _ _ _ _ _ _ (Nat.le_refl _), ← trips1 i]

end Loop

/-! ## The body's triple -/

/-- What the body leaves in the result's window: each head's total over all its blocks, rounded. -/
def outF (i : grid0.Coords) (x0 : Vec F S256x512 .bf16) (x1 x2 : Vec F S2048x512 .bf16) : Vec F S256x512 .bf16 :=
  View.canon [⟨Rect.unit (s := S256x512) ![0, 384] S256x128.size inb_S256x512_S256x128_0_384, truncf .bf16 (carry x0 x1 x2 (i 1).val 3 (i 1).val).1 bitsLt_bf16_f32⟩,
    ⟨Rect.unit (s := S256x512) ![0, 256] S256x128.size inb_S256x512_S256x128_0_256, truncf .bf16 (carry x0 x1 x2 (i 1).val 2 (i 1).val).1 bitsLt_bf16_f32⟩,
    ⟨Rect.unit (s := S256x512) ![0, 128] S256x128.size inb_S256x512_S256x128_0_128, truncf .bf16 (carry x0 x1 x2 (i 1).val 1 (i 1).val).1 bitsLt_bf16_f32⟩,
    ⟨Rect.unit (s := S256x512) ![0, 0] S256x128.size inb_S256x512_S256x128_0_0, truncf .bf16 (carry x0 x1 x2 (i 1).val 0 (i 1).val).1 bitsLt_bf16_f32⟩]

/-- The four stores tile the window. -/
theorem cover_out (p0 p1 p2 p3 : Vec F S256x128 .bf16) (y : S256x512.Idx) :
    ∃ pc ∈ ([⟨Rect.unit (s := S256x512) ![0, 384] S256x128.size inb_S256x512_S256x128_0_384, p3⟩,
      ⟨Rect.unit (s := S256x512) ![0, 256] S256x128.size inb_S256x512_S256x128_0_256, p2⟩,
      ⟨Rect.unit (s := S256x512) ![0, 128] S256x128.size inb_S256x512_S256x128_0_128, p1⟩,
      ⟨Rect.unit (s := S256x512) ![0, 0] S256x128.size inb_S256x512_S256x128_0_0, p0⟩] : List (View.Piece (Elt F) S256x512 .bf16)), y ∈ pc.1.set :=
  View.cover_of_tiled [⟨Rect.unit (s := S256x512) ![0, 384] S256x128.size inb_S256x512_S256x128_0_384, p3⟩,
      ⟨Rect.unit (s := S256x512) ![0, 256] S256x128.size inb_S256x512_S256x128_0_256, p2⟩,
      ⟨Rect.unit (s := S256x512) ![0, 128] S256x128.size inb_S256x512_S256x128_0_128, p1⟩,
      ⟨Rect.unit (s := S256x512) ![0, 0] S256x128.size inb_S256x512_S256x128_0_0, p0⟩] S256x128.size (by rfl) y

/-- The pieces read back, their values named: four equations suffice. -/
theorem read_pieces {arg5 : Memref sig .tc .vmem S256x512 .bf16} (f5 : BufTy.Contents (Elt F) arg5.view.ty) (i : grid0.Coords)
    (x0 : Vec F S256x512 .bf16) (x1 x2 : Vec F S2048x512 .bf16) (p0 p1 p2 p3 : Vec F S256x128 .bf16)
    (h0 : p0 = truncf .bf16 (carry x0 x1 x2 (i 1).val 0 (i 1).val).1 bitsLt_bf16_f32) (h1 : p1 = truncf .bf16 (carry x0 x1 x2 (i 1).val 1 (i 1).val).1 bitsLt_bf16_f32)
    (h2 : p2 = truncf .bf16 (carry x0 x1 x2 (i 1).val 2 (i 1).val).1 bitsLt_bf16_f32) (h3 : p3 = truncf .bf16 (carry x0 x1 x2 (i 1).val 3 (i 1).val).1 bitsLt_bf16_f32) :
    arg5.view.read (Elt F) (arg5.view.writes (Elt F) f5 [⟨Rect.unit (s := S256x512) ![0, 384] S256x128.size inb_S256x512_S256x128_0_384, p3⟩,
      ⟨Rect.unit (s := S256x512) ![0, 256] S256x128.size inb_S256x512_S256x128_0_256, p2⟩,
      ⟨Rect.unit (s := S256x512) ![0, 128] S256x128.size inb_S256x512_S256x128_0_128, p1⟩,
      ⟨Rect.unit (s := S256x512) ![0, 0] S256x128.size inb_S256x512_S256x128_0_0, p0⟩]) = outF i x0 x1 x2 := by
  subst h0 h1 h2 h3
  exact View.read_writes_eq_canon _ _ _ (cover_out _ _ _ _)

/-- The blocks the loops left: none, or one more step at block `0`. -/
theorem carry_even {i : grid0.Coords} (hc : ¬ k0_cond1 i = 1#1) (x0 : Vec F S256x512 .bf16) (x1 x2 : Vec F S2048x512 .bf16) (h : Fin 4) :
    carry x0 x1 x2 (i 1).val h (2 * ((i 1).val / 2)) = carry x0 x1 x2 (i 1).val h (i 1).val := by
  have := (cond_odd i).not.1 hc
  exact congrArg _ (by omega)

theorem carry_odd {i : grid0.Coords} (hc : k0_cond1 i = 1#1) (x0 : Vec F S256x512 .bf16) (x1 x2 : Vec F S2048x512 .bf16) (h : Fin 4) :
    stepB (qblk x0 h) (kblk x1 0 h) (kblk x2 0 h) (carry x0 x1 x2 (i 1).val h (2 * ((i 1).val / 2))) = carry x0 x1 x2 (i 1).val h (i 1).val := by
  have h1 := (cond_odd i).1 hc
  obtain ⟨b, hb⟩ : ∃ b, (i 1).val = 2 * b + 1 := ⟨(i 1).val / 2, by omega⟩
  rw [hb, show 2 * ((2 * b + 1) / 2) = 2 * b by omega]
  show _ = stepB _ _ _ _
  rw [show 2 * b + 1 - 1 - 2 * b = 0 by omega]

end Cert.Proof.SbIdeal
-- ==== Proof.SbIdealRun.lean ====
module

public import proofs.«01_k».proof.Proof.SbIdealBody
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.Gen.SbIdeal.Frame
public import Idealize.ShloMosaic.Lib.Tactic
public import Idealize.ShloMosaic.Lib.Pipeline.Kit

@[expose] public section

set_option maxRecDepth 16384

noncomputable section

namespace Cert.Proof.SbIdeal

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] st_k0_t1 st_k0_t2

set_option maxHeartbeats 4000000 in
/-- The body on whole staging buffers, the inputs' at `x0`, `x1`, `x2`, leaves `outF` of them in the result's. -/
theorem sound_kernel (c : Dev nD) (E : Set ℕ) (i : grid0.Coords) (arg2 : Memref sig .tc .vmem S256x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S256x512 .bf16) (harg5 : arg5.IsWhole)
    (x0 : Vec F S256x512 .bf16) (x1 x2 : Vec F S2048x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outF i x0 x1 x2)) -∗ K ⟨⟩))
      ⊢ wp frame (wpE (defs₀ (F := F)) Variants.none c none) E (cc0_sb_attention i arg2 harg2 arg3 harg3 arg4 harg4 arg5 harg5) K := by
  simp only [cc0_sb_attention_eq_skeleton]; unfold cc0_sb_attention_skel
  unfold owns
  iintro ⟨⟨%f2, %hf2, H2⟩, ⟨%f3, %hf3, H3⟩, ⟨%f4, %hf4, H4⟩, ⟨%d5, %f5, -, H5⟩, Hk⟩
  subst hf2 hf3 hf4
  have hl := fun v => loops_eq c i arg2 harg2 arg3 harg3 arg4 harg4 arg5 harg5 f3 f4 (BitVec.ofNat 32 (i 1).val) v (arg2.view.read (Elt F) f2)
  by_cases hc : k0_cond1 i = 1#1
  · sl_exec (disch := sl_exact hc)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine read_pieces f5 i _ _ _ _ _ _ _ ?_ ?_ ?_ ?_
    · exact (congrArg (fun p : _ × _ × _ × _ × _ × _ × _ × _ => truncf .bf16 (stepB (qblk (arg2.view.read (Elt F) f2) 0) (kblk (arg3.view.read (Elt F) f3) 0 0) (kblk (arg4.view.read (Elt F) f4) 0 0) (p.1, p.2.1)).1 bitsLt_bf16_f32) (hl _)).trans (congrArg (fun p : Carry F => truncf .bf16 p.1 bitsLt_bf16_f32) (carry_odd hc _ _ _ 0))
    · exact (congrArg (fun p : _ × _ × _ × _ × _ × _ × _ × _ => truncf .bf16 (stepB (qblk (arg2.view.read (Elt F) f2) 1) (kblk (arg3.view.read (Elt F) f3) 0 1) (kblk (arg4.view.read (Elt F) f4) 0 1) (p.2.2.1, p.2.2.2.1)).1 bitsLt_bf16_f32) (hl _)).trans (congrArg (fun p : Carry F => truncf .bf16 p.1 bitsLt_bf16_f32) (carry_odd hc _ _ _ 1))
    · exact (congrArg (fun p : _ × _ × _ × _ × _ × _ × _ × _ => truncf .bf16 (stepB (qblk (arg2.view.read (Elt F) f2) 2) (kblk (arg3.view.read (Elt F) f3) 0 2) (kblk (arg4.view.read (Elt F) f4) 0 2) (p.2.2.2.2.1, p.2.2.2.2.2.1)).1 bitsLt_bf16_f32) (hl _)).trans (congrArg (fun p : Carry F => truncf .bf16 p.1 bitsLt_bf16_f32) (carry_odd hc _ _ _ 2))
    · exact (congrArg (fun p : _ × _ × _ × _ × _ × _ × _ × _ => truncf .bf16 (stepB (qblk (arg2.view.read (Elt F) f2) 3) (kblk (arg3.view.read (Elt F) f3) 0 3) (kblk (arg4.view.read (Elt F) f4) 0 3) (p.2.2.2.2.2.2.1, p.2.2.2.2.2.2.2)).1 bitsLt_bf16_f32) (hl _)).trans (congrArg (fun p : Carry F => truncf .bf16 p.1 bitsLt_bf16_f32) (carry_odd hc _ _ _ 3))
  · sl_exec (disch := sl_exact hc)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine read_pieces f5 i _ _ _ _ _ _ _ ?_ ?_ ?_ ?_
    · exact (congrArg (fun p : _ × _ × _ × _ × _ × _ × _ × _ => truncf .bf16 p.1 bitsLt_bf16_f32) (hl _)).trans (congrArg (fun p : Carry F => truncf .bf16 p.1 bitsLt_bf16_f32) (carry_even hc _ _ _ 0))
    · exact (congrArg (fun p : _ × _ × _ × _ × _ × _ × _ × _ => truncf .bf16 p.2.2.1 bitsLt_bf16_f32) (hl _)).trans (congrArg (fun p : Carry F => truncf .bf16 p.1 bitsLt_bf16_f32) (carry_even hc _ _ _ 1))
    · exact (congrArg (fun p : _ × _ × _ × _ × _ × _ × _ × _ => truncf .bf16 p.2.2.2.2.1 bitsLt_bf16_f32) (hl _)).trans (congrArg (fun p : Carry F => truncf .bf16 p.1 bitsLt_bf16_f32) (carry_even hc _ _ _ 2))
    · exact (congrArg (fun p : _ × _ × _ × _ × _ × _ × _ × _ => truncf .bf16 p.2.2.2.2.2.2.1 bitsLt_bf16_f32) (hl _)).trans (congrArg (fun p : Carry F => truncf .bf16 p.1 bitsLt_bf16_f32) (carry_even hc _ _ _ 3))

end Cert.Proof.SbIdeal
-- ==== Proof.SbIdealFrame.lean ====
module

public import proofs.«01_k».proof.Proof.SbIdealRun
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.Gen.SbIdeal.Frame
public import Idealize.ShloMosaic.Lib.Tactic
public import Idealize.ShloMosaic.Lib.Pipeline.Kit
public import Idealize.ShloMosaic.Lib.Pipeline.FrameBody
public import Idealize.ShloMosaic.Lib.Claim

@[expose] public section

set_option maxRecDepth 16384

noncomputable section

namespace Cert.Proof.SbIdeal

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's data: three input windows on the one projection array, one window on the result -/

/-- The projection array is shared by its three windows, each holding its share of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outF (grid0.coords t) (iblk m c 0 t) (iblk m c 1 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_out (c : Dev nD) (t : Fin cfg0.N) :
    (dats m 0 c).after 3 t = outF (grid0.coords t) (iblk m c 0 t) (iblk m c 1 t) (iblk m c 2 t) := by dsimp only [dats]

theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-! ## The body at a point -/

/-- What the body finds at a point: the windows' staging buffers one by one. -/
def entry (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it leaves there. -/
def exit (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    entry m c t ⊢ wp frame (wpE (defs₀ (F := F)) Variants.none c none) Set.univ (bodyAt0 t) (fun _ => exit m c t) := by
  unfold entry exit bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_out]
  iintro ⟨HΦ, Ho, ⟨%dq, Hq⟩, ⟨%dk, Hk⟩, ⟨%dv, Hv⟩, ⟨%dr, Hr⟩⟩
  iapply (sound_kernel c Set.univ (grid0.coords t) _ _ _ _ _ _ _ _ (iblk m c 0 t) (iblk m c 1 t) (iblk m c 2 t) _)
  isplitl [Hq]; · iexact Hq
  isplitl [Hk]; · iexact Hk
  isplitl [Hv]; · iexact Hv
  isplitl [Hr]; · iexists _; iexact Hr
  iintro ⟨Hq, Hk, Hv, Hr⟩
  isplitl [HΦ]; · iexact HΦ
  isplitl [Ho]; · iexact Ho
  isplitl [Hq]; · iexact Hq
  isplitl [Hk]; · iexact Hk
  isplitl [Hv]; · iexact Hv
  iexact Hr

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
set_option maxHeartbeats 800000 in
/-- Every run ends, with the arrays at what the launch's data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun c w _ => rfl) (howed := fun _ _ => rfl) (V := V m)
    (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame claim, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_quiet m ρ))

end Cert.Proof.SbIdeal
-- ==== Proof.SbMath.lean ====
module

public import Idealize.ShloMosaic.Lib.Pointwise

@[expose] public section

noncomputable section

/-! The stick-breaking weights over the real numbers, and the sums both programs take of them. -/

namespace Cert.Proof.SbMath

open Idealize.ShloMosaic

/-- The logarithm of the logistic function. -/
def lb (x : ℝ) : ℝ := min x 0 - Real.log (1 + Real.exp (-|x|))

/-- The logarithm of what the logistic function leaves of one. -/
def lr (x : ℝ) : ℝ := lb x - x

theorem lb_neg (x : ℝ) : lb (-x) = lr x := by
  unfold lr lb
  rw [abs_neg]
  rcases le_total x 0 with h | h
  · rw [min_eq_right (by linarith), min_eq_left h]; ring
  · rw [min_eq_left (by linarith), min_eq_right h]; ring

variable (t : ℕ) (z : ℕ → ℝ)

/-- What key `k` leaves, as a logarithm: nothing is taken at the query and after it. -/
def rest (k : ℕ) : ℝ := if k < t then lr (z k) else 0

/-- The weight of key `s` at query `t`. -/
def w (s : ℕ) : ℝ := if s < t then Real.exp (lb (z s) + ∑ k ∈ Finset.Ico (s + 1) 2048, rest t z k) else 0

/-- The later keys' sum stops anywhere from the query on. -/
theorem rest_tail (a e : ℕ) (hte : t ≤ e) (ha : a ≤ e) (he : e ≤ 2048) :
    ∑ k ∈ Finset.Ico a 2048, rest t z k = ∑ k ∈ Finset.Ico a e, rest t z k := by
  rw [← Finset.sum_Ico_consecutive _ ha he]
  rw [Finset.sum_eq_zero (s := Finset.Ico e 2048), add_zero]
  intro k hk
  have := (Finset.mem_Ico.1 hk).1
  exact if_neg (by omega)

theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A sum over the places of a block is the sum over an interval. -/
theorem sum_block {M : Type} [AddCommMonoid M] (B n : ℕ) (f : ℕ → M) : ∑ j : Fin n, f (B + j.val) = ∑ s ∈ Finset.Ico B (B + n), f s := by
  rw [Finset.sum_Ico_eq_sum_range, Nat.add_sub_cancel_left, Fin.sum_univ_eq_sum_range (fun j => f (B + j))]

/-- The places of a block after one of them. -/
theorem sum_after (B n j : ℕ) (hj : j < n) (f : ℕ → ℝ) :
    ∑ k : Fin n, (if j < k.val then f (B + k.val) else 0) = ∑ s ∈ Finset.Ico (B + j + 1) (B + n), f s := by
  have h := sum_block B n (fun s => if B + j < s then f s else 0)
  rw [show (∑ k : Fin n, (if j < k.val then f (B + k.val) else 0)) = ∑ k : Fin n, (if B + j < B + k.val then f (B + k.val) else 0) from
    Finset.sum_congr rfl fun k _ => if_congr (by omega) rfl rfl, h, ← Finset.sum_filter]
  refine Finset.sum_congr (Finset.ext fun s => ?_) fun _ _ => rfl
  simp only [Finset.mem_filter, Finset.mem_Ico]
  omega

/-- The places from one of them on. -/
theorem sum_from (n j : ℕ) (f : ℕ → ℝ) :
    ∑ k : Fin n, (if j + k.val < n then f (j + k.val) else 0) = ∑ s ∈ Finset.Ico j n, f s := by
  have h := sum_block j n (fun s => if s < n then f s else 0)
  rw [h, ← Finset.sum_filter]
  refine Finset.sum_congr (Finset.ext fun s => ?_) fun _ _ => rfl
  simp only [Finset.mem_filter, Finset.mem_Ico]
  omega

/-! ## The functions at a real number -/

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

theorem absf_coe (x : ℝ) : FloatOps.absf (F := Ideal) (φ := .f32) (x : EReal) = ((|x| : ℝ) : EReal) := by
  show max (x : EReal) (-(x : EReal)) = _
  rw [← EReal.coe_neg, coe_max]; rfl

theorem log1p_exp_coe (x : ℝ) : Ideal.log (1 + Ideal.exp (x : EReal)) = ((Real.log (1 + Real.exp x) : ℝ) : EReal) := by
  rw [Ideal.exp_coe, ← EReal.coe_one, ← EReal.coe_add, Ideal.log_coe, if_neg]
  have := Real.exp_pos x
  linarith

theorem logBeta_coe (x : ℝ) :
    min (x : EReal) 0 - Ideal.log (1 + Ideal.exp (0 - FloatOps.absf (F := Ideal) (φ := .f32) (x : EReal))) = ((lb x : ℝ) : EReal) := by
  rw [absf_coe, ← EReal.coe_zero, ← EReal.coe_sub, log1p_exp_coe, coe_min, ← EReal.coe_sub, zero_sub]; rfl

theorem logSig_coe (x : ℝ) :
    -(max (x : EReal) 0 + Ideal.log1p (Ideal.exp (-FloatOps.absf (F := Ideal) (φ := .f32) (x : EReal)))) = ((lb (-x) : ℝ) : EReal) := by
  rw [Ideal.log1p, absf_coe, ← EReal.coe_neg, log1p_exp_coe, ← EReal.coe_zero, coe_max, ← EReal.coe_add, ← EReal.coe_neg]
  congr 1
  unfold lb
  rw [abs_neg, neg_add, ← min_neg_neg, neg_zero, sub_eq_add_neg]

end Cert.Proof.SbMath
-- ==== Proof.SbStep.lean ====
module

public import proofs.«01_k».proof.Proof.SbIdealBody
public import proofs.«01_k».proof.Proof.SbMath
public import Idealize.ShloMosaic.Lib.Pointwise
public import Idealize.ShloMosaic.Lib.WordCmp

@[expose] public section

set_option maxRecDepth 16384

noncomputable section

/-! One block of keys at one query, over the real numbers: the block adds its own interval to both sums carried. -/

namespace Cert.Proof.SbIdeal

open Cert.SbIdeal Cert.SbIdeal.Gen Idealize.ShloMosaic Idealize.ShloMosaic.TcCoe Idealize.SL.Sem
open Cert.Proof.SbMath

theorem score_apply (q k : Vec Ideal S256x128 .bf16) (r j : Fin 256) :
    score q k (ix2 r j) = (∑ x, q (ix2 r x) * k (ix2 j x)) * Ideal.ofBits .f32 0x3DB504F3#32 := by
  pointwise [score]
theorem logBeta_apply (z : FVec Ideal S256x256 .f32) (r j : Fin 256) :
    logBeta z (ix2 r j) = min (z (ix2 r j)) 0 - Ideal.log (1 + Ideal.exp (0 - FloatOps.absf (F := Ideal) (φ := .f32) (z (ix2 r j)))) := by
  pointwise [logBeta]
theorem logRest_apply (z : FVec Ideal S256x256 .f32) (r j : Fin 256) : logRest z (ix2 r j) = logBeta z (ix2 r j) - z (ix2 r j) := by
  pointwise [logRest]
theorem later_apply (l : FVec Ideal S256x256 .f32) (r j : Fin 256) : later l (ix2 r j) = ∑ x, l (ix2 r x) * k0_pay117 (F := Ideal) (ix2 x j) := by
  pointwise [later]
theorem weight_apply (z l : FVec Ideal S256x256 .f32) (run : FVec Ideal S256x1 .f32) (r j : Fin 256) :
    weight z l run (ix2 r j) = Ideal.exp (logBeta z (ix2 r j) + later l (ix2 r j) + run (ix2 r 0)) := by
  pointwise [weight]
theorem addValues_apply (acc : FVec Ideal S256x128 .f32) (w : FVec Ideal S256x256 .f32) (v : Vec Ideal S256x128 .bf16) (r : Fin 256) (d : Fin 128) :
    addValues acc w v (ix2 r d) = acc (ix2 r d) + ∑ x, w (ix2 r x) * v (ix2 x d) := by
  pointwise [addValues]
theorem addRest_apply (l : FVec Ideal S256x256 .f32) (run : FVec Ideal S256x1 .f32) (r : Fin 256) :
    addRest run l (ix2 r 0) = run (ix2 r 0) + later l (ix2 r 0) + l (ix2 r 0) := by
  pointwise [addRest]
theorem zero_apply1 (r : Fin 256) (d : Fin 128) : (zero (F := Ideal)).1 (ix2 r d) = 0 := by
  pointwise [zero]
theorem zero_apply2 (r : Fin 256) : (zero (F := Ideal)).2 (ix2 r 0) = 0 := by
  pointwise [zero]

/-- The triangle: the row is after the column. -/
theorem below_apply (r j : Fin 256) : k0_pay116 (ix2 r j) = if j.val < r.val then 1#1 else 0#1 := by
  have h : k0_pay116 (ix2 r j) = IntOp.cmpi .sgt (BitVec.ofNat 32 r.val) (BitVec.ofNat 32 j.val) := by pointwise [k0_pay116]
  rw [h, WordCmp.cmpi_sgt_ofNat (by have := r.isLt; omega) (by have := j.isLt; omega)]
  by_cases hj : j.val < r.val
  · rw [if_pos hj, decide_eq_true hj]; rfl
  · rw [if_neg hj, decide_eq_false hj]; rfl

theorem triangle_apply (k j : Fin 256) : k0_pay117 (F := Ideal) (ix2 k j) = if j.val < k.val then 1 else 0 := by
  have h : k0_pay117 (F := Ideal) (ix2 k j) = Scalar.select (k0_pay116 (ix2 k j)) (1 : EReal) 0 := by pointwise [k0_pay117]
  rw [h, below_apply]
  split <;> rfl

variable (t : ℕ) (z : ℕ → ℝ) (u : ℕ → EReal)

/-- The later keys of the block. -/
theorem later_at (l : FVec Ideal S256x256 .f32) (r : Fin 256) (B : ℕ) (f : ℕ → ℝ) (hl : ∀ k : Fin 256, l (ix2 r k) = ((f (B + k.val) : ℝ) : EReal)) (j : Fin 256) :
    later l (ix2 r j) = ((∑ s ∈ Finset.Ico (B + j.val + 1) (B + 256), f s : ℝ) : EReal) := by
  rw [later_apply, ← sum_after B 256 j.val j.isLt f, ← sum_coe]
  refine Finset.sum_congr rfl fun k _ => ?_
  rw [hl k, triangle_apply]
  split <;> simp

/-- The running logarithm takes in the whole block. -/
theorem addRest_at (l : FVec Ideal S256x256 .f32) (run : FVec Ideal S256x1 .f32) (r : Fin 256) (B : ℕ) (f : ℕ → ℝ)
    (hl : ∀ k : Fin 256, l (ix2 r k) = ((f (B + k.val) : ℝ) : EReal)) (x : ℝ) (hrun : run (ix2 r 0) = (x : EReal)) :
    addRest run l (ix2 r 0) = ((∑ s ∈ Finset.Ico B (B + 256), f s + x : ℝ) : EReal) := by
  have h0 : later l (ix2 r 0) = ((∑ s ∈ Finset.Ico (B + 1) (B + 256), f s : ℝ) : EReal) := later_at l r B f hl 0
  have h1 : l (ix2 r 0) = ((f B : ℝ) : EReal) := hl 0
  rw [addRest_apply, hrun, h0, h1, ← EReal.coe_add, ← EReal.coe_add, Finset.sum_eq_sum_Ico_succ_bot (show B < B + 256 by omega) f]
  congr 1
  ring

theorem logBeta_at (s : FVec Ideal S256x256 .f32) (r j : Fin 256) (x : ℝ) (h : s (ix2 r j) = (x : EReal)) : logBeta s (ix2 r j) = ((lb x : ℝ) : EReal) := by
  rw [logBeta_apply, h, logBeta_coe]

theorem logRest_at (s : FVec Ideal S256x256 .f32) (r j : Fin 256) (x : ℝ) (h : s (ix2 r j) = (x : EReal)) : logRest s (ix2 r j) = ((lr x : ℝ) : EReal) := by
  rw [logRest_apply, logBeta_at s r j x h, h, ← EReal.coe_sub]; rfl

/-- The weight of a key before the query, from the block's own later keys and the blocks after it. -/
theorem weight_at (s l : FVec Ideal S256x256 .f32) (run : FVec Ideal S256x1 .f32) (r : Fin 256) (B E : ℕ) (hBE : B + 256 ≤ E) (htE : t ≤ E) (hE : E ≤ 2048)
    (hs : ∀ j : Fin 256, s (ix2 r j) = ((z (B + j.val) : ℝ) : EReal)) (hl : ∀ j : Fin 256, l (ix2 r j) = ((rest t z (B + j.val) : ℝ) : EReal))
    (hrun : run (ix2 r 0) = ((∑ k ∈ Finset.Ico (B + 256) E, rest t z k : ℝ) : EReal)) (j : Fin 256) (hj : B + j.val < t) :
    weight s l run (ix2 r j) = ((w t z (B + j.val) : ℝ) : EReal) := by
  have hj' := j.isLt
  rw [weight_apply, logBeta_at s r j _ (hs j), later_at l r B _ hl j, hrun, ← EReal.coe_add, ← EReal.coe_add, Ideal.exp_coe, w, if_pos hj,
    rest_tail t z _ E htE (by omega) hE, ← Finset.sum_Ico_consecutive _ (show B + j.val + 1 ≤ B + 256 by omega) hBE, add_assoc]

/-- The block's weighted values join those of the blocks after it. -/
theorem addValues_at (acc : FVec Ideal S256x128 .f32) (p : FVec Ideal S256x256 .f32) (v : Vec Ideal S256x128 .bf16) (r : Fin 256) (d : Fin 128) (B E : ℕ) (hBE : B + 256 ≤ E)
    (hp : ∀ j : Fin 256, p (ix2 r j) = ((w t z (B + j.val) : ℝ) : EReal)) (hv : ∀ j : Fin 256, v (ix2 j d) = u (B + j.val))
    (hacc : acc (ix2 r d) = ∑ s ∈ Finset.Ico (B + 256) E, ((w t z s : ℝ) : EReal) * u s) :
    addValues acc p v (ix2 r d) = ∑ s ∈ Finset.Ico B E, ((w t z s : ℝ) : EReal) * u s := by
  rw [addValues_apply, hacc, ← Finset.sum_Ico_consecutive _ (show B ≤ B + 256 by omega) hBE, add_comm, ← sum_block B 256 (fun s => ((w t z s : ℝ) : EReal) * u s)]
  refine congrArg (· + _) (Finset.sum_congr rfl fun j _ => ?_)
  rw [hp j, hv j]

/-- An off-diagonal block. -/
theorem stepB_at (q k v : Vec Ideal S256x128 .bf16) (s : Carry Ideal) (r : Fin 256) (d : Fin 128) (B E : ℕ) (hBt : B + 256 ≤ t) (htE : t ≤ E) (hE : E ≤ 2048)
    (hs : ∀ j : Fin 256, score q k (ix2 r j) = ((z (B + j.val) : ℝ) : EReal)) (hv : ∀ j : Fin 256, v (ix2 j d) = u (B + j.val))
    (hrun : s.2 (ix2 r 0) = ((∑ k ∈ Finset.Ico (B + 256) E, rest t z k : ℝ) : EReal))
    (hacc : s.1 (ix2 r d) = ∑ s ∈ Finset.Ico (B + 256) E, ((w t z s : ℝ) : EReal) * u s) :
    (stepB q k v s).1 (ix2 r d) = (∑ s ∈ Finset.Ico B E, ((w t z s : ℝ) : EReal) * u s)
      ∧ (stepB q k v s).2 (ix2 r 0) = ((∑ k ∈ Finset.Ico B E, rest t z k : ℝ) : EReal) := by
  have hl : ∀ j : Fin 256, logRest (score q k) (ix2 r j) = ((rest t z (B + j.val) : ℝ) : EReal) := fun j => by
    have := j.isLt
    rw [logRest_at _ r j _ (hs j), rest, if_pos (by omega)]
  refine ⟨addValues_at t z u _ _ v r d B E (by omega) (fun j => ?_) hv hacc, ?_⟩
  · have := j.isLt
    exact weight_at t z _ _ _ r B E (by omega) htE hE hs hl hrun j (by omega)
  · rw [← Finset.sum_Ico_consecutive _ (show B ≤ B + 256 by omega) (show B + 256 ≤ E by omega)]
    exact addRest_at _ _ r B _ hl _ hrun

/-- The diagonal block. -/
theorem stepD_at (q k v : Vec Ideal S256x128 .bf16) (r : Fin 256) (d : Fin 128) (B : ℕ) (ht : t = B + r.val) (hE : B + 256 ≤ 2048)
    (hs : ∀ j : Fin 256, score q k (ix2 r j) = ((z (B + j.val) : ℝ) : EReal)) (hv : ∀ j : Fin 256, v (ix2 j d) = u (B + j.val)) :
    (stepD q k v).1 (ix2 r d) = (∑ s ∈ Finset.Ico B (B + 256), ((w t z s : ℝ) : EReal) * u s)
      ∧ (stepD q k v).2 (ix2 r 0) = ((∑ k ∈ Finset.Ico B (B + 256), rest t z k : ℝ) : EReal) := by
  have hr := r.isLt
  have hl : ∀ j : Fin 256, logRestD (score q k) (ix2 r j) = ((rest t z (B + j.val) : ℝ) : EReal) := fun j => by
    have h : logRestD (score q k) (ix2 r j) = Scalar.select (k0_pay116 (ix2 r j)) (logRest (score q k) (ix2 r j)) (0 : EReal) := by pointwise [logRestD]
    rw [h, below_apply, logRest_at _ r j _ (hs j), rest]
    by_cases hjr : j.val < r.val
    · rw [if_pos hjr, if_pos (by omega)]; rfl
    · rw [if_neg hjr, if_neg (by omega)]; rfl
  have hz : (zero (F := Ideal)).2 (ix2 r 0) = ((∑ k ∈ Finset.Ico (B + 256) (B + 256), rest t z k : ℝ) : EReal) := by
    rw [zero_apply2]; simp
  refine ⟨addValues_at t z u _ _ v r d B (B + 256) le_rfl (fun j => ?_) hv (by rw [zero_apply1]; simp), ?_⟩
  · have h : select k0_pay116 (weight (score q k) (logRestD (score q k)) (zero (F := Ideal)).2) (broadcast S256x256 (Scalar.ofBits .f32 0x00000000#32)) (ix2 r j)
        = Scalar.select (k0_pay116 (ix2 r j)) (weight (score q k) (logRestD (score q k)) (zero (F := Ideal)).2 (ix2 r j)) (0 : EReal) := by pointwise []
    refine h.trans ?_
    rw [below_apply]
    by_cases hjr : j.val < r.val
    · rw [if_pos hjr, weight_at t z _ _ _ r B (B + 256) le_rfl (by omega) hE hs hl hz j (by omega)]; rfl
    · rw [if_neg hjr, w, if_neg (by omega)]; rfl
  · have := addRest_at _ (zero (F := Ideal)).2 r B _ hl 0 (by rw [zero_apply2]; simp)
    rw [add_zero] at this
    exact this

end Cert.Proof.SbIdeal
-- ==== Proof.SbRef.lean ====
module

public import proofs.«01_k».proof.Defs
public import proofs.«01_k».proof.Proof.Gen.SbRefIdeal.Run
public import Idealize.ShloMosaic.Lib.Pointwise
public import Idealize.ShloMosaic.Lib.WordCmp
public import proofs.«01_k».proof.Proof.SbMath

@[expose] public section

set_option maxRecDepth 16384

noncomputable section

namespace Cert.Proof.SbRef

open Cert.SbRefIdeal Cert.SbRefIdeal.Gen Idealize.ShloMosaic Idealize.ShloMosaic.TcCoe Idealize.SL.Sem

/-- The queries, heads apart. -/
def qs (p : FVec Ideal S16384x2048 .bf16) : FVec Ideal S8x2048x4x128 .f32 :=
  shapeCast _ (extractStridedSlice S16384x512 ![0, 0] (extf .f32 p bitsLt_bf16_f32) slices_S16384x2048_S16384x512_0_0) shapeCasts_S16384x512_S8x2048x4x128
/-- The keys, heads apart. -/
def ks (p : FVec Ideal S16384x2048 .bf16) : FVec Ideal S8x2048x4x128 .f32 :=
  shapeCast _ (extractStridedSlice S16384x512 ![0, 512] (extf .f32 p bitsLt_bf16_f32) slices_S16384x2048_S16384x512_0_512) shapeCasts_S16384x512_S8x2048x4x128
/-- The values, heads apart. -/
def vs (p : FVec Ideal S16384x2048 .bf16) : FVec Ideal S8x2048x4x128 .f32 :=
  shapeCast _ (extractStridedSlice S16384x512 ![0, 1024] (extf .f32 p bitsLt_bf16_f32) slices_S16384x2048_S16384x512_0_1024) shapeCasts_S16384x512_S8x2048x4x128

/-- The scaled scores. -/
def scores (q k : FVec Ideal S8x2048x4x128 .f32) : FVec Ideal S8x4x2048x2048 .f32 :=
  mulf (Host.dotGeneral dot_S8x2048x4x128_S8x2048x4x128_S8x4x2048x2048_3_3_1_1_02_02 none q k)
    (broadcastInDim S8x4x2048x2048 ![] bcast_S_S8x4x2048x2048 (constant S_ .f32 0x3DB504F3#32))

/-- Zero everywhere. -/
def zeros : FVec Ideal S8x4x2048x2048 .f32 := broadcastInDim S8x4x2048x2048 ![] bcast_S_S8x4x2048x2048 (constant S_ .f32 0x00000000#32)

/-- `-softplus (-x)`, as the reference writes it: `y` is `-x`. -/
def logSig (y : FVec Ideal S8x4x2048x2048 .f32) : FVec Ideal S8x4x2048x2048 .f32 :=
  Host.negf (select (cmpf .une (subf y zeros) (subf y zeros)) (addf y zeros)
    (addf (maximumf y zeros) (Host.log1p (Host.exp (Host.negf (Host.absf (subf y zeros)))))))

/-- Whether the key is before the query. -/
def before : IVec S8x4x2048x2048 1 :=
  broadcastInDim S8x4x2048x2048 ![2, 3] bcast_S2048x2048_S8x4x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

theorem qs_apply (p) (b : Fin 8) (t : Fin 2048) (h : Fin 4) (d : Fin 128) : qs p (ix4 b t h d) = p (ix2 ⟨b.val * 2048 + t.val, by omega⟩ ⟨h.val * 128 + d.val, by omega⟩) := by
  pointwise [qs]
theorem ks_apply (p) (b : Fin 8) (t : Fin 2048) (h : Fin 4) (d : Fin 128) : ks p (ix4 b t h d) = p (ix2 ⟨b.val * 2048 + t.val, by omega⟩ ⟨512 + (h.val * 128 + d.val), by omega⟩) := by
  pointwise [ks]
theorem vs_apply (p) (b : Fin 8) (t : Fin 2048) (h : Fin 4) (d : Fin 128) : vs p (ix4 b t h d) = p (ix2 ⟨b.val * 2048 + t.val, by omega⟩ ⟨1024 + (h.val * 128 + d.val), by omega⟩) := by
  pointwise [vs]
theorem scores_apply (q k) (b : Fin 8) (h : Fin 4) (t s : Fin 2048) :
    scores q k (ix4 b h t s) = (∑ x, q (ix4 b t h x) * k (ix4 b s h x)) * Ideal.ofBits .f32 0x3DB504F3#32 := by
  pointwise [scores]
theorem logSig_apply (y) (i : S8x4x2048x2048.Idx) :
    logSig y i = -if y i ≠ y i then y i else max (y i) 0 + Ideal.log1p (Ideal.exp (-FloatOps.absf (F := Ideal) (φ := .f32) (y i))) := by
  pointwise [logSig, zeros]
theorem before_apply (b : Fin 8) (h : Fin 4) (t s : Fin 2048) : before (ix4 b h t s) = if s.val < t.val then 1#1 else 0#1 := by
  have e : before (ix4 b h t s) = IntOp.cmpi .slt (BitVec.ofNat 32 s.val) (BitVec.ofNat 32 t.val) := by pointwise [before]
  rw [e]
  rw [WordCmp.cmpi_slt_ofNat (by have := s.isLt; omega) (by have := t.isLt; omega)]
  by_cases hst : s.val < t.val
  · rw [if_pos hst, decide_eq_true hst]; rfl
  · rw [if_neg hst, decide_eq_false hst]; rfl

/-- A folded addition is the sum. -/
theorem foldl_add {ι : Type} (f : ι → EReal) : ∀ (L : List ι) (a : EReal), L.foldl (fun r k => r + f k) a = a + (L.map f).sum
  | [], a => by simp
  | k :: L, a => by rw [List.foldl_cons, foldl_add f L, List.map_cons, List.sum_cons, add_assoc]

/-- The window's places: only the last axis moves. -/
def windowPlace : (⟨4, ![1, 1, 1, 2048]⟩ : Shape).Idx ≃ Fin 2048 where
  toFun x := x (3 : Fin 4)
  invFun k := ix4 (0 : Fin 1) (0 : Fin 1) (0 : Fin 1) k
  left_inv x := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- What a place of the window reads: the array where the place is inside it, and nothing outside. -/
theorem place_apply (l : FVec Ideal S8x4x2048x2048 .f32) (b : Fin 8) (h : Fin 4) (t s : Fin 2048) (x : (⟨4, ![1, 1, 1, 2048]⟩ : Shape).Idx)
    {inst : Decidable (∀ a : Fin S8x4x2048x2048.rank, (![0, 0, 0, 0] : Fin 4 → ℕ) a ≤ ((ix4 b h t s : S8x4x2048x2048.Idx) a).val * (![1, 1, 1, 1] : Fin 4 → ℕ) a + (x a).val
        ∧ ((ix4 b h t s : S8x4x2048x2048.Idx) a).val * (![1, 1, 1, 1] : Fin 4 → ℕ) a + (x a).val - (![0, 0, 0, 0] : Fin 4 → ℕ) a < S8x4x2048x2048.size a)} :
    (if hin : ∀ a : Fin S8x4x2048x2048.rank, (![0, 0, 0, 0] : Fin 4 → ℕ) a ≤ ((ix4 b h t s : S8x4x2048x2048.Idx) a).val * (![1, 1, 1, 1] : Fin 4 → ℕ) a + (x a).val
        ∧ ((ix4 b h t s : S8x4x2048x2048.Idx) a).val * (![1, 1, 1, 1] : Fin 4 → ℕ) a + (x a).val - (![0, 0, 0, 0] : Fin 4 → ℕ) a < S8x4x2048x2048.size a
      then l (fun a => ⟨((ix4 b h t s : S8x4x2048x2048.Idx) a).val * (![1, 1, 1, 1] : Fin 4 → ℕ) a + (x a).val - (![0, 0, 0, 0] : Fin 4 → ℕ) a, (hin a).2⟩) else (0 : EReal))
      = if hk : s.val + (windowPlace x).val < 2048 then l (ix4 b h t ⟨s.val + (windowPlace x).val, hk⟩) else 0 := by
  show _ = if hk : s.val + (x (3 : Fin 4)).val < 2048 then l (ix4 b h t ⟨s.val + (x (3 : Fin 4)).val, hk⟩) else 0
  have x0 : (x (0 : Fin 4)).val = 0 := Nat.lt_one_iff.1 (x (0 : Fin 4)).isLt
  have x1 : (x (1 : Fin 4)).val = 0 := Nat.lt_one_iff.1 (x (1 : Fin 4)).isLt
  have x2 : (x (2 : Fin 4)).val = 0 := Nat.lt_one_iff.1 (x (2 : Fin 4)).isLt
  have hb := b.isLt; have hh := h.isLt; have ht := t.isLt; have hs := s.isLt
  by_cases hk : s.val + (x (3 : Fin 4)).val < 2048
  · rw [dif_pos hk, dif_pos]
    · refine congrArg l (funext fun a => Fin.ext ?_)
      match a with
      | ⟨0, _⟩ => show b.val * 1 + (x (0 : Fin 4)).val - 0 = b.val; omega
      | ⟨1, _⟩ => show h.val * 1 + (x (1 : Fin 4)).val - 0 = h.val; omega
      | ⟨2, _⟩ => show t.val * 1 + (x (2 : Fin 4)).val - 0 = t.val; omega
      | ⟨3, _⟩ => show s.val * 1 + (x (3 : Fin 4)).val - 0 = s.val + (x (3 : Fin 4)).val; omega
    · intro a
      match a with
      | ⟨0, _⟩ => show 0 ≤ _ ∧ b.val * 1 + (x (0 : Fin 4)).val - 0 < 8; omega
      | ⟨1, _⟩ => show 0 ≤ _ ∧ h.val * 1 + (x (1 : Fin 4)).val - 0 < 4; omega
      | ⟨2, _⟩ => show 0 ≤ _ ∧ t.val * 1 + (x (2 : Fin 4)).val - 0 < 2048; omega
      | ⟨3, _⟩ => show 0 ≤ _ ∧ s.val * 1 + (x (3 : Fin 4)).val - 0 < 2048; omega
  · rw [dif_neg hk, dif_neg]
    intro hin
    have h3 : s.val * 1 + (x (3 : Fin 4)).val - 0 < 2048 := (hin (3 : Fin 4)).2
    omega

/-- What the keys from each one on leave together: a sum over a window reaching past the end. -/
def suffix (l : FVec Ideal S8x4x2048x2048 .f32) : FVec Ideal S8x4x2048x2048 .f32 :=
  Host.reduceWindowAdd ![1,1,1,2048] ![1,1,1,1] ![0,0,0,0] ![0,0,0,2047] l (broadcastInDim S_ ![] bcast_S_S_ (constant S_ .f32 0x00000000#32)) reduceWindows_S8x4x2048x2048_S8x4x2048x2048_w1s1p0_0_w1s1p0_0_w1s1p0_0_w2048s1p0_2047 h_S_

theorem suffix_apply (l) (b : Fin 8) (h : Fin 4) (t s : Fin 2048) :
    suffix l (ix4 b h t s) = ∑ k : Fin 2048, (if hk : s.val + k.val < 2048 then l (ix4 b h t ⟨s.val + k.val, hk⟩) else 0) := by
  have h0 : (broadcastInDim S_ ![] bcast_S_S_ (constant (F := Ideal) S_ .f32 0x00000000#32) (Shape.Idx.first h_S_) : EReal) = 0 := Ideal.ofBits_zero .f32
  unfold suffix Host.reduceWindowAdd
  show Ideal.hostReduceWindowAdd _ _ _ _ _ _ _ _ = _
  rw [h0]
  unfold Ideal.hostReduceWindowAdd Host.reduceWindow
  dsimp only
  rw [foldl_add, zero_add, ← Fin.sum_univ_def]
  exact Fintype.sum_equiv ((Shape.rowMajor ⟨4, ![1, 1, 1, 2048]⟩).symm.trans windowPlace) _ _ fun n => place_apply l b h t s ((Shape.rowMajor ⟨4, ![1, 1, 1, 2048]⟩).symm n)

/-! ## The whole reference -/

/-- The logarithm of the logistic function of the scores. -/
def logBeta (z : FVec Ideal S8x4x2048x2048 .f32) : FVec Ideal S8x4x2048x2048 .f32 := logSig (Host.negf z)

/-- The logarithm of what each key leaves, nothing being taken at the query and after it. -/
def logLeft (z : FVec Ideal S8x4x2048x2048 .f32) : FVec Ideal S8x4x2048x2048 .f32 := select before (logSig (Host.negf (Host.negf z))) zeros

/-- The weights of all the keys. -/
def weights (z : FVec Ideal S8x4x2048x2048 .f32) : FVec Ideal S8x4x2048x2048 .f32 :=
  select before (Host.exp (addf (logBeta z) (subf (suffix (logLeft z)) (logLeft z)))) zeros

/-- The attention of the whole arrays. -/
def attended (p : FVec Ideal S16384x2048 .bf16) : FVec Ideal S16384x512 .bf16 :=
  truncf .bf16 (shapeCast _ (transpose S8x2048x4x128 [0,3,1,2] (Host.dotGeneral dot_S8x2048x4x128_S8x4x2048x2048_S8x4x128x2048_1_3_3_2_02_01 none (vs p) (weights (scores (qs p) (ks p)))) transposes_S8x4x128x2048_S8x2048x4x128_0_3_1_2) shapeCasts_S8x2048x4x128_S16384x512) bitsLt_bf16_f32

theorem ref_result (m : (ℓ : Loc nD τ sig) → Buf (Elt Ideal) ℓ) (c : Dev nD) :
    Cert.SbRefIdeal.Value.res_main_v28 m c = attended (m ((c.tc : Thread nD τ).loc main_arg0)) := by
  unfold Cert.SbRefIdeal.Value.res_main_v28 attended weights suffix logLeft logBeta logSig zeros before scores qs ks vs
  rfl

theorem logLeft_apply (z) (b : Fin 8) (h : Fin 4) (t s : Fin 2048) : logLeft z (ix4 b h t s) = Scalar.select (before (ix4 b h t s)) (logSig (Host.negf (Host.negf z)) (ix4 b h t s)) (0 : EReal) := by
  pointwise [logLeft, zeros]
theorem weights_apply (z) (b : Fin 8) (h : Fin 4) (t s : Fin 2048) : weights z (ix4 b h t s) = Scalar.select (before (ix4 b h t s)) (Ideal.exp (logBeta z (ix4 b h t s) + (suffix (logLeft z) (ix4 b h t s) - logLeft z (ix4 b h t s)))) (0 : EReal) := by
  pointwise [weights, zeros]
theorem attended_apply (p) (b : Fin 8) (h : Fin 4) (t : Fin 2048) (d : Fin 128) :
    attended p (ix2 ⟨b.val * 2048 + t.val, by omega⟩ ⟨h.val * 128 + d.val, by omega⟩) = ∑ s : Fin 2048, vs p (ix4 b s h d) * weights (scores (qs p) (ks p)) (ix4 b h t s) := by
  pointwise [attended]

/-! ## The same over the real numbers -/

open Cert.Proof.SbMath

/-- The score of query `t` against key `s`, from the projected rows. -/
def scoreAt (p : FVec Ideal S16384x2048 .bf16) (b : Fin 8) (h : Fin 4) (t s : Fin 2048) : EReal :=
  (∑ x : Fin 128, p (ix2 ⟨b.val * 2048 + t.val, by omega⟩ ⟨h.val * 128 + x.val, by omega⟩) * p (ix2 ⟨b.val * 2048 + s.val, by omega⟩ ⟨512 + (h.val * 128 + x.val), by omega⟩))
    * Ideal.ofBits .f32 0x3DB504F3#32

/-- The real score, by the key's number. -/
def zs (p : FVec Ideal S16384x2048 .bf16) (b : Fin 8) (h : Fin 4) (t : Fin 2048) (s : ℕ) : ℝ :=
  if hs : s < 2048 then (scoreAt p b h t ⟨s, hs⟩).toReal else 0

/-- The value of key `s`, by the key's number. -/
def us (p : FVec Ideal S16384x2048 .bf16) (b : Fin 8) (h : Fin 4) (d : Fin 128) (s : ℕ) : EReal :=
  if hs : s < 2048 then p (ix2 ⟨b.val * 2048 + s, by omega⟩ ⟨1024 + (h.val * 128 + d.val), by omega⟩) else 0

/-- The projected queries and keys are real numbers. -/
def IsReal (p : FVec Ideal S16384x2048 .bf16) : Prop := ∃ f : Fin 16384 → Fin 1024 → ℝ, ∀ i (j : Fin 1024), p (ix2 i ⟨j.val, by omega⟩) = ((f i j : ℝ) : EReal)

theorem scale_real : ∃ x : ℝ, Ideal.ofBits .f32 0x3DB504F3#32 = (x : EReal) := by
  unfold Ideal.ofBits Ideal.ieee
  simp only []
  rw [if_neg (by decide), if_neg (by decide)]
  exact ⟨_, rfl⟩

/-- Then every score is real. -/
theorem scoreAt_real (p) (hp : IsReal p) (b : Fin 8) (h : Fin 4) (t s : Fin 2048) : scoreAt p b h t s = ((zs p b h t s.val : ℝ) : EReal) := by
  obtain ⟨f, hf⟩ := hp
  obtain ⟨a, ha⟩ := scale_real
  have hx : scoreAt p b h t s = (((∑ x : Fin 128, f ⟨b.val * 2048 + t.val, by omega⟩ ⟨h.val * 128 + x.val, by omega⟩ * f ⟨b.val * 2048 + s.val, by omega⟩ ⟨512 + (h.val * 128 + x.val), by omega⟩) * a : ℝ) : EReal) := by
    unfold scoreAt
    rw [EReal.coe_mul, ← sum_coe, ha]
    refine congrArg (· * _) (Finset.sum_congr rfl fun x _ => ?_)
    rw [EReal.coe_mul, ← hf, ← hf]
  unfold zs
  rw [dif_pos s.isLt, hx, EReal.toReal_coe]

/-- The attention at one place, over the real numbers. -/
def attendedAt (p : FVec Ideal S16384x2048 .bf16) (b : Fin 8) (h : Fin 4) (t : Fin 2048) (d : Fin 128) : EReal :=
  ∑ s ∈ Finset.Ico 0 2048, ((w t.val (zs p b h t) s : ℝ) : EReal) * us p b h d s

section

variable (z : FVec Ideal S8x4x2048x2048 .f32) (b : Fin 8) (h : Fin 4) (t : Fin 2048) (f : ℕ → ℝ) (hz : ∀ s : Fin 2048, z (ix4 b h t s) = ((f s.val : ℝ) : EReal))
include hz

theorem logSig_at (y : FVec Ideal S8x4x2048x2048 .f32) (i : S8x4x2048x2048.Idx) (x : ℝ) (hy : y i = (x : EReal)) : logSig y i = ((lb (-x) : ℝ) : EReal) := by
  rw [logSig_apply, if_neg (by simp), hy, logSig_coe]

theorem logBeta_at (s : Fin 2048) : logBeta z (ix4 b h t s) = ((lb (f s.val) : ℝ) : EReal) := by
  have e : Host.negf z (ix4 b h t s) = ((-f s.val : ℝ) : EReal) := by
    show -(z (ix4 b h t s)) = _
    rw [hz s, EReal.coe_neg]
  have := logSig_at z b h t f hz _ _ _ e
  rwa [neg_neg] at this

theorem logLeft_at (s : Fin 2048) : logLeft z (ix4 b h t s) = ((rest t.val f s.val : ℝ) : EReal) := by
  have e : Host.negf (Host.negf z) (ix4 b h t s) = ((f s.val : ℝ) : EReal) := by
    show -(-(z (ix4 b h t s))) = _
    rw [hz s, neg_neg]
  rw [logLeft_apply, logSig_at z b h t f hz _ _ _ e, lb_neg, before_apply, rest]
  by_cases hst : s.val < t.val
  · rw [if_pos hst, if_pos hst]; rfl
  · rw [if_neg hst, if_neg hst]; rfl

theorem suffix_at (s : Fin 2048) : suffix (logLeft z) (ix4 b h t s) = ((∑ k ∈ Finset.Ico s.val 2048, rest t.val f k : ℝ) : EReal) := by
  rw [suffix_apply, ← sum_from 2048 s.val (rest t.val f), ← sum_coe]
  refine Finset.sum_congr rfl fun k _ => ?_
  by_cases hk : s.val + k.val < 2048
  · rw [dif_pos hk, if_pos hk, logLeft_at z b h t f hz]
  · rw [dif_neg hk, if_neg hk, EReal.coe_zero]

theorem weights_at (s : Fin 2048) : weights z (ix4 b h t s) = ((w t.val f s.val : ℝ) : EReal) := by
  have e : Finset.sum (Finset.Ico s.val 2048) (rest t.val f) - rest t.val f s.val = ∑ k ∈ Finset.Ico (s.val + 1) 2048, rest t.val f k := by
    rw [Finset.sum_eq_sum_Ico_succ_bot s.isLt]; ring
  rw [weights_apply, logBeta_at z b h t f hz, suffix_at z b h t f hz, logLeft_at z b h t f hz, ← EReal.coe_sub, e, ← EReal.coe_add, Ideal.exp_coe, before_apply, w]
  by_cases hst : s.val < t.val
  · rw [if_pos hst, if_pos hst]; rfl
  · rw [if_neg hst, if_neg hst]; rfl

end

/-- The reference at one place. -/
theorem attended_at (p) (hp : IsReal p) (b : Fin 8) (h : Fin 4) (t : Fin 2048) (d : Fin 128) :
    attended p (ix2 ⟨b.val * 2048 + t.val, by omega⟩ ⟨h.val * 128 + d.val, by omega⟩) = attendedAt p b h t d := by
  have hs := sum_block 0 2048 (fun s => ((w t.val (zs p b h t) s : ℝ) : EReal) * us p b h d s)
  rw [attended_apply, attendedAt, show Finset.Ico 0 2048 = Finset.Ico 0 (0 + 2048) from rfl, ← hs]
  refine Finset.sum_congr rfl fun s _ => ?_
  rw [weights_at _ b h t (zs p b h t) (fun s => ?_), vs_apply, mul_comm, zero_add, us, dif_pos s.isLt]
  rw [scores_apply, ← scoreAt_real p hp, scoreAt]
  refine congrArg (· * _) (Finset.sum_congr rfl fun x _ => ?_)
  rw [qs_apply, ks_apply]

end Cert.Proof.SbRef
-- ==== Proof.SbValue.lean ====
module

public import proofs.«01_k».proof.Proof.SbIdealFrame
public import proofs.«01_k».proof.Proof.SbStep
public import proofs.«01_k».proof.Proof.SbRef
public import proofs.«01_k».proof.Proof.Gen.Pre_sb_finite
public import Idealize.ShloMosaic.Lib.Pipeline.Value

@[expose] public section

set_option maxRecDepth 16384

noncomputable section

namespace Cert.Proof.SbIdeal

open Cert.SbIdeal Cert.SbIdeal.Gen Idealize.ShloMosaic Idealize.ShloMosaic.TcCoe Idealize.SL.Sem
open Idealize.ShloMosaic.Pipeline (Dat)
open Cert.Proof.SbMath Cert.Proof.SbRef

/-! ## The precondition -/

theorem infinity : Ideal.ofBits .f32 0x7F800000#32 = ⊤ := by
  unfold Ideal.ofBits Ideal.ieee
  simp only []
  rw [if_pos (by decide), if_pos (by decide), if_neg (by decide)]

/-- The precondition says that the queries and keys are real numbers. -/
theorem isReal (p : FVec Ideal S16384x2048 .bf16) (h : Cert.Pre_sb_finite.fn (F := Ideal) p = fun _ => 1#1) : IsReal p := by
  have key : ∀ (i : Fin 16384) (j : Fin 1024), p (ix2 i ⟨j.val, by omega⟩) ≠ ⊤ ∧ p (ix2 i ⟨j.val, by omega⟩) ≠ ⊥ := by
    intro i j
    have e := congrFun h (ix2 i j)
    have e' : Cert.Pre_sb_finite.fn (F := Ideal) p (ix2 i j) = FloatOps.cmpf (F := Ideal) (φ := .f32) .olt (FloatOps.absf (F := Ideal) (φ := .f32) (p (ix2 i ⟨j.val, by omega⟩))) (Ideal.ofBits .f32 0x7F800000#32) := by
      pointwise [Cert.Pre_sb_finite.fn]
    rw [e', infinity] at e
    generalize p (ix2 i ⟨j.val, by omega⟩) = x at e
    have lt : max x (-x) < ⊤ := by
      by_contra hn
      have e1 : BitVec.ofBool (decide (max x (-x) < ⊤)) = 1#1 := e
      rw [decide_eq_false hn] at e1
      exact absurd e1 (by decide)
    exact ⟨fun hx => by subst hx; simp at lt, fun hx => by subst hx; simp at lt⟩
  refine ⟨fun i j => (p (ix2 i ⟨j.val, by omega⟩)).toReal, fun i j => ?_⟩
  exact (EReal.coe_toReal (key i j).1 (key i j).2).symm

/-! ## All the blocks of one query -/

section Carry

variable (p : FVec Ideal S16384x2048 .bf16) (hp : IsReal p) (b : Fin 8) (a : Fin 8) (h : Fin 4)
  (X0 : Vec Ideal S256x512 .bf16) (X1 X2 : Vec Ideal S2048x512 .bf16)
  (hq : ∀ (r : Fin 256) (x : Fin 128), qblk X0 h (ix2 r x) = p (ix2 ⟨b.val * 2048 + (256 * a.val + r.val), by omega⟩ ⟨h.val * 128 + x.val, by omega⟩))
  (hk : ∀ (n : Fin 8) (j : Fin 256) (x : Fin 128), kblk X1 n.val h (ix2 j x) = p (ix2 ⟨b.val * 2048 + (256 * n.val + j.val), by omega⟩ ⟨512 + (h.val * 128 + x.val), by omega⟩))
  (hv : ∀ (n : Fin 8) (j : Fin 256) (x : Fin 128), kblk X2 n.val h (ix2 j x) = p (ix2 ⟨b.val * 2048 + (256 * n.val + j.val), by omega⟩ ⟨1024 + (h.val * 128 + x.val), by omega⟩))
include hp hq hk hv

/-- A block's scores are the reference's. -/
theorem score_at (n : Fin 8) (r j : Fin 256) :
    score (qblk X0 h) (kblk X1 n.val h) (ix2 r j) = ((zs p b h ⟨256 * a.val + r.val, by omega⟩ (256 * n.val + j.val) : ℝ) : EReal) := by
  rw [score_apply]
  refine Eq.trans ?_ (scoreAt_real p hp b h ⟨256 * a.val + r.val, by omega⟩ ⟨256 * n.val + j.val, by omega⟩)
  unfold scoreAt
  refine congrArg (· * _) (Finset.sum_congr rfl fun x _ => ?_)
  rw [hq r x, hk n j x]

/-- A block's values are the reference's. -/
theorem values_at (n : Fin 8) (j : Fin 256) (d : Fin 128) : kblk X2 n.val h (ix2 j d) = us p b h d (256 * n.val + j.val) := by
  rw [hv n j d, us, dif_pos (by omega)]

/-- After the diagonal block and `n` more, both sums run over the keys of those blocks. -/
theorem carry_at (r : Fin 256) (d : Fin 128) : ∀ n : ℕ, n ≤ a.val →
    (carry X0 X1 X2 a.val h n).1 (ix2 r d) = (∑ s ∈ Finset.Ico (256 * (a.val - n)) (256 * a.val + 256), ((w (256 * a.val + r.val) (zs p b h ⟨256 * a.val + r.val, by omega⟩) s : ℝ) : EReal) * us p b h d s)
      ∧ (carry X0 X1 X2 a.val h n).2 (ix2 r 0) = ((∑ k ∈ Finset.Ico (256 * (a.val - n)) (256 * a.val + 256), rest (256 * a.val + r.val) (zs p b h ⟨256 * a.val + r.val, by omega⟩) k : ℝ) : EReal)
  | 0, _ => stepD_at _ _ _ _ _ _ r d (256 * a.val) rfl (by omega) (score_at p hp b a h X0 X1 X2 hq hk hv a r) (fun j => values_at p hp b a h X0 X1 X2 hq hk hv a j d)
  | n + 1, hn => by
    obtain ⟨h1, h2⟩ := carry_at r d n (by omega)
    have e : a.val - 1 - n = a.val - (n + 1) := by omega
    have hB : 256 * (a.val - n) = 256 * (a.val - (n + 1)) + 256 := by omega
    rw [hB] at h1 h2
    show (stepB _ (kblk X1 (a.val - 1 - n) h) (kblk X2 (a.val - 1 - n) h) _).1 _ = _ ∧ (stepB _ (kblk X1 (a.val - 1 - n) h) (kblk X2 (a.val - 1 - n) h) _).2 _ = _
    rw [e]
    exact stepB_at _ _ _ _ _ _ _ r d (256 * (a.val - (n + 1))) (256 * a.val + 256) (by omega) (by omega) (by omega)
      (score_at p hp b a h X0 X1 X2 hq hk hv ⟨a.val - (n + 1), by omega⟩ r) (fun j => values_at p hp b a h X0 X1 X2 hq hk hv ⟨a.val - (n + 1), by omega⟩ j d) h2 h1

/-- After all of them, the total is the reference's. -/
theorem total_at (r : Fin 256) (d : Fin 128) :
    (carry X0 X1 X2 a.val h a.val).1 (ix2 r d) = attended p (ix2 ⟨b.val * 2048 + (256 * a.val + r.val), by omega⟩ ⟨h.val * 128 + d.val, by omega⟩) := by
  rw [(carry_at p hp b a h X0 X1 X2 hq hk hv r d a.val le_rfl).1, attended_at p hp b h ⟨256 * a.val + r.val, by omega⟩ d, attendedAt, Nat.sub_self, Nat.mul_zero,
    ← Finset.sum_Ico_consecutive _ (Nat.zero_le (256 * a.val + 256)) (show 256 * a.val + 256 ≤ 2048 by omega),
    Finset.sum_eq_zero (s := Finset.Ico (256 * a.val + 256) 2048), add_zero]
  intro s hs
  have := (Finset.mem_Ico.1 hs).1
  rw [w, if_neg (by show ¬ s < 256 * a.val + r.val; omega), EReal.coe_zero, zero_mul]

end Carry

/-! ## The blocks of the launch -/

variable (m : (ℓ : Loc nD τ sig) → Buf (Elt Ideal) ℓ) (ρ : Dev nD → PrngReg)

theorem idx : ∀ t : Fin cfg0.N, ((grid0.coords t 0).val = t.val / 8 ∧ (grid0.coords t 1).val = t.val % 8) ∧ (win0_0.index t (0 : Fin 2) = t.val ∧ win0_0.index t (1 : Fin 2) = 0)
    ∧ (win0_1.index t (0 : Fin 2) = t.val / 8 ∧ win0_1.index t (1 : Fin 2) = 1) ∧ (win0_2.index t (0 : Fin 2) = t.val / 8 ∧ win0_2.index t (1 : Fin 2) = 2)
    ∧ (win0_3.index t (0 : Fin 2) = t.val ∧ win0_3.index t (1 : Fin 2) = 0) :=
  (by decide +kernel : ∀ t : Fin grid0.N, ((grid0.coords t 0).val = t.val / 8 ∧ (grid0.coords t 1).val = t.val % 8) ∧ (win0_0.index t (0 : Fin 2) = t.val ∧ win0_0.index t (1 : Fin 2) = 0)
    ∧ (win0_1.index t (0 : Fin 2) = t.val / 8 ∧ win0_1.index t (1 : Fin 2) = 1) ∧ (win0_2.index t (0 : Fin 2) = t.val / 8 ∧ win0_2.index t (1 : Fin 2) = 2)
    ∧ (win0_3.index t (0 : Fin 2) = t.val ∧ win0_3.index t (1 : Fin 2) = 0))

/-- The projection array. -/
abbrev proj (c : Dev nD) : FVec Ideal S16384x2048 .bf16 := m ((c.tc : Thread nD τ).loc main_arg0)

theorem q_at (c : Dev nD) (t : Fin cfg0.N) (b a : Fin 8) (hb : b.val = t.val / 8) (ha : a.val = t.val % 8) (h : Fin 4) (r : Fin 256) (x : Fin 128) :
    qblk (iblk m c 0 t) h (ix2 r x) = proj m c (ix2 ⟨b.val * 2048 + (256 * a.val + r.val), by omega⟩ ⟨h.val * 128 + x.val, by omega⟩) := by
  obtain ⟨-, ⟨e0, e1⟩, -⟩ := idx t
  refine Eq.trans ?_ (congrFun (V_main_arg0 m c) _)
  show V m c main_arg0 (((cfg0.win 0).blk t).view.emb ((Rect.unit (s := S256x512) ![0, 128 * h.val] S256x128.size (inbQ h)).emb (ix2 r x))) = _
  refine congrArg _ (funext fun k => Fin.ext ?_)
  match k with
  | ⟨0, _⟩ => show win0_0.index t (0 : Fin 2) * 256 + 1 * (0 + 1 * r.val) = b.val * 2048 + (256 * a.val + r.val); omega
  | ⟨1, _⟩ => show win0_0.index t (1 : Fin 2) * 512 + 1 * (128 * h.val + 1 * x.val) = h.val * 128 + x.val; omega

theorem k_at (c : Dev nD) (t : Fin cfg0.N) (b : Fin 8) (hb : b.val = t.val / 8) (h : Fin 4) (n : Fin 8) (j : Fin 256) (x : Fin 128) :
    kblk (iblk m c 1 t) n.val h (ix2 j x) = proj m c (ix2 ⟨b.val * 2048 + (256 * n.val + j.val), by omega⟩ ⟨512 + (h.val * 128 + x.val), by omega⟩) := by
  obtain ⟨-, -, ⟨e0, e1⟩, -⟩ := idx t
  have hn := n.isLt
  refine Eq.trans ?_ (congrFun (V_main_arg0 m c) _)
  show V m c main_arg0 (((cfg0.win 1).blk t).view.emb ((Rect.unit (s := S2048x512) ![256 * (n.val % 8), 128 * h.val] S256x128.size (inbK ⟨n.val % 8, Nat.mod_lt _ (by decide)⟩ h)).emb (ix2 j x))) = _
  refine congrArg _ (funext fun k => Fin.ext ?_)
  match k with
  | ⟨0, _⟩ => show win0_1.index t (0 : Fin 2) * 2048 + 1 * (256 * (n.val % 8) + 1 * j.val) = b.val * 2048 + (256 * n.val + j.val); omega
  | ⟨1, _⟩ => show win0_1.index t (1 : Fin 2) * 512 + 1 * (128 * h.val + 1 * x.val) = 512 + (h.val * 128 + x.val); omega

theorem v_at (c : Dev nD) (t : Fin cfg0.N) (b : Fin 8) (hb : b.val = t.val / 8) (h : Fin 4) (n : Fin 8) (j : Fin 256) (x : Fin 128) :
    kblk (iblk m c 2 t) n.val h (ix2 j x) = proj m c (ix2 ⟨b.val * 2048 + (256 * n.val + j.val), by omega⟩ ⟨1024 + (h.val * 128 + x.val), by omega⟩) := by
  obtain ⟨-, -, -, ⟨e0, e1⟩, -⟩ := idx t
  have hn := n.isLt
  refine Eq.trans ?_ (congrFun (V_main_arg0 m c) _)
  show V m c main_arg0 (((cfg0.win 2).blk t).view.emb ((Rect.unit (s := S2048x512) ![256 * (n.val % 8), 128 * h.val] S256x128.size (inbK ⟨n.val % 8, Nat.mod_lt _ (by decide)⟩ h)).emb (ix2 j x))) = _
  refine congrArg _ (funext fun k => Fin.ext ?_)
  match k with
  | ⟨0, _⟩ => show win0_2.index t (0 : Fin 2) * 2048 + 1 * (256 * (n.val % 8) + 1 * j.val) = b.val * 2048 + (256 * n.val + j.val); omega
  | ⟨1, _⟩ => show win0_2.index t (1 : Fin 2) * 512 + 1 * (128 * h.val + 1 * x.val) = 1024 + (h.val * 128 + x.val); omega

/-- One head's total, at the place of the result its store reaches. -/
theorem piece_at (c : Dev nD) (hp : IsReal (proj m c)) (t : Fin cfg0.N) (h : Fin 4) (off : Fin 2 → ℕ) (hoff : off = ![0, 128 * h.val]) (hin) (x : S256x128.Idx) :
    truncf .bf16 (carry (iblk m c 0 t) (iblk m c 1 t) (iblk m c 2 t) (grid0.coords t 1).val h (grid0.coords t 1).val).1 bitsLt_bf16_f32 x
      = attended (proj m c) (((cfg0.win 3).blk t).view.emb ((Rect.unit (s := S256x512) off S256x128.size hin).emb x)) := by
  subst hoff
  have ht : t.val < 64 := t.isLt
  obtain ⟨⟨c0, c1⟩, -, -, -, ⟨e0, e1⟩⟩ := idx t
  obtain ⟨r, d, rfl⟩ : ∃ (r : Fin 256) (d : Fin 128), x = ix2 r d := ⟨x 0, x 1, eq_ix2 x⟩
  have he : ((cfg0.win 3).blk t).view.emb ((Rect.unit (s := S256x512) ![0, 128 * h.val] S256x128.size hin).emb (ix2 r d))
      = ix2 ⟨t.val / 8 * 2048 + (256 * (t.val % 8) + r.val), by omega⟩ ⟨h.val * 128 + d.val, by omega⟩ := by
    funext k; apply Fin.ext
    match k with
    | ⟨0, _⟩ => show win0_3.index t (0 : Fin 2) * 256 + 1 * (0 + 1 * r.val) = t.val / 8 * 2048 + (256 * (t.val % 8) + r.val); omega
    | ⟨1, _⟩ => show win0_3.index t (1 : Fin 2) * 512 + 1 * (128 * h.val + 1 * d.val) = h.val * 128 + d.val; omega
  rw [he, c1]
  exact total_at (proj m c) hp ⟨t.val / 8, by omega⟩ ⟨t.val % 8, by omega⟩ h _ _ _ (q_at m c t ⟨t.val / 8, by omega⟩ ⟨t.val % 8, by omega⟩ rfl rfl h)
    (k_at m c t ⟨t.val / 8, by omega⟩ rfl h) (v_at m c t ⟨t.val / 8, by omega⟩ rfl h) r d

/-- What a point writes back is its block of the attention. -/
theorem flushed_eq (c : Dev nD) (hp : IsReal (proj m c)) (t : Fin cfg0.N) :
    (dats m 0 c).flushed 3 t = ((cfg0.win 3).blk t).view.read (Elt Ideal) (attended (proj m c) : Vec Ideal S16384x512 .bf16) := by
  show (cfg0.win 3).cut (grid0.coords t) ((dats m 0 c).after 3 t) = _
  rw [after_out]
  funext y
  show outF (grid0.coords t) (iblk m c 0 t) (iblk m c 1 t) (iblk m c 2 t) y = attended (proj m c) (((cfg0.win 3).blk t).view.emb y)
  unfold outF
  refine View.canon_apply_of_pieces (Val := Elt Ideal) (fun y => attended (proj m c) (((cfg0.win 3).blk t).view.emb y)) _ (fun q hq x => ?_) y (cover_out _ _ _ _ y)
  simp only [List.mem_cons, List.not_mem_nil, or_false] at hq
  rcases hq with rfl | rfl | rfl | rfl
  · exact piece_at m c hp t 3 ![0, 384] rfl inb_S256x512_S256x128_0_384 x
  · exact piece_at m c hp t 2 ![0, 256] rfl inb_S256x512_S256x128_0_256 x
  · exact piece_at m c hp t 1 ![0, 128] rfl inb_S256x512_S256x128_0_128 x
  · exact piece_at m c hp t 0 ![0, 0] rfl inb_S256x512_S256x128_0_0 x

/-- The points' blocks are all of the result. -/
theorem covered (i : S16384x512.Idx) : ∃ t : Fin cfg0.N, (cfg0.win 3).flush t = true ∧ i ∈ ((cfg0.win 3).blk t).view.set := by
  have h0 : (i 0 : Nat) < 16384 := (i 0).isLt
  have h1 : (i 1 : Nat) < 512 := (i 1).isLt
  let t : Fin cfg0.N := (⟨(i 0 : Nat) / 256, by show _ < 64; omega⟩ : Fin cfg0.N)
  have tv : t.val = (i 0 : Nat) / 256 := rfl
  obtain ⟨-, -, -, -, ⟨e0, e1⟩⟩ := idx t
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 2) * 256 ≤ (i 0 : Nat) ∧ (i 0 : Nat) < win0_3.index t (0 : Fin 2) * 256 + 256; omega
  | ⟨1, _⟩ => show win0_3.index t (1 : Fin 2) * 512 ≤ (i 1 : Nat) ∧ (i 1 : Nat) < win0_3.index t (1 : Fin 2) * 512 + 512; omega

/-- The result after the run. -/
theorem final (c : Dev nD) (hp : IsReal (proj m c)) : (dats m 0 c).arrAt 3 cfg0.N = (attended (proj m c) : Vec Ideal S16384x512 .bf16) :=
  (dats m 0 c).arrAt_eq_of_cover 3 (attended (proj m c) : Vec Ideal S16384x512 .bf16) (fun t _ => flushed_eq m c hp t) covered

/-- The kernel and the reference run to the same result. -/
theorem value : Cert.algebraic_SbIdeal_SbRefIdeal_pre_sb_finite (hSbIdeal := Cert.SbIdeal.Gen.facts) (hSbRefIdeal := Cert.SbRefIdeal.Gen.facts) (hPre_sb_finite := Cert.Pre_sb_finite.Gen.facts) := by
  intro m g m' g' hpre hargs
  refine ⟨fun c => attended (proj m c),
    (θ_run Cert.SbIdeal.defs _ _).mono (fun r h c => ⟨((h c).1 3).trans (final m c (isReal _ (hpre c))), ((h c).1 2).trans (((dats m 0 c).arrAt_in 2 rfl _).trans ((A_eq m c 2).trans (V_main_arg0 m c)))⟩) (run_main m g), ?_⟩
  refine (θ_run Cert.SbRefIdeal.defs _ _).mono (fun r h c => ⟨(h c).1.trans ?_, (h c).2⟩) (Cert.SbRefIdeal.Value.run m' g')
  rw [ref_result, hargs c]

end Cert.Proof.SbIdeal
-- ==== Proof.MergeValue.lean ====
module

public import proofs.«01_k».proof.Defs
public import proofs.«01_k».proof.Proof.Gen.MergeIdeal.Value
public import proofs.«01_k».proof.Proof.Gen.MergeRefIdeal.Run
public import Idealize.ShloMosaic.Lib.Pointwise
public import Idealize.ShloMosaic.Lib.Pipeline.Value

@[expose] public section

set_option maxRecDepth 16384

noncomputable section

namespace Cert.Proof.Merge

open Cert.MergeIdeal Cert.MergeIdeal.Gen Cert.MergeIdeal.Value Idealize.ShloMosaic Idealize.ShloMosaic.TcCoe Idealize.SL.Sem
open Idealize.ShloMosaic.Pipeline (Dat)

/-- One branch of the reference: the sigmoid of the gate's product times the branch's product. -/
def branch (x : Vec Ideal Cert.MergeRefIdeal.S16384x2048 .bf16) (y : Vec Ideal Cert.MergeRefIdeal.S16384x512 .bf16)
    (wg : FVec Ideal Cert.MergeRefIdeal.S2048x2048 .f32) (wb : FVec Ideal Cert.MergeRefIdeal.S512x2048 .f32) : FVec Ideal Cert.MergeRefIdeal.S16384x2048 .f32 :=
  mulf (Host.divf (broadcastInDim Cert.MergeRefIdeal.S16384x2048 ![] Cert.MergeRefIdeal.Gen.facts.bcast_S_S16384x2048 (constant Cert.MergeRefIdeal.S_ .f32 0x3F800000#32))
      (addf (broadcastInDim Cert.MergeRefIdeal.S16384x2048 ![] Cert.MergeRefIdeal.Gen.facts.bcast_S_S16384x2048 (constant Cert.MergeRefIdeal.S_ .f32 0x3F800000#32))
        (Host.exp (Host.negf (Host.dotGeneral Cert.MergeRefIdeal.dot_S16384x2048_S2048x2048_S16384x2048_1_0_0_1_n_n none (extf .f32 x bitsLt_bf16_f32) wg)))))
    (Host.dotGeneral Cert.MergeRefIdeal.dot_S16384x512_S512x2048_S16384x2048_1_0_0_1_n_n none (extf .f32 y bitsLt_bf16_f32) wb)

/-- The sum of the four branches, as the reference computes it from the whole arrays. -/
def merged (x : Vec Ideal Cert.MergeRefIdeal.S16384x2048 .bf16) (ya yb yc yd : Vec Ideal Cert.MergeRefIdeal.S16384x512 .bf16)
    (wg : Vec Ideal Cert.MergeRefIdeal.S4x4x2048x2048 .f32) (wb : Vec Ideal Cert.MergeRefIdeal.S4x4x512x2048 .f32) : Vec Ideal Cert.MergeRefIdeal.S16384x2048 .bf16 :=
  truncf .bf16 (addf (addf (addf
    (branch x ya
      (shapeCast _ (extractStridedSlice Cert.MergeRefIdeal.S1x1x2048x2048 ![0, 0, 0, 0] wg Cert.MergeRefIdeal.Gen.facts.slices_S4x4x2048x2048_S1x1x2048x2048_0_0_0_0) Cert.MergeRefIdeal.Gen.facts.shapeCasts_S1x1x2048x2048_S2048x2048)
      (shapeCast _ (extractStridedSlice Cert.MergeRefIdeal.S1x1x512x2048 ![0, 0, 0, 0] wb Cert.MergeRefIdeal.Gen.facts.slices_S4x4x512x2048_S1x1x512x2048_0_0_0_0) Cert.MergeRefIdeal.Gen.facts.shapeCasts_S1x1x512x2048_S512x2048))
    (branch x yb
      (shapeCast _ (extractStridedSlice Cert.MergeRefIdeal.S1x1x2048x2048 ![0, 1, 0, 0] wg Cert.MergeRefIdeal.Gen.facts.slices_S4x4x2048x2048_S1x1x2048x2048_0_1_0_0) Cert.MergeRefIdeal.Gen.facts.shapeCasts_S1x1x2048x2048_S2048x2048)
      (shapeCast _ (extractStridedSlice Cert.MergeRefIdeal.S1x1x512x2048 ![0, 1, 0, 0] wb Cert.MergeRefIdeal.Gen.facts.slices_S4x4x512x2048_S1x1x512x2048_0_1_0_0) Cert.MergeRefIdeal.Gen.facts.shapeCasts_S1x1x512x2048_S512x2048)))
    (branch x yc
      (shapeCast _ (extractStridedSlice Cert.MergeRefIdeal.S1x1x2048x2048 ![0, 2, 0, 0] wg Cert.MergeRefIdeal.Gen.facts.slices_S4x4x2048x2048_S1x1x2048x2048_0_2_0_0) Cert.MergeRefIdeal.Gen.facts.shapeCasts_S1x1x2048x2048_S2048x2048)
      (shapeCast _ (extractStridedSlice Cert.MergeRefIdeal.S1x1x512x2048 ![0, 2, 0, 0] wb Cert.MergeRefIdeal.Gen.facts.slices_S4x4x512x2048_S1x1x512x2048_0_2_0_0) Cert.MergeRefIdeal.Gen.facts.shapeCasts_S1x1x512x2048_S512x2048)))
    (branch x yd
      (shapeCast _ (extractStridedSlice Cert.MergeRefIdeal.S1x1x2048x2048 ![0, 3, 0, 0] wg Cert.MergeRefIdeal.Gen.facts.slices_S4x4x2048x2048_S1x1x2048x2048_0_3_0_0) Cert.MergeRefIdeal.Gen.facts.shapeCasts_S1x1x2048x2048_S2048x2048)
      (shapeCast _ (extractStridedSlice Cert.MergeRefIdeal.S1x1x512x2048 ![0, 3, 0, 0] wb Cert.MergeRefIdeal.Gen.facts.slices_S4x4x512x2048_S1x1x512x2048_0_3_0_0) Cert.MergeRefIdeal.Gen.facts.shapeCasts_S1x1x512x2048_S512x2048)))
    bitsLt_bf16_f32

/-- One branch at one place, from its two products. -/
def lane (g v : EReal) : EReal := Ideal.div 1 (1 + Ideal.exp (-g)) * v

theorem merged_apply (x ya yb yc yd wg wb) (r : Fin 16384) (l : Fin 2048) :
    merged x ya yb yc yd wg wb (ix2 r l)
      = lane (∑ k : Fin 2048, x (ix2 r k) * wg (ix4 0 0 k l)) (∑ k : Fin 512, ya (ix2 r k) * wb (ix4 0 0 k l))
      + lane (∑ k : Fin 2048, x (ix2 r k) * wg (ix4 0 1 k l)) (∑ k : Fin 512, yb (ix2 r k) * wb (ix4 0 1 k l))
      + lane (∑ k : Fin 2048, x (ix2 r k) * wg (ix4 0 2 k l)) (∑ k : Fin 512, yc (ix2 r k) * wb (ix4 0 2 k l))
      + lane (∑ k : Fin 2048, x (ix2 r k) * wg (ix4 0 3 k l)) (∑ k : Fin 512, yd (ix2 r k) * wb (ix4 0 3 k l)) := by
  pointwise [merged, branch, lane]

/-- What the body stores, from its blocks of the inputs and its four slices of each weight block. -/
def block (x : Vec Ideal S1024x2048 .bf16) (ya yb yc yd : Vec Ideal S1024x512 .bf16) (ga gb gc gd : Vec Ideal S1x1x2048x256 .bf16)
    (wa wb wc wd : Vec Ideal S1x1x512x256 .bf16) : FVec Ideal S1024x256 .bf16 :=
  k0_pay1 (k0_pay4 x (k0_pay2 x ga ya wa) (k0_pay3 x gb) yb wb gc yc wc) (k0_pay5 x gd) yd wd

theorem block_apply (x ya yb yc yd ga gb gc gd wa wb wc wd) (r : Fin 1024) (l : Fin 256) :
    block x ya yb yc yd ga gb gc gd wa wb wc wd (ix2 r l)
      = lane (∑ k : Fin 2048, x (ix2 r k) * ga (ix4 0 0 k l)) (∑ k : Fin 512, ya (ix2 r k) * wa (ix4 0 0 k l))
      + lane (∑ k : Fin 2048, x (ix2 r k) * gb (ix4 0 0 k l)) (∑ k : Fin 512, yb (ix2 r k) * wb (ix4 0 0 k l))
      + lane (∑ k : Fin 2048, x (ix2 r k) * gc (ix4 0 0 k l)) (∑ k : Fin 512, yc (ix2 r k) * wc (ix4 0 0 k l))
      + lane (∑ k : Fin 2048, x (ix2 r k) * gd (ix4 0 0 k l)) (∑ k : Fin 512, yd (ix2 r k) * wd (ix4 0 0 k l)) := by
  pointwise [block, k0_pay1, k0_pay2, k0_pay3, k0_pay4, k0_pay5, lane]
  simp only [zero_sub]

variable (m : (ℓ : Loc nD τ sig) → Buf (Elt Ideal) ℓ) (ρ : Dev nD → PrngReg)

/-- The weights reach the kernel through a change of format, which is the identity here. -/
theorem V_gates (c : Dev nD) : V m c main_v0 = (m ((c.tc : Thread nD τ).loc main_arg5) : Vec Ideal S4x4x2048x2048 .f32) := by
  show StableHlo.after hostOps0 _ _ = _
  simp only [hostOps0, StableHlo.after_cons, StableHlo.after_nil]
  rfl
theorem V_branches (c : Dev nD) : V m c main_v1 = (m ((c.tc : Thread nD τ).loc main_arg6) : Vec Ideal S4x4x512x2048 .f32) := by
  show StableHlo.after hostOps0 _ _ = _
  simp only [hostOps0, StableHlo.after_cons, StableHlo.after_nil]
  rfl

theorem idx_x : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_y : ∀ t : Fin cfg0.N, (win0_1.index t (0 : Fin 2) = t.val / 8 ∧ win0_1.index t (1 : Fin 2) = 0) ∧ (win0_2.index t (0 : Fin 2) = t.val / 8 ∧ win0_2.index t (1 : Fin 2) = 0)
    ∧ (win0_3.index t (0 : Fin 2) = t.val / 8 ∧ win0_3.index t (1 : Fin 2) = 0) ∧ (win0_4.index t (0 : Fin 2) = t.val / 8 ∧ win0_4.index t (1 : Fin 2) = 0) :=
  (by decide +kernel : ∀ t : Fin grid0.N, (win0_1.index t (0 : Fin 2) = t.val / 8 ∧ win0_1.index t (1 : Fin 2) = 0) ∧ (win0_2.index t (0 : Fin 2) = t.val / 8 ∧ win0_2.index t (1 : Fin 2) = 0)
    ∧ (win0_3.index t (0 : Fin 2) = t.val / 8 ∧ win0_3.index t (1 : Fin 2) = 0) ∧ (win0_4.index t (0 : Fin 2) = t.val / 8 ∧ win0_4.index t (1 : Fin 2) = 0))
theorem idx_g : ∀ t : Fin cfg0.N, win0_5.index t (0 : Fin 4) = 0 ∧ win0_5.index t (1 : Fin 4) = 0 ∧ win0_5.index t (2 : Fin 4) = 0 ∧ win0_5.index t (3 : Fin 4) = t.val % 8 :=
  (by decide +kernel : ∀ t : Fin grid0.N, win0_5.index t (0 : Fin 4) = 0 ∧ win0_5.index t (1 : Fin 4) = 0 ∧ win0_5.index t (2 : Fin 4) = 0 ∧ win0_5.index t (3 : Fin 4) = t.val % 8)
theorem idx_b : ∀ t : Fin cfg0.N, win0_6.index t (0 : Fin 4) = 0 ∧ win0_6.index t (1 : Fin 4) = 0 ∧ win0_6.index t (2 : Fin 4) = 0 ∧ win0_6.index t (3 : Fin 4) = t.val % 8 :=
  (by decide +kernel : ∀ t : Fin grid0.N, win0_6.index t (0 : Fin 4) = 0 ∧ win0_6.index t (1 : Fin 4) = 0 ∧ win0_6.index t (2 : Fin 4) = 0 ∧ win0_6.index t (3 : Fin 4) = t.val % 8)
theorem idx_o : ∀ t : Fin cfg0.N, win0_7.index t (0 : Fin 2) = t.val / 8 ∧ win0_7.index t (1 : Fin 2) = t.val % 8 :=
  (by decide +kernel : ∀ t : Fin grid0.N, win0_7.index t (0 : Fin 2) = t.val / 8 ∧ win0_7.index t (1 : Fin 2) = t.val % 8)

/-- A block of the layer's input is its rows of the array. -/
theorem blk_x (c : Dev nD) (t : Fin cfg0.N) (r : Fin 1024) (k : Fin 2048) (i : Fin 16384) (hi : i.val = t.val / 8 * 1024 + r.val) :
    iblk m c 0 t (ix2 r k) = V m c main_arg0 (ix2 i k) := by
  obtain ⟨e0, e1⟩ := idx_x t
  show V m c main_arg0 (((cfg0.win 0).blk t).view.emb (ix2 r k)) = _
  refine congrArg _ (funext fun a => Fin.ext ?_)
  match a with
  | ⟨0, _⟩ => show win0_0.index t (0 : Fin 2) * 1024 + 1 * r.val = i.val; omega
  | ⟨1, _⟩ => show win0_0.index t (1 : Fin 2) * 2048 + 1 * k.val = k.val; omega

/-- A block of each branch's input is its rows of that array. -/
theorem blk_y (c : Dev nD) (t : Fin cfg0.N) (r : Fin 1024) (k : Fin 512) (i : Fin 16384) (hi : i.val = t.val / 8 * 1024 + r.val) :
    iblk m c 1 t (ix2 r k) = V m c main_arg1 (ix2 i k) ∧ iblk m c 2 t (ix2 r k) = V m c main_arg2 (ix2 i k)
    ∧ iblk m c 3 t (ix2 r k) = V m c main_arg3 (ix2 i k) ∧ iblk m c 4 t (ix2 r k) = V m c main_arg4 (ix2 i k) := by
  obtain ⟨⟨a0, a1⟩, ⟨b0, b1⟩, ⟨c0, c1⟩, d0, d1⟩ := idx_y t
  refine ⟨?_, ?_, ?_, ?_⟩
  · show V m c main_arg1 (((cfg0.win 1).blk t).view.emb (ix2 r k)) = _
    refine congrArg _ (funext fun a => Fin.ext ?_)
    match a with
    | ⟨0, _⟩ => show win0_1.index t (0 : Fin 2) * 1024 + 1 * r.val = i.val; omega
    | ⟨1, _⟩ => show win0_1.index t (1 : Fin 2) * 512 + 1 * k.val = k.val; omega
  · show V m c main_arg2 (((cfg0.win 2).blk t).view.emb (ix2 r k)) = _
    refine congrArg _ (funext fun a => Fin.ext ?_)
    match a with
    | ⟨0, _⟩ => show win0_2.index t (0 : Fin 2) * 1024 + 1 * r.val = i.val; omega
    | ⟨1, _⟩ => show win0_2.index t (1 : Fin 2) * 512 + 1 * k.val = k.val; omega
  · show V m c main_arg3 (((cfg0.win 3).blk t).view.emb (ix2 r k)) = _
    refine congrArg _ (funext fun a => Fin.ext ?_)
    match a with
    | ⟨0, _⟩ => show win0_3.index t (0 : Fin 2) * 1024 + 1 * r.val = i.val; omega
    | ⟨1, _⟩ => show win0_3.index t (1 : Fin 2) * 512 + 1 * k.val = k.val; omega
  · show V m c main_arg4 (((cfg0.win 4).blk t).view.emb (ix2 r k)) = _
    refine congrArg _ (funext fun a => Fin.ext ?_)
    match a with
    | ⟨0, _⟩ => show win0_4.index t (0 : Fin 2) * 1024 + 1 * r.val = i.val; omega
    | ⟨1, _⟩ => show win0_4.index t (1 : Fin 2) * 512 + 1 * k.val = k.val; omega

/-- A slice of the gate weights' block is one branch's columns. -/
theorem blk_g (c : Dev nD) (t : Fin cfg0.N) (i : Fin 4) (h : ∀ a, (![0, i.val, 0, 0] : Fin 4 → Nat) a + S1x1x2048x256.size a ≤ S1x4x2048x256.size a)
    (k : Fin 2048) (l : Fin 256) (j : Fin 2048) (hj : j.val = t.val % 8 * 256 + l.val) :
    View.ld (iblk m c 5 t) (Rect.unit (s := S1x4x2048x256) ![0, i.val, 0, 0] S1x1x2048x256.size h) (ix4 0 0 k l) = V m c main_v0 (ix4 0 i k j) := by
  obtain ⟨e0, e1, e2, e3⟩ := idx_g t
  show V m c main_v0 (((cfg0.win 5).blk t).view.emb ((Rect.unit (s := S1x4x2048x256) ![0, i.val, 0, 0] S1x1x2048x256.size h).emb (ix4 0 0 k l))) = _
  refine congrArg _ (funext fun a => Fin.ext ?_)
  match a with
  | ⟨0, _⟩ => show win0_5.index t (0 : Fin 4) * 1 + 1 * (0 + 1 * 0) = 0; omega
  | ⟨1, _⟩ => show win0_5.index t (1 : Fin 4) * 4 + 1 * (i.val + 1 * 0) = i.val; omega
  | ⟨2, _⟩ => show win0_5.index t (2 : Fin 4) * 2048 + 1 * (0 + 1 * k.val) = k.val; omega
  | ⟨3, _⟩ => show win0_5.index t (3 : Fin 4) * 256 + 1 * (0 + 1 * l.val) = j.val; omega

/-- A slice of the branch weights' block is one branch's columns. -/
theorem blk_b (c : Dev nD) (t : Fin cfg0.N) (i : Fin 4) (h : ∀ a, (![0, i.val, 0, 0] : Fin 4 → Nat) a + S1x1x512x256.size a ≤ S1x4x512x256.size a)
    (k : Fin 512) (l : Fin 256) (j : Fin 2048) (hj : j.val = t.val % 8 * 256 + l.val) :
    View.ld (iblk m c 6 t) (Rect.unit (s := S1x4x512x256) ![0, i.val, 0, 0] S1x1x512x256.size h) (ix4 0 0 k l) = V m c main_v1 (ix4 0 i k j) := by
  obtain ⟨e0, e1, e2, e3⟩ := idx_b t
  show V m c main_v1 (((cfg0.win 6).blk t).view.emb ((Rect.unit (s := S1x4x512x256) ![0, i.val, 0, 0] S1x1x512x256.size h).emb (ix4 0 0 k l))) = _
  refine congrArg _ (funext fun a => Fin.ext ?_)
  match a with
  | ⟨0, _⟩ => show win0_6.index t (0 : Fin 4) * 1 + 1 * (0 + 1 * 0) = 0; omega
  | ⟨1, _⟩ => show win0_6.index t (1 : Fin 4) * 4 + 1 * (i.val + 1 * 0) = i.val; omega
  | ⟨2, _⟩ => show win0_6.index t (2 : Fin 4) * 512 + 1 * (0 + 1 * k.val) = k.val; omega
  | ⟨3, _⟩ => show win0_6.index t (3 : Fin 4) * 256 + 1 * (0 + 1 * l.val) = j.val; omega

theorem hz2 : (![0, 0] : Fin 2 → Nat) = fun _ => 0 := funext fun a => by fin_cases a <;> rfl

/-- The whole result from the buffers the kernel is entered with. -/
abbrev whole (c : Dev nD) : Vec Ideal Cert.MergeRefIdeal.S16384x2048 .bf16 :=
  merged (V m c main_arg0) (V m c main_arg1) (V m c main_arg2) (V m c main_arg3) (V m c main_arg4) (V m c main_v0) (V m c main_v1)

/-- What a point writes back is its block of the whole result. -/
theorem flushed_eq (c : Dev nD) (t : Fin cfg0.N) :
    (dats m 0 c).flushed 7 t = ((cfg0.win 7).blk t).view.read (Elt Ideal) (whole m c) := by
  rw [flushed7]
  unfold out0_7
  rw [View.canon_unit_zero hz2, View.ld_unit_zero hz2, View.ld_unit_zero hz2, View.ld_unit_zero hz2, View.ld_unit_zero hz2, View.ld_unit_zero hz2]
  obtain ⟨e0, e1⟩ := idx_o t
  have ht : t.val < 128 := t.isLt
  funext q
  obtain ⟨r, l, rfl⟩ : ∃ (r : Fin 1024) (l : Fin 256), q = ix2 r l := ⟨q 0, q 1, eq_ix2 q⟩
  have hr := r.isLt
  have hl := l.isLt
  have he : ((cfg0.win 7).blk t).view.emb (ix2 r l) = ix2 ⟨t.val / 8 * 1024 + r.val, by omega⟩ ⟨t.val % 8 * 256 + l.val, by omega⟩ := by
    funext a; apply Fin.ext
    match a with
    | ⟨0, _⟩ => show win0_7.index t (0 : Fin 2) * 1024 + 1 * r.val = t.val / 8 * 1024 + r.val; omega
    | ⟨1, _⟩ => show win0_7.index t (1 : Fin 2) * 256 + 1 * l.val = t.val % 8 * 256 + l.val; omega
  show block (iblk m c 0 t) (iblk m c 1 t) (iblk m c 2 t) (iblk m c 3 t) (iblk m c 4 t) (View.ld (iblk m c 5 t) r0_1) (View.ld (iblk m c 5 t) r0_4) (View.ld (iblk m c 5 t) r0_6) (View.ld (iblk m c 5 t) r0_8)
    (View.ld (iblk m c 6 t) r0_3) (View.ld (iblk m c 6 t) r0_5) (View.ld (iblk m c 6 t) r0_7) (View.ld (iblk m c 6 t) r0_9) (ix2 r l) = whole m c (((cfg0.win 7).blk t).view.emb (ix2 r l))
  rw [he, block_apply, whole, merged_apply]
  have G := fun (i : Fin 4) h => Finset.sum_congr (rfl : (Finset.univ : Finset (Fin 2048)) = Finset.univ) fun k _ =>
    congrArg₂ (fun a b : EReal => a * b) (blk_x m c t r k ⟨t.val / 8 * 1024 + r.val, by omega⟩ rfl) (blk_g m c t i h k l ⟨t.val % 8 * 256 + l.val, by omega⟩ rfl)
  have Y := fun k => blk_y m c t r k ⟨t.val / 8 * 1024 + r.val, by omega⟩ rfl
  have B := fun (i : Fin 4) h k => blk_b m c t i h k l ⟨t.val % 8 * 256 + l.val, by omega⟩ rfl
  refine congrArg₂ (fun a b : EReal => a + b) (congrArg₂ (fun a b : EReal => a + b) (congrArg₂ (fun a b : EReal => a + b)
    (congrArg₂ lane (G 0 _) (Finset.sum_congr rfl fun k _ => congrArg₂ (fun a b : EReal => a * b) (Y k).1 (B 0 _ k)))
    (congrArg₂ lane (G 1 _) (Finset.sum_congr rfl fun k _ => congrArg₂ (fun a b : EReal => a * b) (Y k).2.1 (B 1 _ k))))
    (congrArg₂ lane (G 2 _) (Finset.sum_congr rfl fun k _ => congrArg₂ (fun a b : EReal => a * b) (Y k).2.2.1 (B 2 _ k))))
    (congrArg₂ lane (G 3 _) (Finset.sum_congr rfl fun k _ => congrArg₂ (fun a b : EReal => a * b) (Y k).2.2.2 (B 3 _ k)))

/-- The points' blocks are all of the result. -/
theorem covered (i : S16384x2048.Idx) : ∃ t : Fin cfg0.N, (cfg0.win 7).flush t = true ∧ i ∈ ((cfg0.win 7).blk t).view.set := by
  have h0 : (i 0 : Nat) < 16384 := (i 0).isLt
  have h1 : (i 1 : Nat) < 2048 := (i 1).isLt
  let t : Fin cfg0.N := (⟨(i 0 : Nat) / 1024 * 8 + (i 1 : Nat) / 256, by show _ < 128; omega⟩ : Fin cfg0.N)
  have tv : t.val = (i 0 : Nat) / 1024 * 8 + (i 1 : Nat) / 256 := rfl
  obtain ⟨e0, e1⟩ := idx_o t
  refine ⟨t, flush0_7 t, ?_⟩
  show i ∈ ((View.whole main_v2).slice (win0_7.rect t)).set
  rw [View.set_slice_whole, Rect.mem_set_unit]
  intro a
  match a with
  | ⟨0, _⟩ => show win0_7.index t (0 : Fin 2) * 1024 ≤ (i 0 : Nat) ∧ (i 0 : Nat) < win0_7.index t (0 : Fin 2) * 1024 + 1024; omega
  | ⟨1, _⟩ => show win0_7.index t (1 : Fin 2) * 256 ≤ (i 1 : Nat) ∧ (i 1 : Nat) < win0_7.index t (1 : Fin 2) * 256 + 256; omega

/-- The result from the arguments. -/
abbrev result (m : (ℓ : Loc nD τ sig) → Buf (Elt Ideal) ℓ) (c : Dev nD) : Vec Ideal Cert.MergeRefIdeal.S16384x2048 .bf16 :=
  merged (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The result after the run. -/
theorem final (c : Dev nD) : (dats m 0 c).arrAt 7 cfg0.N = result m c := by
  refine ((dats m 0 c).arrAt_eq_of_cover 7 (whole m c) (fun t _ => flushed_eq m c t) covered).trans ?_
  unfold whole result
  rw [V_gates, V_branches, V_main_arg0, V_main_arg1, V_main_arg2, V_main_arg3, V_main_arg4]

/-- The kernel and the reference run to the same result. -/
theorem value : Cert.algebraic_MergeIdeal_MergeRefIdeal (hMergeIdeal := Cert.MergeIdeal.Gen.facts) (hMergeRefIdeal := Cert.MergeRefIdeal.Gen.facts) := by
  intro m g m' g' _ hargs
  refine ⟨result m,
    (θ_run Cert.MergeIdeal.defs _ _).mono (fun r h c => ⟨(h c).1.trans (final m c), (h c).2⟩) (run_blocks m g), ?_⟩
  refine (θ_run Cert.MergeRefIdeal.defs _ _).mono (fun r h c => ⟨(h c).1.trans ?_, (h c).2⟩) (Cert.MergeRefIdeal.Value.run m' g')
  obtain ⟨a0, a1, a2, a3, a4, a5, a6⟩ := hargs c
  rw [a0, a1, a2, a3, a4, a5, a6]
  rfl

end Cert.Proof.Merge
-- ==== Proof.OutLnValue.lean ====
module

public import proofs.«01_k».proof.Defs
public import proofs.«01_k».proof.Proof.Gen.OutLnIdeal.Value
public import proofs.«01_k».proof.Proof.Gen.OutLnRefIdeal.Run
public import Idealize.ShloMosaic.Lib.Pointwise
public import Idealize.ShloMosaic.Lib.Pipeline.Value

@[expose] public section

set_option maxRecDepth 16384

noncomputable section

namespace Cert.Proof.OutLn

open Cert.OutLnIdeal Cert.OutLnIdeal.Gen Cert.OutLnIdeal.Value Idealize.ShloMosaic Idealize.ShloMosaic.TcCoe Idealize.SL.Sem
open Idealize.ShloMosaic.Pipeline (Dat)

/-- The residual sum, as the reference computes it. -/
def residual (x : FVec Ideal Cert.OutLnRefIdeal.S16384x2048 .bf16) (w : FVec Ideal Cert.OutLnRefIdeal.S4x2048x2048 .f32) (h : FVec Ideal Cert.OutLnRefIdeal.S16384x2048 .f32) :
    FVec Ideal Cert.OutLnRefIdeal.S16384x2048 .f32 :=
  addf (mulf (broadcastInDim Cert.OutLnRefIdeal.S16384x2048 ![] Cert.OutLnRefIdeal.Gen.facts.bcast_S_S16384x2048 (constant Cert.OutLnRefIdeal.S_ .f32 0x3FD744FD#32)) h)
    (Host.dotGeneral (F := Ideal) Cert.OutLnRefIdeal.dot_S16384x2048_S2048x2048_S16384x2048_1_0_0_1_n_n none (extf .f32 (x : FVec Ideal Cert.OutLnRefIdeal.S16384x2048 .bf16) Cert.OutLnRefIdeal.Gen.facts.bitsLt_bf16_f32)
      (shapeCast _ (extractStridedSlice Cert.OutLnRefIdeal.S1x2048x2048 ![0, 0, 0] w Cert.OutLnRefIdeal.Gen.facts.slices_S4x2048x2048_S1x2048x2048_0_0_0) Cert.OutLnRefIdeal.Gen.facts.shapeCasts_S1x2048x2048_S2048x2048))

/-- The mean over a row, kept as a column. -/
def rowMean (u : FVec Ideal Cert.OutLnRefIdeal.S16384x2048 .f32) : FVec Ideal Cert.OutLnRefIdeal.S16384x1 .f32 :=
  Host.divf (broadcastInDim Cert.OutLnRefIdeal.S16384x1 ![0] Cert.OutLnRefIdeal.Gen.facts.bcast_S16384_S16384x1_0
      (Host.reduceAdd u (constant Cert.OutLnRefIdeal.S_ .f32 0x00000000#32) Cert.OutLnRefIdeal.Gen.facts.reducesTo_S16384x2048_S16384_d1 Cert.OutLnRefIdeal.Gen.facts.h_S_))
    (broadcastInDim Cert.OutLnRefIdeal.S16384x1 ![] Cert.OutLnRefIdeal.Gen.facts.bcast_S_S16384x1 (constant Cert.OutLnRefIdeal.S_ .f32 0x45000000#32))

/-- A row less its mean. -/
def centred (u : FVec Ideal Cert.OutLnRefIdeal.S16384x2048 .f32) : FVec Ideal Cert.OutLnRefIdeal.S16384x2048 .f32 :=
  subf u (broadcastInDim Cert.OutLnRefIdeal.S16384x2048 ![0, 1] Cert.OutLnRefIdeal.Gen.facts.bcast_S16384x1_S16384x2048_0_1 (rowMean u))

/-- The first layer's row of a table of scales or shifts, under every row. -/
def spread (g : Vec Ideal Cert.OutLnRefIdeal.S4x2048 .f32) : FVec Ideal Cert.OutLnRefIdeal.S16384x2048 .f32 :=
  broadcastInDim Cert.OutLnRefIdeal.S16384x2048 ![0, 1] Cert.OutLnRefIdeal.Gen.facts.bcast_S1x2048_S16384x2048_0_1
    (broadcastInDim Cert.OutLnRefIdeal.S1x2048 ![1] Cert.OutLnRefIdeal.Gen.facts.bcast_S2048_S1x2048_1
      (shapeCast _ (extractStridedSlice Cert.OutLnRefIdeal.S1x2048 ![0, 0] g Cert.OutLnRefIdeal.Gen.facts.slices_S4x2048_S1x2048_0_0) Cert.OutLnRefIdeal.Gen.facts.shapeCasts_S1x2048_S2048))

/-- The layer norm of the residual sum, as the reference computes it from the whole arrays. -/
def normed (x : Vec Ideal Cert.OutLnRefIdeal.S16384x2048 .bf16) (w : Vec Ideal Cert.OutLnRefIdeal.S4x2048x2048 .f32) (h : Vec Ideal Cert.OutLnRefIdeal.S16384x2048 .f32)
    (g b : Vec Ideal Cert.OutLnRefIdeal.S4x2048 .f32) : Vec Ideal Cert.OutLnRefIdeal.S16384x2048 .f32 :=
  addf (mulf (mulf (centred (residual x w h))
      (broadcastInDim Cert.OutLnRefIdeal.S16384x2048 ![0, 1] Cert.OutLnRefIdeal.Gen.facts.bcast_S16384x1_S16384x2048_0_1
        (Host.rsqrt (addf (rowMean (mulf (centred (residual x w h)) (centred (residual x w h))))
          (broadcastInDim Cert.OutLnRefIdeal.S16384x1 ![] Cert.OutLnRefIdeal.Gen.facts.bcast_S_S16384x1 (constant Cert.OutLnRefIdeal.S_ .f32 0x3727C5AC#32))))))
    (spread g)) (spread b)

/-- A row of the residual sum, from its row of the two inputs and the weights. -/
def rowSum (x h : Fin 2048 → EReal) (w : Fin 2048 → Fin 2048 → EReal) (l : Fin 2048) : EReal :=
  Ideal.ofBits .f32 0x3FD744FD#32 * h l + ∑ k : Fin 2048, x k * w k l

/-- The mean of a row. -/
def mean (u : Fin 2048 → EReal) : EReal := Ideal.div (∑ k : Fin 2048, u k) (Ideal.ofBits .f32 0x45000000#32)

/-- The layer norm of a row at one place. -/
def normAt (u : Fin 2048 → EReal) (g b : EReal) (l : Fin 2048) : EReal :=
  (u l - mean u) * Ideal.rsqrt (mean (fun k => (u k - mean u) * (u k - mean u)) + Ideal.ofBits .f32 0x3727C5AC#32) * g + b

theorem normed_apply (x w h g b) (r : Fin 16384) (l : Fin 2048) :
    normed x w h g b (ix2 r l) = normAt (rowSum (fun k => x (ix2 r k)) (fun k => h (ix2 r k)) (fun k j => w (ix3 0 k j))) (g (ix2 0 l)) (b (ix2 0 l)) l := by
  pointwise [normed, centred, spread, rowMean, residual, normAt, mean, rowSum]

theorem block_apply (h : Vec Ideal S512x2048 .f32) (x : Vec Ideal S512x2048 .bf16) (w : Vec Ideal S1x2048x2048 .bf16) (g b : Vec Ideal S1x2048 .f32) (r : Fin 512) (l : Fin 2048) :
    k0_pay1 h x w g b (ix2 r l) = normAt (rowSum (fun k => x (ix2 r k)) (fun k => h (ix2 r k)) (fun k j => w (ix3 0 k j))) (g (ix2 0 l)) (b (ix2 0 l)) l := by
  pointwise [k0_pay1, normAt, mean, rowSum]

variable (m : (ℓ : Loc nD τ sig) → Buf (Elt Ideal) ℓ) (ρ : Dev nD → PrngReg)

/-- The weights reach the kernel through a change of format, which is the identity here. -/
theorem V_weights (c : Dev nD) : V m c main_v0 = (m ((c.tc : Thread nD τ).loc main_arg1) : Vec Ideal S4x2048x2048 .f32) := by
  show StableHlo.after hostOps0 _ _ = _
  simp only [hostOps0, StableHlo.after_cons, StableHlo.after_nil]
  rfl

/-- The first layer's row of a table, as the kernel is given it. -/
def firstRow (g : Vec Ideal S4x2048 .f32) : Vec Ideal S1x2048 .f32 :=
  shapeCast _ (extractStridedSlice S1x1x2048 ![0, 0, 0] (broadcastInDim S4x1x2048 ![0, 2] bcast_S4x2048_S4x1x2048_0_2 g) slices_S4x1x2048_S1x1x2048_0_0_0) shapeCasts_S1x1x2048_S1x2048

theorem firstRow_apply (g) (l : Fin 2048) : firstRow g (ix2 0 l) = g (ix2 0 l) := by
  pointwise [firstRow]

theorem V_scale (c : Dev nD) : V m c main_v3 = firstRow (m ((c.tc : Thread nD τ).loc main_arg3)) := by
  show StableHlo.after hostOps0 _ _ = _
  simp only [hostOps0, StableHlo.after_cons, StableHlo.after_nil]
  rfl
theorem V_shift (c : Dev nD) : V m c main_v6 = firstRow (m ((c.tc : Thread nD τ).loc main_arg4)) := by
  show StableHlo.after hostOps0 _ _ = _
  simp only [hostOps0, StableHlo.after_cons, StableHlo.after_nil]
  rfl

theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)
theorem idx_h : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_gb : ∀ t : Fin cfg0.N, (win0_3.index t (0 : Fin 2) = 0 ∧ win0_3.index t (1 : Fin 2) = 0) ∧ win0_4.index t (0 : Fin 2) = 0 ∧ win0_4.index t (1 : Fin 2) = 0 :=
  (by decide +kernel : ∀ t : Fin grid0.N, (win0_3.index t (0 : Fin 2) = 0 ∧ win0_3.index t (1 : Fin 2) = 0) ∧ win0_4.index t (0 : Fin 2) = 0 ∧ win0_4.index t (1 : Fin 2) = 0)
theorem idx_o : ∀ t : Fin cfg0.N, (win0_5.index t (0 : Fin 2) = t.val ∧ win0_5.index t (1 : Fin 2) = 0) ∧ win0_6.index t (0 : Fin 2) = t.val ∧ win0_6.index t (1 : Fin 2) = 0 :=
  (by decide +kernel : ∀ t : Fin grid0.N, (win0_5.index t (0 : Fin 2) = t.val ∧ win0_5.index t (1 : Fin 2) = 0) ∧ win0_6.index t (0 : Fin 2) = t.val ∧ win0_6.index t (1 : Fin 2) = 0)

/-- A block of the merged branches is its rows of the array. -/
theorem blk_x (c : Dev nD) (t : Fin cfg0.N) (r : Fin 512) (k : Fin 2048) (i : Fin 16384) (hi : i.val = t.val * 512 + r.val) :
    iblk m c 0 t (ix2 r k) = V m c main_arg0 (ix2 i k) := by
  obtain ⟨e0, e1⟩ := idx_x t
  show V m c main_arg0 (((cfg0.win 0).blk t).view.emb (ix2 r k)) = _
  refine congrArg _ (funext fun a => Fin.ext ?_)
  match a with
  | ⟨0, _⟩ => show win0_0.index t (0 : Fin 2) * 512 + 1 * r.val = i.val; omega
  | ⟨1, _⟩ => show win0_0.index t (1 : Fin 2) * 2048 + 1 * k.val = k.val; omega

/-- The block of the weights is the first layer's. -/
theorem blk_w (c : Dev nD) (t : Fin cfg0.N) (k j : Fin 2048) : iblk m c 1 t (ix3 0 k j) = V m c main_v0 (ix3 0 k j) := by
  obtain ⟨e0, e1, e2⟩ := idx_w t
  show V m c main_v0 (((cfg0.win 1).blk t).view.emb (ix3 0 k j)) = _
  refine congrArg _ (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 2048 + 1 * j.val = j.val; omega

/-- A block of the residual is its rows of the array. -/
theorem blk_h (c : Dev nD) (t : Fin cfg0.N) (r : Fin 512) (k : Fin 2048) (i : Fin 16384) (hi : i.val = t.val * 512 + r.val) :
    iblk m c 2 t (ix2 r k) = V m c main_arg2 (ix2 i k) := by
  obtain ⟨e0, e1⟩ := idx_h t
  show V m c main_arg2 (((cfg0.win 2).blk t).view.emb (ix2 r k)) = _
  refine congrArg _ (funext fun a => Fin.ext ?_)
  match a with
  | ⟨0, _⟩ => show win0_2.index t (0 : Fin 2) * 512 + 1 * r.val = i.val; omega
  | ⟨1, _⟩ => show win0_2.index t (1 : Fin 2) * 2048 + 1 * k.val = k.val; omega

/-- The blocks of the scale and of the shift are the rows themselves. -/
theorem blk_g (c : Dev nD) (t : Fin cfg0.N) (l : Fin 2048) : iblk m c 3 t (ix2 0 l) = V m c main_v3 (ix2 0 l) := by
  obtain ⟨⟨e0, e1⟩, -⟩ := idx_gb t
  show V m c main_v3 (((cfg0.win 3).blk t).view.emb (ix2 0 l)) = _
  refine congrArg _ (funext fun a => Fin.ext ?_)
  match a with
  | ⟨0, _⟩ => show win0_3.index t (0 : Fin 2) * 1 + 1 * 0 = 0; omega
  | ⟨1, _⟩ => show win0_3.index t (1 : Fin 2) * 2048 + 1 * l.val = l.val; omega
theorem blk_b (c : Dev nD) (t : Fin cfg0.N) (l : Fin 2048) : iblk m c 4 t (ix2 0 l) = V m c main_v6 (ix2 0 l) := by
  obtain ⟨-, e0, e1⟩ := idx_gb t
  show V m c main_v6 (((cfg0.win 4).blk t).view.emb (ix2 0 l)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * l.val = l.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The whole result from the arguments. -/
abbrev result (c : Dev nD) : Vec Ideal Cert.OutLnRefIdeal.S16384x2048 .f32 :=
  normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The same rounded to the narrower format. -/
abbrev rounded (c : Dev nD) : FVec Ideal Cert.OutLnRefIdeal.S16384x2048 .bf16 :=
  truncf .bf16 (result m c : FVec Ideal Cert.OutLnRefIdeal.S16384x2048 .f32) Cert.OutLnRefIdeal.Gen.facts.bitsLt_bf16_f32

/-- A point's layer norm at a place is the whole one's. -/
theorem point_apply (c : Dev nD) (t : Fin cfg0.N) (r : Fin 512) (l : Fin 2048) (i : Fin 16384) (hi : i.val = t.val * 512 + r.val) :
    k0_pay1 (iblk m c 2 t) (iblk m c 0 t) (iblk m c 1 t) (iblk m c 3 t) (iblk m c 4 t) (ix2 r l) = result m c (ix2 i l) := by
  have hx := fun k => (blk_x m c t r k i hi).trans (congrFun (V_main_arg0 m c) _)
  have hh := fun k => (blk_h m c t r k i hi).trans (congrFun (V_main_arg2 m c) _)
  have hw := fun k j => (blk_w m c t k j).trans (congrFun (V_weights m c) _)
  have hg := ((blk_g m c t l).trans (congrFun (V_scale m c) _)).trans (firstRow_apply _ l)
  have hb := ((blk_b m c t l).trans (congrFun (V_shift m c) _)).trans (firstRow_apply _ l)
  rw [block_apply, result, normed_apply]
  simp only [hx, hh, hw, hg, hb]

/-- What a point writes back to the first result is its block of the layer norm. -/
theorem flushed5_eq (c : Dev nD) (t : Fin cfg0.N) : (dats m 0 c).flushed 5 t = ((cfg0.win 5).blk t).view.read (Elt Ideal) (result m c) := by
  rw [flushed5]
  unfold out0_5
  rw [View.canon_unit_zero hz2, View.ld_unit_zero hz2, View.ld_unit_zero hz2, View.ld_unit_zero hz3, View.ld_unit_zero hz2, View.ld_unit_zero hz2]
  obtain ⟨⟨e0, e1⟩, -⟩ := idx_o t
  have ht : t.val < 32 := t.isLt
  funext q
  obtain ⟨r, l, rfl⟩ : ∃ (r : Fin 512) (l : Fin 2048), q = ix2 r l := ⟨q 0, q 1, eq_ix2 q⟩
  have hr := r.isLt
  have he : ((cfg0.win 5).blk t).view.emb (ix2 r l) = ix2 ⟨t.val * 512 + r.val, by omega⟩ l := by
    funext a; apply Fin.ext
    match a with
    | ⟨0, _⟩ => show win0_5.index t (0 : Fin 2) * 512 + 1 * r.val = t.val * 512 + r.val; omega
    | ⟨1, _⟩ => show win0_5.index t (1 : Fin 2) * 2048 + 1 * l.val = l.val; omega
  show k0_pay1 (iblk m c 2 t) (iblk m c 0 t) (iblk m c 1 t) (iblk m c 3 t) (iblk m c 4 t) (ix2 r l) = result m c (((cfg0.win 5).blk t).view.emb (ix2 r l))
  rw [he]
  exact point_apply m c t r l _ rfl

/-- What a point writes back to the second result is its block of the layer norm. -/
theorem flushed6_eq (c : Dev nD) (t : Fin cfg0.N) : (dats m 0 c).flushed 6 t = ((cfg0.win 6).blk t).view.read (Elt Ideal) (rounded m c) := by
  rw [flushed6]
  unfold out0_6
  rw [View.canon_unit_zero hz2, View.ld_unit_zero hz2, View.ld_unit_zero hz2, View.ld_unit_zero hz3, View.ld_unit_zero hz2, View.ld_unit_zero hz2]
  obtain ⟨-, e0, e1⟩ := idx_o t
  have ht : t.val < 32 := t.isLt
  funext q
  obtain ⟨r, l, rfl⟩ : ∃ (r : Fin 512) (l : Fin 2048), q = ix2 r l := ⟨q 0, q 1, eq_ix2 q⟩
  have hr := r.isLt
  have he : ((cfg0.win 6).blk t).view.emb (ix2 r l) = ix2 ⟨t.val * 512 + r.val, by omega⟩ l := by
    funext a; apply Fin.ext
    match a with
    | ⟨0, _⟩ => show win0_6.index t (0 : Fin 2) * 512 + 1 * r.val = t.val * 512 + r.val; omega
    | ⟨1, _⟩ => show win0_6.index t (1 : Fin 2) * 2048 + 1 * l.val = l.val; omega
  show k0_pay1 (iblk m c 2 t) (iblk m c 0 t) (iblk m c 1 t) (iblk m c 3 t) (iblk m c 4 t) (ix2 r l) = result m c (((cfg0.win 6).blk t).view.emb (ix2 r l))
  rw [he]
  exact point_apply m c t r l _ rfl

/-- The points' blocks are all of each result. -/
theorem covered5 (i : S16384x2048.Idx) : ∃ t : Fin cfg0.N, (cfg0.win 5).flush t = true ∧ i ∈ ((cfg0.win 5).blk t).view.set := by
  have h0 : (i 0 : Nat) < 16384 := (i 0).isLt
  have h1 : (i 1 : Nat) < 2048 := (i 1).isLt
  let t : Fin cfg0.N := (⟨(i 0 : Nat) / 512, by show _ < 32; omega⟩ : Fin cfg0.N)
  have tv : t.val = (i 0 : Nat) / 512 := rfl
  obtain ⟨⟨e0, e1⟩, -⟩ := idx_o t
  refine ⟨t, flush0_5 t, ?_⟩
  show i ∈ ((View.whole main_v7_0).slice (win0_5.rect t)).set
  rw [View.set_slice_whole, Rect.mem_set_unit]
  intro a
  match a with
  | ⟨0, _⟩ => show win0_5.index t (0 : Fin 2) * 512 ≤ (i 0 : Nat) ∧ (i 0 : Nat) < win0_5.index t (0 : Fin 2) * 512 + 512; omega
  | ⟨1, _⟩ => show win0_5.index t (1 : Fin 2) * 2048 ≤ (i 1 : Nat) ∧ (i 1 : Nat) < win0_5.index t (1 : Fin 2) * 2048 + 2048; omega
theorem covered6 (i : S16384x2048.Idx) : ∃ t : Fin cfg0.N, (cfg0.win 6).flush t = true ∧ i ∈ ((cfg0.win 6).blk t).view.set := by
  have h0 : (i 0 : Nat) < 16384 := (i 0).isLt
  have h1 : (i 1 : Nat) < 2048 := (i 1).isLt
  let t : Fin cfg0.N := (⟨(i 0 : Nat) / 512, by show _ < 32; omega⟩ : Fin cfg0.N)
  have tv : t.val = (i 0 : Nat) / 512 := rfl
  obtain ⟨-, e0, e1⟩ := idx_o t
  refine ⟨t, flush0_6 t, ?_⟩
  show i ∈ ((View.whole main_v7_1).slice (win0_6.rect t)).set
  rw [View.set_slice_whole, Rect.mem_set_unit]
  intro a
  match a with
  | ⟨0, _⟩ => show win0_6.index t (0 : Fin 2) * 512 ≤ (i 0 : Nat) ∧ (i 0 : Nat) < win0_6.index t (0 : Fin 2) * 512 + 512; omega
  | ⟨1, _⟩ => show win0_6.index t (1 : Fin 2) * 2048 ≤ (i 1 : Nat) ∧ (i 1 : Nat) < win0_6.index t (1 : Fin 2) * 2048 + 2048; omega

/-- The results after the run. -/
theorem final5 (c : Dev nD) : (dats m 0 c).arrAt 5 cfg0.N = result m c :=
  (dats m 0 c).arrAt_eq_of_cover 5 (result m c) (fun t _ => flushed5_eq m c t) covered5
theorem final6 (c : Dev nD) : (dats m 0 c).arrAt 6 cfg0.N = rounded m c :=
  (dats m 0 c).arrAt_eq_of_cover 6 (rounded m c) (fun t _ => flushed6_eq m c t) covered6

/-- The reference's results are these functions of its arguments. -/
theorem ref_result (m' : (ℓ : Loc Cert.OutLnRefIdeal.nD Cert.OutLnRefIdeal.τ Cert.OutLnRefIdeal.sig) → Buf (Elt Ideal) ℓ) (c : Dev Cert.OutLnRefIdeal.nD) :
    Cert.OutLnRefIdeal.Value.res_main_v34 m' c = normed (m' ((c.tc : Thread Cert.OutLnRefIdeal.nD Cert.OutLnRefIdeal.τ).loc Cert.OutLnRefIdeal.main_arg0)) (m' ((c.tc : Thread Cert.OutLnRefIdeal.nD Cert.OutLnRefIdeal.τ).loc Cert.OutLnRefIdeal.main_arg1))
      (m' ((c.tc : Thread Cert.OutLnRefIdeal.nD Cert.OutLnRefIdeal.τ).loc Cert.OutLnRefIdeal.main_arg2)) (m' ((c.tc : Thread Cert.OutLnRefIdeal.nD Cert.OutLnRefIdeal.τ).loc Cert.OutLnRefIdeal.main_arg3))
      (m' ((c.tc : Thread Cert.OutLnRefIdeal.nD Cert.OutLnRefIdeal.τ).loc Cert.OutLnRefIdeal.main_arg4)) := by
  unfold Cert.OutLnRefIdeal.Value.res_main_v34 normed centred spread rowMean residual
  with_reducible rfl
theorem ref_rounded (m' : (ℓ : Loc Cert.OutLnRefIdeal.nD Cert.OutLnRefIdeal.τ Cert.OutLnRefIdeal.sig) → Buf (Elt Ideal) ℓ) (c : Dev Cert.OutLnRefIdeal.nD) :
    Cert.OutLnRefIdeal.Value.res_main_v35 m' c = truncf (F := Ideal) (φ := .f32) .bf16 (normed (m' ((c.tc : Thread Cert.OutLnRefIdeal.nD Cert.OutLnRefIdeal.τ).loc Cert.OutLnRefIdeal.main_arg0)) (m' ((c.tc : Thread Cert.OutLnRefIdeal.nD Cert.OutLnRefIdeal.τ).loc Cert.OutLnRefIdeal.main_arg1))
      (m' ((c.tc : Thread Cert.OutLnRefIdeal.nD Cert.OutLnRefIdeal.τ).loc Cert.OutLnRefIdeal.main_arg2)) (m' ((c.tc : Thread Cert.OutLnRefIdeal.nD Cert.OutLnRefIdeal.τ).loc Cert.OutLnRefIdeal.main_arg3))
      (m' ((c.tc : Thread Cert.OutLnRefIdeal.nD Cert.OutLnRefIdeal.τ).loc Cert.OutLnRefIdeal.main_arg4))) Cert.OutLnRefIdeal.Gen.facts.bitsLt_bf16_f32 :=
  congrArg (fun v : FVec Ideal Cert.OutLnRefIdeal.S16384x2048 .f32 => truncf .bf16 v Cert.OutLnRefIdeal.Gen.facts.bitsLt_bf16_f32) (ref_result m' c)

/-- The kernel and the reference run to the same results. -/
theorem value : Cert.algebraic_OutLnIdeal_OutLnRefIdeal (hOutLnIdeal := Cert.OutLnIdeal.Gen.facts) (hOutLnRefIdeal := Cert.OutLnRefIdeal.Gen.facts) := by
  intro m g m' g' _ hargs
  refine ⟨result m, rounded m,
    (θ_run Cert.OutLnIdeal.defs _ _).mono (fun r h c => ⟨(h c).1.trans (final5 m c), (h c).2.1.trans (final6 m c), (h c).2.2⟩) (run_blocks m g), ?_⟩
  refine (θ_run Cert.OutLnRefIdeal.defs _ _).mono (fun r h c => ⟨(h c).1.trans ?_, (h c).2.1.trans ?_, (h c).2.2⟩) (Cert.OutLnRefIdeal.Value.run m' g')
  · obtain ⟨a0, a1, a2, a3, a4⟩ := hargs c
    rw [ref_result, a0, a1, a2, a3, a4]
  · obtain ⟨a0, a1, a2, a3, a4⟩ := hargs c
    rw [ref_rounded, a0, a1, a2, a3, a4]

end Cert.Proof.OutLn
-- ==== Proof.InAValue.lean ====
module

public import proofs.«01_k».proof.Defs
public import proofs.«01_k».proof.Proof.Gen.InAIdeal.Value
public import proofs.«01_k».proof.Proof.Gen.InARefIdeal.Run
public import Idealize.ShloMosaic.Lib.Pointwise
public import Idealize.ShloMosaic.Lib.Pipeline.Value

@[expose] public section

set_option maxRecDepth 16384

noncomputable section

namespace Cert.Proof.InA

open Cert.InAIdeal Cert.InAIdeal.Gen Cert.InAIdeal.Value Idealize.ShloMosaic Idealize.ShloMosaic.TcCoe Idealize.SL.Sem
open Idealize.ShloMosaic.Pipeline (Dat)

/-- The product, as the reference computes it from the whole arrays. -/
def product (x : Vec Ideal Cert.InARefIdeal.S16384x2048 .bf16) (w : Vec Ideal Cert.InARefIdeal.S4x2048x2048 .bf16) : Vec Ideal Cert.InARefIdeal.S16384x2048 .bf16 :=
  truncf .bf16 (Host.dotGeneral (F := Ideal) Cert.InARefIdeal.dot_S16384x2048_S2048x2048_S16384x2048_1_0_0_1_n_n none (extf .f32 x bitsLt_bf16_f32)
    (extf .f32 (shapeCast _ (extractStridedSlice Cert.InARefIdeal.S1x2048x2048 ![0, 0, 0] w Cert.InARefIdeal.Gen.facts.slices_S4x2048x2048_S1x2048x2048_0_0_0)
      Cert.InARefIdeal.Gen.facts.shapeCasts_S1x2048x2048_S2048x2048) bitsLt_bf16_f32)) bitsLt_bf16_f32

theorem product_apply (x w) (r : Fin 16384) (l : Fin 2048) :
    product x w (ix2 r l) = ∑ k : Fin 2048, x (ix2 r k) * w (ix3 0 k l) := by
  pointwise [product]

/-- A block's product. -/
theorem block_apply (x : Vec Ideal S1024x2048 .bf16) (w : Vec Ideal S1x2048x1024 .bf16) (r : Fin 1024) (l : Fin 1024) :
    k0_pay1 x w (ix2 r l) = ∑ k : Fin 2048, x (ix2 r k) * w (ix3 0 k l) := by
  pointwise [k0_pay1]

variable (m : (ℓ : Loc nD τ sig) → Buf (Elt Ideal) ℓ) (ρ : Dev nD → PrngReg)

theorem idx_x : ∀ t : Fin cfg0.N, win0_0.index t (0 : Fin 2) = t.val / 2 ∧ win0_0.index t (1 : Fin 2) = 0 :=
  (by decide +kernel : ∀ t : Fin grid0.N, win0_0.index t (0 : Fin 2) = t.val / 2 ∧ win0_0.index t (1 : Fin 2) = 0)
theorem idx_w : ∀ t : Fin cfg0.N, win0_1.index t (0 : Fin 3) = 0 ∧ win0_1.index t (1 : Fin 3) = 0 ∧ win0_1.index t (2 : Fin 3) = t.val % 2 :=
  (by decide +kernel : ∀ t : Fin grid0.N, win0_1.index t (0 : Fin 3) = 0 ∧ win0_1.index t (1 : Fin 3) = 0 ∧ win0_1.index t (2 : Fin 3) = t.val % 2)
theorem idx_o : ∀ t : Fin cfg0.N, win0_2.index t (0 : Fin 2) = t.val / 2 ∧ win0_2.index t (1 : Fin 2) = t.val % 2 :=
  (by decide +kernel : ∀ t : Fin grid0.N, win0_2.index t (0 : Fin 2) = t.val / 2 ∧ win0_2.index t (1 : Fin 2) = t.val % 2)

/-- A block of the input is its rows of the array. -/
theorem blk_x (c : Dev nD) (t : Fin cfg0.N) (r : Fin 1024) (k : Fin 2048) (i : Fin 16384) (hi : i.val = t.val / 2 * 1024 + r.val) :
    iblk m c 0 t (ix2 r k) = V m c main_arg0 (ix2 i k) := by
  obtain ⟨e0, e1⟩ := idx_x t
  show V m c main_arg0 (((cfg0.win 0).blk t).view.emb (ix2 r k)) = _
  refine congrArg _ (funext fun a => Fin.ext ?_)
  match a with
  | ⟨0, _⟩ => show win0_0.index t (0 : Fin 2) * 1024 + 1 * r.val = i.val; omega
  | ⟨1, _⟩ => show win0_0.index t (1 : Fin 2) * 2048 + 1 * k.val = k.val; omega

/-- A block of the weights is its columns of the first layer's. -/
theorem blk_w (c : Dev nD) (t : Fin cfg0.N) (k : Fin 2048) (l : Fin 1024) (j : Fin 2048) (hj : j.val = t.val % 2 * 1024 + l.val) :
    iblk m c 1 t (ix3 0 k l) = V m c main_arg1 (ix3 0 k j) := by
  obtain ⟨e0, e1, e2⟩ := idx_w t
  show V m c main_arg1 (((cfg0.win 1).blk t).view.emb (ix3 0 k l)) = _
  refine congrArg _ (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 1024 + 1 * l.val = j.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- What a point writes back is its block of the whole product. -/
theorem flushed_eq (c : Dev nD) (t : Fin cfg0.N) :
    (dats m 0 c).flushed 2 t = ((cfg0.win 2).blk t).view.read (Elt Ideal) (product (V m c main_arg0) (V m c main_arg1)) := by
  rw [flushed2]
  unfold out0_2
  rw [View.canon_unit_zero hz2, View.ld_unit_zero hz2, View.ld_unit_zero hz3]
  obtain ⟨e0, e1⟩ := idx_o t
  have ht : t.val < 32 := t.isLt
  funext q
  obtain ⟨r, l, rfl⟩ : ∃ (r : Fin 1024) (l : Fin 1024), q = ix2 r l := ⟨q 0, q 1, eq_ix2 q⟩
  have hr := r.isLt
  have hl := l.isLt
  have he : ((cfg0.win 2).blk t).view.emb (ix2 r l) = ix2 ⟨t.val / 2 * 1024 + r.val, by omega⟩ ⟨t.val % 2 * 1024 + l.val, by omega⟩ := by
    funext a; apply Fin.ext
    match a with
    | ⟨0, _⟩ => show win0_2.index t (0 : Fin 2) * 1024 + 1 * r.val = t.val / 2 * 1024 + r.val; omega
    | ⟨1, _⟩ => show win0_2.index t (1 : Fin 2) * 1024 + 1 * l.val = t.val % 2 * 1024 + l.val; omega
  show k0_pay1 (iblk m c 0 t) (iblk m c 1 t) (ix2 r l) = product (V m c main_arg0) (V m c main_arg1) (((cfg0.win 2).blk t).view.emb (ix2 r l))
  rw [he, product_apply, block_apply]
  exact Finset.sum_congr rfl fun k _ => by rw [blk_x m c t r k ⟨t.val / 2 * 1024 + r.val, by omega⟩ rfl, blk_w m c t k l ⟨t.val % 2 * 1024 + l.val, by omega⟩ rfl]

/-- The points' blocks are all of the result. -/
theorem covered (i : S16384x2048.Idx) : ∃ t : Fin cfg0.N, (cfg0.win 2).flush t = true ∧ i ∈ ((cfg0.win 2).blk t).view.set := by
  have h0 : (i 0 : Nat) < 16384 := (i 0).isLt
  have h1 : (i 1 : Nat) < 2048 := (i 1).isLt
  let t : Fin cfg0.N := (⟨(i 0 : Nat) / 1024 * 2 + (i 1 : Nat) / 1024, by show _ < 32; omega⟩ : Fin cfg0.N)
  have tv : t.val = (i 0 : Nat) / 1024 * 2 + (i 1 : Nat) / 1024 := rfl
  obtain ⟨e0, e1⟩ := idx_o t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0 : Nat) ∧ (i 0 : Nat) < win0_2.index t (0 : Fin 2) * 1024 + 1024; omega
  | ⟨1, _⟩ => show win0_2.index t (1 : Fin 2) * 1024 ≤ (i 1 : Nat) ∧ (i 1 : Nat) < win0_2.index t (1 : Fin 2) * 1024 + 1024; omega

/-- The result after the run. -/
theorem final (c : Dev nD) : (dats m 0 c).arrAt 2 cfg0.N = product (m ((c.tc : Thread nD τ).loc main_arg0)) (m ((c.tc : Thread nD τ).loc main_arg1)) :=
  (dats m 0 c).arrAt_eq_of_cover 2 (product (V m c main_arg0) (V m c main_arg1)) (fun t _ => flushed_eq m c t) covered

/-- The kernel and the reference run to the same result. -/
theorem value : Cert.algebraic_InAIdeal_InARefIdeal (hInAIdeal := Cert.InAIdeal.Gen.facts) (hInARefIdeal := Cert.InARefIdeal.Gen.facts) := by
  intro m g m' g' _ hargs
  refine ⟨fun c => product (m ((c.tc : Thread nD τ).loc main_arg0)) (m ((c.tc : Thread nD τ).loc main_arg1)),
    (θ_run Cert.InAIdeal.defs _ _).mono (fun r h c => ⟨(h c).1.trans (final m c), (h c).2⟩) (run_blocks m g), ?_⟩
  refine (θ_run Cert.InARefIdeal.defs _ _).mono (fun r h c => ⟨(h c).1.trans ?_, (h c).2⟩) (Cert.InARefIdeal.Value.run m' g')
  rw [(hargs c).1, (hargs c).2]
  rfl

end Cert.Proof.InA
-- ==== Proof.InBValue.lean ====
module

public import proofs.«01_k».proof.Defs
public import proofs.«01_k».proof.Proof.Gen.InBIdeal.Value
public import proofs.«01_k».proof.Proof.Gen.InBRefIdeal.Run
public import Idealize.ShloMosaic.Lib.Pointwise
public import Idealize.ShloMosaic.Lib.Pipeline.Value

@[expose] public section

set_option maxRecDepth 16384

noncomputable section

namespace Cert.Proof.InB

open Cert.InBIdeal Cert.InBIdeal.Gen Cert.InBIdeal.Value Idealize.ShloMosaic Idealize.ShloMosaic.TcCoe Idealize.SL.Sem
open Idealize.ShloMosaic.Pipeline (Dat)

/-- The product, as the reference computes it from the whole arrays. -/
def product (x : Vec Ideal Cert.InBRefIdeal.S16384x2048 .bf16) (w : Vec Ideal Cert.InBRefIdeal.S4x2048x4608 .bf16) : Vec Ideal Cert.InBRefIdeal.S16384x4608 .f32 :=
  (Host.dotGeneral (F := Ideal) Cert.InBRefIdeal.dot_S16384x2048_S2048x4608_S16384x4608_1_0_0_1_n_n none (extf .f32 x Cert.InBRefIdeal.Gen.bitsLt_bf16_f32)
    (extf .f32 (shapeCast _ (extractStridedSlice Cert.InBRefIdeal.S1x2048x4608 ![0, 0, 0] w Cert.InBRefIdeal.Gen.facts.slices_S4x2048x4608_S1x2048x4608_0_0_0)
      Cert.InBRefIdeal.Gen.facts.shapeCasts_S1x2048x4608_S2048x4608) Cert.InBRefIdeal.Gen.bitsLt_bf16_f32))

theorem product_apply (x w) (r : Fin 16384) (l : Fin 4608) :
    product x w (ix2 r l) = ∑ k : Fin 2048, x (ix2 r k) * w (ix3 0 k l) := by
  pointwise [product]

/-- A block's product. -/
theorem block_apply (x : Vec Ideal S1024x2048 .bf16) (w : Vec Ideal S1x2048x768 .bf16) (r : Fin 1024) (l : Fin 768) :
    k0_pay1 x w (ix2 r l) = ∑ k : Fin 2048, x (ix2 r k) * w (ix3 0 k l) := by
  pointwise [k0_pay1]

variable (m : (ℓ : Loc nD τ sig) → Buf (Elt Ideal) ℓ) (ρ : Dev nD → PrngReg)

theorem idx_x : ∀ t : Fin cfg0.N, win0_0.index t (0 : Fin 2) = t.val / 6 ∧ win0_0.index t (1 : Fin 2) = 0 :=
  (by decide +kernel : ∀ t : Fin grid0.N, win0_0.index t (0 : Fin 2) = t.val / 6 ∧ win0_0.index t (1 : Fin 2) = 0)
theorem idx_w : ∀ t : Fin cfg0.N, win0_1.index t (0 : Fin 3) = 0 ∧ win0_1.index t (1 : Fin 3) = 0 ∧ win0_1.index t (2 : Fin 3) = t.val % 6 :=
  (by decide +kernel : ∀ t : Fin grid0.N, win0_1.index t (0 : Fin 3) = 0 ∧ win0_1.index t (1 : Fin 3) = 0 ∧ win0_1.index t (2 : Fin 3) = t.val % 6)
theorem idx_o : ∀ t : Fin cfg0.N, win0_2.index t (0 : Fin 2) = t.val / 6 ∧ win0_2.index t (1 : Fin 2) = t.val % 6 :=
  (by decide +kernel : ∀ t : Fin grid0.N, win0_2.index t (0 : Fin 2) = t.val / 6 ∧ win0_2.index t (1 : Fin 2) = t.val % 6)

/-- A block of the input is its rows of the array. -/
theorem blk_x (c : Dev nD) (t : Fin cfg0.N) (r : Fin 1024) (k : Fin 2048) (i : Fin 16384) (hi : i.val = t.val / 6 * 1024 + r.val) :
    iblk m c 0 t (ix2 r k) = V m c main_arg0 (ix2 i k) := by
  obtain ⟨e0, e1⟩ := idx_x t
  show V m c main_arg0 (((cfg0.win 0).blk t).view.emb (ix2 r k)) = _
  refine congrArg _ (funext fun a => Fin.ext ?_)
  match a with
  | ⟨0, _⟩ => show win0_0.index t (0 : Fin 2) * 1024 + 1 * r.val = i.val; omega
  | ⟨1, _⟩ => show win0_0.index t (1 : Fin 2) * 2048 + 1 * k.val = k.val; omega

/-- A block of the weights is its columns of the first layer's. -/
theorem blk_w (c : Dev nD) (t : Fin cfg0.N) (k : Fin 2048) (l : Fin 768) (j : Fin 4608) (hj : j.val = t.val % 6 * 768 + l.val) :
    iblk m c 1 t (ix3 0 k l) = V m c main_arg1 (ix3 0 k j) := by
  obtain ⟨e0, e1, e2⟩ := idx_w t
  show V m c main_arg1 (((cfg0.win 1).blk t).view.emb (ix3 0 k l)) = _
  refine congrArg _ (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 768 + 1 * l.val = j.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- What a point writes back is its block of the whole product. -/
theorem flushed_eq (c : Dev nD) (t : Fin cfg0.N) :
    (dats m 0 c).flushed 2 t = ((cfg0.win 2).blk t).view.read (Elt Ideal) (product (V m c main_arg0) (V m c main_arg1)) := by
  rw [flushed2]
  unfold out0_2
  rw [View.canon_unit_zero hz2, View.ld_unit_zero hz2, View.ld_unit_zero hz3]
  obtain ⟨e0, e1⟩ := idx_o t
  have ht : t.val < 96 := t.isLt
  funext q
  obtain ⟨r, l, rfl⟩ : ∃ (r : Fin 1024) (l : Fin 768), q = ix2 r l := ⟨q 0, q 1, eq_ix2 q⟩
  have hr := r.isLt
  have hl := l.isLt
  have he : ((cfg0.win 2).blk t).view.emb (ix2 r l) = ix2 ⟨t.val / 6 * 1024 + r.val, by omega⟩ ⟨t.val % 6 * 768 + l.val, by omega⟩ := by
    funext a; apply Fin.ext
    match a with
    | ⟨0, _⟩ => show win0_2.index t (0 : Fin 2) * 1024 + 1 * r.val = t.val / 6 * 1024 + r.val; omega
    | ⟨1, _⟩ => show win0_2.index t (1 : Fin 2) * 768 + 1 * l.val = t.val % 6 * 768 + l.val; omega
  show k0_pay1 (iblk m c 0 t) (iblk m c 1 t) (ix2 r l) = product (V m c main_arg0) (V m c main_arg1) (((cfg0.win 2).blk t).view.emb (ix2 r l))
  rw [he, product_apply, block_apply]
  exact Finset.sum_congr rfl fun k _ => by rw [blk_x m c t r k ⟨t.val / 6 * 1024 + r.val, by omega⟩ rfl, blk_w m c t k l ⟨t.val % 6 * 768 + l.val, by omega⟩ rfl]

/-- The points' blocks are all of the result. -/
theorem covered (i : S16384x4608.Idx) : ∃ t : Fin cfg0.N, (cfg0.win 2).flush t = true ∧ i ∈ ((cfg0.win 2).blk t).view.set := by
  have h0 : (i 0 : Nat) < 16384 := (i 0).isLt
  have h1 : (i 1 : Nat) < 4608 := (i 1).isLt
  let t : Fin cfg0.N := (⟨(i 0 : Nat) / 1024 * 6 + (i 1 : Nat) / 768, by show _ < 96; omega⟩ : Fin cfg0.N)
  have tv : t.val = (i 0 : Nat) / 1024 * 6 + (i 1 : Nat) / 768 := rfl
  obtain ⟨e0, e1⟩ := idx_o t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0 : Nat) ∧ (i 0 : Nat) < win0_2.index t (0 : Fin 2) * 1024 + 1024; omega
  | ⟨1, _⟩ => show win0_2.index t (1 : Fin 2) * 768 ≤ (i 1 : Nat) ∧ (i 1 : Nat) < win0_2.index t (1 : Fin 2) * 768 + 768; omega

/-- The result after the run. -/
theorem final (c : Dev nD) : (dats m 0 c).arrAt 2 cfg0.N = product (m ((c.tc : Thread nD τ).loc main_arg0)) (m ((c.tc : Thread nD τ).loc main_arg1)) :=
  (dats m 0 c).arrAt_eq_of_cover 2 (product (V m c main_arg0) (V m c main_arg1)) (fun t _ => flushed_eq m c t) covered

/-- The kernel and the reference run to the same result. -/
theorem value : Cert.algebraic_InBIdeal_InBRefIdeal (hInBIdeal := Cert.InBIdeal.Gen.facts) (hInBRefIdeal := Cert.InBRefIdeal.Gen.facts) := by
  intro m g m' g' _ hargs
  refine ⟨fun c => product (m ((c.tc : Thread nD τ).loc main_arg0)) (m ((c.tc : Thread nD τ).loc main_arg1)),
    (θ_run Cert.InBIdeal.defs _ _).mono (fun r h c => ⟨(h c).1.trans (final m c), (h c).2⟩) (run_blocks m g), ?_⟩
  refine (θ_run Cert.InBRefIdeal.defs _ _).mono (fun r h c => ⟨(h c).1.trans ?_, (h c).2⟩) (Cert.InBRefIdeal.Value.run m' g')
  rw [(hargs c).1, (hargs c).2]
  rfl

end Cert.Proof.InB
-- ==== Proof.UqValue.lean ====
module

public import proofs.«01_k».proof.Defs
public import proofs.«01_k».proof.Proof.Gen.UqIdeal.Value
public import proofs.«01_k».proof.Proof.Gen.UqRefIdeal.Run
public import Idealize.ShloMosaic.Lib.Pointwise
public import Idealize.ShloMosaic.Lib.Pipeline.Value

@[expose] public section

set_option maxRecDepth 16384

noncomputable section

namespace Cert.Proof.Uq

open Idealize.ShloMosaic Idealize.ShloMosaic.TcCoe Idealize.SL.Sem
open Idealize.ShloMosaic.Pipeline (Dat)

section Reference

open Cert.UqRefIdeal Cert.UqRefIdeal.Gen

/-- The compressed query's columns of the projection. -/
def compressed (p : FVec Ideal S16384x4608 .f32) : FVec Ideal S16384x384 .f32 := extractStridedSlice S16384x384 ![0, 4096] p slices_S16384x4608_S16384x384_0_4096

/-- A row over the root of its mean square, by its scale. -/
def normed (u : FVec Ideal S16384x384 .f32) (g : FVec Ideal S4x384 .f32) : FVec Ideal S16384x384 .f32 :=
  mulf (mulf u (broadcastInDim S16384x384 ![0, 1] bcast_S16384x1_S16384x384_0_1 (Host.rsqrt (addf
      (Host.divf (broadcastInDim S16384x1 ![0] bcast_S16384_S16384x1_0 (Host.reduceAdd (mulf u u) (constant S_ .f32 0x00000000#32) reducesTo_S16384x384_S16384_d1 h_S_))
        (broadcastInDim S16384x1 ![] bcast_S_S16384x1 (constant S_ .f32 0x43C00000#32)))
      (broadcastInDim S16384x1 ![] bcast_S_S16384x1 (constant S_ .f32 0x3727C5AC#32))))))
    (broadcastInDim S16384x384 ![0, 1] bcast_S1x384_S16384x384_0_1 (broadcastInDim S1x384 ![1] bcast_S384_S1x384_1
      (shapeCast _ (extractStridedSlice S1x384 ![0, 0] g slices_S4x384_S1x384_0_0) shapeCasts_S1x384_S384)))

/-- The queries. -/
def queries (p : FVec Ideal S16384x4608 .f32) (g : FVec Ideal S4x384 .f32) (w : FVec Ideal S384x1536 .bf16) : FVec Ideal S16384x1536 .bf16 :=
  truncf .bf16 (Host.dotGeneral dot_S16384x384_S384x1536_S16384x1536_1_0_0_1_n_n none (normed (compressed p) g) (extf .f32 w bitsLt_bf16_f32) : FVec Ideal S16384x1536 .f32) bitsLt_bf16_f32

end Reference

open Cert.UqIdeal Cert.UqIdeal.Gen Cert.UqIdeal.Value

/-- One query at one place, from its row. -/
def query (u : Fin 384 → EReal) (g : Fin 384 → EReal) (w : Fin 384 → EReal) : EReal :=
  ∑ k : Fin 384, u k * Ideal.rsqrt (Ideal.div (∑ l : Fin 384, u l * u l) (Ideal.ofBits .f32 0x43C00000#32) + Ideal.ofBits .f32 0x3727C5AC#32) * g k * w k

theorem queries_apply (p g w) (r : Fin 16384) (j : Fin 1536) :
    queries p g w (ix2 r j) = query (fun k => p (ix2 r ⟨4096 + k.val, by omega⟩)) (fun k => g (ix2 0 k)) (fun k => w (ix2 k j)) := by
  pointwise [queries, normed, compressed, query]

theorem block_apply (x : Vec Ideal S512x384 .f32) (g : Vec Ideal S1x384 .f32) (w : Vec Ideal S384x1536 .bf16) (r : Fin 512) (j : Fin 1536) :
    k0_pay1 x g w (ix2 r j) = query (fun k => x (ix2 r k)) (fun k => g (ix2 0 k)) (fun k => w (ix2 k j)) := by
  pointwise [k0_pay1, query]

variable (m : (ℓ : Loc nD τ sig) → Buf (Elt Ideal) ℓ) (ρ : Dev nD → PrngReg)

/-- The first layer's row of the scales, as the kernel is given it. -/
def firstRow (g : Vec Ideal S4x384 .f32) : Vec Ideal S1x384 .f32 :=
  shapeCast _ (extractStridedSlice S1x1x384 ![0, 0, 0] (broadcastInDim S4x1x384 ![0, 2] bcast_S4x384_S4x1x384_0_2 g) slices_S4x1x384_S1x1x384_0_0_0) shapeCasts_S1x1x384_S1x384

theorem firstRow_apply (g) (l : Fin 384) : firstRow g (ix2 0 l) = g (ix2 0 l) := by
  pointwise [firstRow]

theorem V_scale (c : Dev nD) : V m c main_v2 = firstRow (m ((c.tc : Thread nD τ).loc main_arg1)) := by
  show StableHlo.after hostOps0 _ _ = _
  simp only [hostOps0, StableHlo.after_cons, StableHlo.after_nil]
  rfl

theorem idx : ∀ t : Fin cfg0.N, (win0_0.index t (0 : Fin 2) = t.val ∧ win0_0.index t (1 : Fin 2) = 8) ∧ (win0_1.index t (0 : Fin 2) = 0 ∧ win0_1.index t (1 : Fin 2) = 0)
    ∧ (win0_2.index t (0 : Fin 2) = 0 ∧ win0_2.index t (1 : Fin 2) = 0) ∧ win0_3.index t (0 : Fin 2) = t.val ∧ win0_3.index t (1 : Fin 2) = 0 :=
  (by decide +kernel : ∀ t : Fin grid0.N, (win0_0.index t (0 : Fin 2) = t.val ∧ win0_0.index t (1 : Fin 2) = 8) ∧ (win0_1.index t (0 : Fin 2) = 0 ∧ win0_1.index t (1 : Fin 2) = 0)
    ∧ (win0_2.index t (0 : Fin 2) = 0 ∧ win0_2.index t (1 : Fin 2) = 0) ∧ win0_3.index t (0 : Fin 2) = t.val ∧ win0_3.index t (1 : Fin 2) = 0)

/-- What a point reads of its block of the projection is its rows' compressed query. -/
theorem blk_p (c : Dev nD) (t : Fin cfg0.N) (r : Fin 512) (k : Fin 384) (i : Fin 16384) (hi : i.val = t.val * 512 + r.val) :
    View.ld (iblk m c 0 t) r0_0 (ix2 r k) = V m c main_arg0 (ix2 i ⟨4096 + k.val, by omega⟩) := by
  obtain ⟨⟨e0, e1⟩, -⟩ := idx t
  show V m c main_arg0 (((cfg0.win 0).blk t).view.emb (r0_0.emb (ix2 r k))) = _
  refine congrArg _ (funext fun a => Fin.ext ?_)
  match a with
  | ⟨0, _⟩ => show win0_0.index t (0 : Fin 2) * 512 + 1 * (0 + 1 * r.val) = i.val; omega
  | ⟨1, _⟩ => show win0_0.index t (1 : Fin 2) * 512 + 1 * (0 + 1 * k.val) = 4096 + k.val; omega

/-- The blocks of the scale and of the weights are the arrays themselves. -/
theorem blk_g (c : Dev nD) (t : Fin cfg0.N) (l : Fin 384) : iblk m c 1 t (ix2 0 l) = V m c main_v2 (ix2 0 l) := by
  obtain ⟨-, ⟨e0, e1⟩, -⟩ := idx t
  show V m c main_v2 (((cfg0.win 1).blk t).view.emb (ix2 0 l)) = _
  refine congrArg _ (funext fun a => Fin.ext ?_)
  match a with
  | ⟨0, _⟩ => show win0_1.index t (0 : Fin 2) * 1 + 1 * 0 = 0; omega
  | ⟨1, _⟩ => show win0_1.index t (1 : Fin 2) * 384 + 1 * l.val = l.val; omega
theorem blk_w (c : Dev nD) (t : Fin cfg0.N) (k : Fin 384) (j : Fin 1536) : iblk m c 2 t (ix2 k j) = V m c main_arg2 (ix2 k j) := by
  obtain ⟨-, -, ⟨e0, e1⟩, -⟩ := idx t
  show V m c main_arg2 (((cfg0.win 2).blk t).view.emb (ix2 k j)) = _
  refine congrArg _ (funext fun a => Fin.ext ?_)
  match a with
  | ⟨0, _⟩ => show win0_2.index t (0 : Fin 2) * 384 + 1 * k.val = k.val; omega
  | ⟨1, _⟩ => show win0_2.index t (1 : Fin 2) * 1536 + 1 * j.val = j.val; omega

theorem hz2 : (![0, 0] : Fin 2 → Nat) = fun _ => 0 := funext fun a => by fin_cases a <;> rfl

/-- The whole result from the arguments. -/
abbrev result (c : Dev nD) : FVec Ideal Cert.UqRefIdeal.S16384x1536 .bf16 :=
  queries (m ((c.tc : Thread nD τ).loc main_arg0)) (m ((c.tc : Thread nD τ).loc main_arg1)) (m ((c.tc : Thread nD τ).loc main_arg2))

/-- A point's queries at a place are the whole ones. -/
theorem point_apply (c : Dev nD) (t : Fin cfg0.N) (r : Fin 512) (j : Fin 1536) (i : Fin 16384) (hi : i.val = t.val * 512 + r.val) :
    k0_pay1 (View.ld (iblk m c 0 t) r0_0) (iblk m c 1 t) (iblk m c 2 t) (ix2 r j) = result m c (ix2 i j) := by
  have hp := fun k => (blk_p m c t r k i hi).trans (congrFun (V_main_arg0 m c) _)
  have hg := fun k => ((blk_g m c t k).trans (congrFun (V_scale m c) _)).trans (firstRow_apply _ k)
  have hw := fun k => (blk_w m c t k j).trans (congrFun (V_main_arg2 m c) _)
  rw [block_apply, result, queries_apply]
  simp only [hp, hg, hw]

/-- What a point writes back is its block of the queries. -/
theorem flushed_eq (c : Dev nD) (t : Fin cfg0.N) : (dats m 0 c).flushed 3 t = ((cfg0.win 3).blk t).view.read (Elt Ideal) (result m c) := by
  rw [flushed3]
  unfold out0_3
  have h1 : View.ld (iblk m c 1 t) r0_1 = iblk m c 1 t := View.ld_unit_zero (S := S1x384) hz2 _ _
  have h2 : View.ld (iblk m c 2 t) r0_2 = iblk m c 2 t := View.ld_unit_zero (S := S384x1536) hz2 _ _
  rw [View.canon_unit_zero hz2]
  obtain ⟨-, -, -, e0, e1⟩ := idx t
  have ht : t.val < 32 := t.isLt
  funext q
  obtain ⟨r, j, rfl⟩ : ∃ (r : Fin 512) (j : Fin 1536), q = ix2 r j := ⟨q 0, q 1, eq_ix2 q⟩
  have hr := r.isLt
  have he : ((cfg0.win 3).blk t).view.emb (ix2 r j) = ix2 ⟨t.val * 512 + r.val, by omega⟩ j := by
    funext a; apply Fin.ext
    match a with
    | ⟨0, _⟩ => show win0_3.index t (0 : Fin 2) * 512 + 1 * r.val = t.val * 512 + r.val; omega
    | ⟨1, _⟩ => show win0_3.index t (1 : Fin 2) * 1536 + 1 * j.val = j.val; omega
  show k0_pay1 (View.ld (iblk m c 0 t) r0_0) (View.ld (iblk m c 1 t) r0_1) (View.ld (iblk m c 2 t) r0_2) (ix2 r j) = result m c (((cfg0.win 3).blk t).view.emb (ix2 r j))
  rw [he]
  exact (congrFun (congrArg₂ (k0_pay1 (View.ld (iblk m c 0 t) r0_0)) h1 h2) _).trans (point_apply m c t r j _ rfl)

/-- The points' blocks are all of the result. -/
theorem covered (i : S16384x1536.Idx) : ∃ t : Fin cfg0.N, (cfg0.win 3).flush t = true ∧ i ∈ ((cfg0.win 3).blk t).view.set := by
  have h0 : (i 0 : Nat) < 16384 := (i 0).isLt
  have h1 : (i 1 : Nat) < 1536 := (i 1).isLt
  let t : Fin cfg0.N := (⟨(i 0 : Nat) / 512, by show _ < 32; omega⟩ : Fin cfg0.N)
  have tv : t.val = (i 0 : Nat) / 512 := rfl
  obtain ⟨-, -, -, e0, e1⟩ := idx t
  refine ⟨t, flush0_3 t, ?_⟩
  show i ∈ ((View.whole main_v3).slice (win0_3.rect t)).set
  rw [View.set_slice_whole, Rect.mem_set_unit]
  intro a
  match a with
  | ⟨0, _⟩ => show win0_3.index t (0 : Fin 2) * 512 ≤ (i 0 : Nat) ∧ (i 0 : Nat) < win0_3.index t (0 : Fin 2) * 512 + 512; omega
  | ⟨1, _⟩ => show win0_3.index t (1 : Fin 2) * 1536 ≤ (i 1 : Nat) ∧ (i 1 : Nat) < win0_3.index t (1 : Fin 2) * 1536 + 1536; omega

/-- The result after the run. -/
theorem final (c : Dev nD) : (dats m 0 c).arrAt 3 cfg0.N = result m c :=
  (dats m 0 c).arrAt_eq_of_cover 3 (result m c) (fun t _ => flushed_eq m c t) covered

/-- The kernel and the reference run to the same result. -/
theorem value : Cert.algebraic_UqIdeal_UqRefIdeal (hUqIdeal := Cert.UqIdeal.Gen.facts) (hUqRefIdeal := Cert.UqRefIdeal.Gen.facts) := by
  intro m g m' g' _ hargs
  refine ⟨result m,
    (θ_run Cert.UqIdeal.defs _ _).mono (fun r h c => ⟨(h c).1.trans (final m c), (h c).2⟩) (run_blocks m g), ?_⟩
  refine (θ_run Cert.UqRefIdeal.defs _ _).mono (fun r h c => ⟨(h c).1.trans ?_, (h c).2⟩) (Cert.UqRefIdeal.Value.run m' g')
  obtain ⟨a0, a1, a2⟩ := hargs c
  rw [a0, a1, a2]
  rfl

end Cert.Proof.Uq
-- ==== Proof.ExWords.lean ====
module

public import proofs.«01_k».proof.Pre_ex_addressed
public import proofs.«01_k».proof.Proof.Gen.Pre_ex_addressed
public import Idealize.ShloMosaic.Lib.Pointwise
public import Idealize.ShloMosaic.Lib.WordCmp

@[expose] public section

set_option maxRecDepth 16384

noncomputable section

namespace Cert.Proof.ExWords

open Cert.Pre_ex_addressed Idealize.ShloMosaic

variable {F : FTy → Type} [FloatOps F]

/-- What the precondition says: every slot names a token, every block an expert, and there is at least one block and no more than there is room for. -/
structure Addressed (tok : IVec S40960 32) (exp : IVec S160 32) (n : IVec S1 32) : Prop where
  tok : ∀ (b : Fin 160) (r : Fin 256), (tok (ix1 ⟨b.val * 256 + r.val, by omega⟩)).toNat < 16384
  exp : ∀ b : Fin 160, (exp (ix1 b)).toNat < 32
  pos : 1 ≤ (n (ix1 0)).toNat
  le : (n (ix1 0)).toNat ≤ 160

theorem one_and {a b : BitVec 1} (h : a &&& b = 1#1) : a = 1#1 ∧ b = 1#1 := by
  revert h; revert a b; decide

theorem ge_word {a b : BitVec 32} (h : IntOp.cmpi .sge a b = 1#1) : b.toInt ≤ a.toInt := by
  have h' : BitVec.ofBool (BitVec.sle b a) = 1#1 := h
  rwa [WordCmp.ofBool_eq_one_iff, BitVec.sle_iff_toInt_le] at h'
theorem le_word {a b : BitVec 32} (h : IntOp.cmpi .sle a b = 1#1) : a.toInt ≤ b.toInt := by
  have h' : BitVec.ofBool (BitVec.sle a b) = 1#1 := h
  rwa [WordCmp.ofBool_eq_one_iff, BitVec.sle_iff_toInt_le] at h'
theorem lt_word {a b : BitVec 32} (h : IntOp.cmpi .slt a b = 1#1) : a.toInt < b.toInt := by
  have h' : BitVec.ofBool (BitVec.slt a b) = 1#1 := h
  rwa [WordCmp.ofBool_eq_one_iff, BitVec.slt_iff_toInt_lt] at h'
/-- A word that is not negative is its own number. -/
theorem toNat_of_nonneg {a : BitVec 32} (h : 0 ≤ a.toInt) : (a.toNat : ℤ) = a.toInt := by
  rw [BitVec.toInt_eq_toNat_cond] at h ⊢
  split at h <;> rename_i h2
  · rw [if_pos h2]
  · have := a.isLt; omega

theorem addressed (a0 : FVec F S16384x2048 .f32) (a1 : IVec S40960 32) (a2 : IVec S160 32) (a3 : IVec S1 32) (a4 a5 : FVec F S4x32x2048x512 .f32)
    (a6 : FVec F S4x32x512x2048 .f32) (h : fn (F := F) a0 a1 a2 a3 a4 a5 a6 = fun _ => 1#1) : Addressed a1 a2 a3 := by
  have key (b : Fin 160) (r : Fin 256) : ((((((IntOp.cmpi .sge (a1 (ix1 ⟨b.val * 256 + r.val, by omega⟩)) 0#32 &&& IntOp.cmpi .slt (a1 (ix1 ⟨b.val * 256 + r.val, by omega⟩)) 16384#32)
      &&& IntOp.cmpi .sge (a2 (ix1 b)) 0#32) &&& IntOp.cmpi .slt (a2 (ix1 b)) 32#32) &&& IntOp.cmpi .sge (a3 (ix1 0)) 1#32) &&& IntOp.cmpi .sle (a3 (ix1 0)) 160#32)) = 1#1 := by
    refine Eq.trans ?_ (congrFun h (ix2 b r))
    symm
    pointwise [fn, fn_part1]
    rfl
  have all (b : Fin 160) (r : Fin 256) : (a1 (ix1 ⟨b.val * 256 + r.val, by omega⟩)).toNat < 16384 ∧ (a2 (ix1 b)).toNat < 32 ∧ 1 ≤ (a3 (ix1 0)).toNat ∧ (a3 (ix1 0)).toNat ≤ 160 := by
    obtain ⟨h5, h6⟩ := one_and (key b r)
    obtain ⟨h4, h5⟩ := one_and h5
    obtain ⟨h3, h4⟩ := one_and h4
    obtain ⟨h2, h3⟩ := one_and h3
    obtain ⟨h1, h2⟩ := one_and h2
    have h1 := ge_word h1; have h2 := lt_word h2; have h3 := ge_word h3; have h4 := lt_word h4; have h5 := ge_word h5; have h6 := le_word h6
    rw [show (0#32 : BitVec 32).toInt = 0 from rfl] at h1 h3
    rw [show (16384#32 : BitVec 32).toInt = 16384 from rfl] at h2
    rw [show (32#32 : BitVec 32).toInt = 32 from rfl] at h4
    rw [show (1#32 : BitVec 32).toInt = 1 from rfl] at h5
    rw [show (160#32 : BitVec 32).toInt = 160 from rfl] at h6
    have e1 := toNat_of_nonneg h1; have e3 := toNat_of_nonneg h3; have e5 := toNat_of_nonneg (show 0 ≤ (a3 (ix1 0)).toInt by omega)
    omega
  exact ⟨fun b r => (all b r).1, fun b => (all b 0).2.1, (all 0 0).2.2.1, (all 0 0).2.2.2⟩

end Cert.Proof.ExWords
-- ==== Proof.ExIdealRows.lean ====
module

public import proofs.«01_k».proof.Proof.Gen.ExIdeal
public import proofs.«01_k».proof.Proof.Gen.ExIdeal.Skeleton
public import proofs.«01_k».proof.Proof.Gen.ExIdeal.Loops
public import proofs.«01_k».proof.Proof.Gen.ExIdeal.Launch
public import Idealize.ShloMosaic.Lib.Tactic
public import Idealize.ShloMosaic.Lib.Batch
public import Idealize.ShloMosaic.Lib.Pointwise
public import Idealize.ShloMosaic.Lib.Ring
public import Idealize.ShloMosaic.Lib.Pipeline.Kit
public import Idealize.ShloMosaic.Lib.Pipeline.FrameBody
public import Idealize.ShloMosaic.Lib.Claim

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rows: of the token array, and of the buffer's three slots -/

/-- The token array and the buffer of three slots. -/
abbrev xM : Memref sig .tc .hbm S16384x2048 .f32 := Memref.whole main_arg0
abbrev bufM : Memref sig .tc .vmem S3x256x2048 .f32 := Memref.whole cc0_scratch0

theorem src_inb (w : Fin 16384) : ∀ a, (![w.val, 0] : Fin 2 → Nat) a + S1x2048.size a ≤ S16384x2048.size a := by
  have := w.isLt; intro a; fin_cases a
  · show w.val + 1 ≤ 16384; omega
  · show 0 + 2048 ≤ 2048; omega

theorem dst_inb (p : Fin 3) (r : Fin 256) : ∀ a, (![p.val, r.val, 0] : Fin 3 → Nat) a + S1x1x2048.size a ≤ S3x256x2048.size a := by
  have := p.isLt; have := r.isLt; intro a; fin_cases a
  · show p.val + 1 ≤ 3; omega
  · show r.val + 1 ≤ 256; omega
  · show 0 + 2048 ≤ 2048; omega

theorem cell_inb (p : Fin 3) : ∀ a, (![p.val] : Fin 1 → Nat) a + S1.size a ≤ S3.size a := by
  have := p.isLt; intro a; fin_cases a; show p.val + 1 ≤ 3; omega

/-- Row `w` of the token array. -/
def srcM (w : Fin 16384) : Memref sig .tc .hbm S1x2048 .f32 :=
  xM.slice (Rect.unit (s := S16384x2048) ![w.val, 0] S1x2048.size (src_inb w)) (fun _ => rfl)
/-- Row `r` of slot `p`. -/
def dstM (p : Fin 3) (r : Fin 256) : Memref sig .tc .vmem S1x2048 .f32 :=
  (bufM.slice (Rect.unit (s := S3x256x2048) ![p.val, r.val, 0] S1x1x2048.size (dst_inb p r)) (fun _ => rfl)).squeeze S1x2048 squeezes_S1x1x2048_S1x2048
/-- Slot `p`'s cell. -/
def cellM (p : Fin 3) : DmaSem sig :=
  ((cc0_scratch4.slice (Rect.unit (s := S3) ![p.val] S1.size (cell_inb p))).squeeze S_ squeezes_S1_S_).sem

/-- The elements of a slot's row. -/
abbrev rset (p : Fin 3) (r : Fin 256) : Finset S3x256x2048.Idx :=
  (Rect.unit (s := S3x256x2048) ![p.val, r.val, 0] S1x1x2048.size (dst_inb p r)).set

/-- The elements of a row of the token array. -/
abbrev sset (w : Fin 16384) : Finset S16384x2048.Idx :=
  (Rect.unit (s := S16384x2048) ![w.val, 0] S1x2048.size (src_inb w)).set

theorem src_set (w : Fin 16384) : (srcM w).view.set = sset w := by
  unfold srcM; exact View.set_slice_whole _ _

theorem dst_set (p : Fin 3) (r : Fin 256) : (dstM p r).view.set = rset p r := by
  unfold dstM; exact (View.set_reshape _ _).trans (View.set_slice_whole _ _)

theorem mem_rset (p : Fin 3) (r : Fin 256) (y : S3x256x2048.Idx) : y ∈ rset p r ↔ (y 0).val = p.val ∧ (y 1).val = r.val := by
  rw [Rect.mem_set_unit]
  have h2 : (y 2).val < 2048 := (y 2).isLt
  constructor
  · intro H
    have a0 : p.val ≤ (y 0).val ∧ (y 0).val < p.val + 1 := H 0
    have a1 : r.val ≤ (y 1).val ∧ (y 1).val < r.val + 1 := H 1
    omega
  · intro H a; fin_cases a
    · show p.val ≤ (y 0).val ∧ (y 0).val < p.val + 1; omega
    · show r.val ≤ (y 1).val ∧ (y 1).val < r.val + 1; omega
    · show 0 ≤ (y 2).val ∧ (y 2).val < 0 + 2048; omega

variable (c : Dev nD) (x : S16384x2048.Idx → Elt F .f32)

/-- The rows named by `T`, as the buffer's contents (the same in every slot). -/
def gathered (T : Fin 256 → Fin 16384) : S3x256x2048.Idx → Elt F .f32 := fun y => x (ix2 (T (y 1)) (y 2))

/-- The read token of slot `p`'s row `r`. -/
abbrev tk (p : Fin 3) (r : Fin 256) : PosShare TreeShare := Transfers.shareTokN fullShare (p.val * 256 + r.val)

/-- Slot `p`'s row `r` at some contents; at the gathered ones. -/
def rowAny (p : Fin 3) (r : Fin 256) : sProp 𝕄 := iprop(∃ f, bufM.view.loc (c : Thread nD τ) ↦[rset p r]{fullShare} f)
def rowAt (p : Fin 3) (T : Fin 256 → Fin 16384) (r : Fin 256) : sProp 𝕄 :=
  bufM.view.loc (c : Thread nD τ) ↦[rset p r]{fullShare} gathered x T
/-- The token array under a row's read token: whole; the row lent; the others, kept. -/
def tokAll (p : Fin 3) (r : Fin 256) : sProp 𝕄 := xM.view.loc (c : Thread nD τ) ↦{tk p r} x
def tokRow (p : Fin 3) (w : Fin 16384) (r : Fin 256) : sProp 𝕄 :=
  xM.view.loc (c : Thread nD τ) ↦[sset w]{tk p r} x
def tokRest (p : Fin 3) (w : Fin 16384) (r : Fin 256) : sProp 𝕄 :=
  xM.view.loc (c : Thread nD τ) ↦[Finset.univ \ sset w]{tk p r} x

/-- What transfer `r` of slot `p` delivers: the row landed, the array's row back. -/
def deliv (p : Fin 3) (T : Fin 256 → Fin 16384) (r : Fin 256) : sProp 𝕄 :=
  iprop(rowAt c x p T r ∗ tokRow c x p (T r) r)

instance deliv_storable (p : Fin 3) (T : Fin 256 → Fin 16384) (r : Fin 256) : BI.Storable (upEmb : UEmb _ 𝕄) (deliv c x p T r) := by
  have h1 : BI.Storable (upEmb : UEmb _ 𝕄) (rowAt c x p T r) := by unfold rowAt; infer_instance
  have h2 : BI.Storable (upEmb : UEmb _ 𝕄) (tokRow c x p (T r) r) := by unfold tokRow; infer_instance
  unfold deliv; infer_instance

/-- A row's credit. -/
def NR : ℕ := bufM.view.ref.dmaCredit S1x2048 .f32

/-- Slot `p`'s batch of 256 rows, `j` of them sent for and `u` of their units consumed. -/
abbrev batch (p : Fin 3) (T : Fin 256 → Fin 16384) (j u : ℕ) : sProp 𝕄 :=
  Transfers.Batch (countersEmb (U := Pipeline.UD sig nD τ)) (c : Thread nD τ) (.dma (cellM p)) () NR (deliv c x p T) j u

/-- `n` rows of slot `p` sent for. -/
def sent (p : Fin 3) (T : Fin 256 → Fin 16384) (n : ℕ) : sProp 𝕄 :=
  iprop(batch c x p T n 0 ∗ bigSep (Ring.rangeSet 256 n 256) (rowAny (F := F) c p) ∗ bigSep (Ring.rangeSet 256 n 256) (tokAll c x p)
    ∗ bigSep (Ring.rangeSet 256 0 n) (fun r => tokRest c x p (T r) r))

theorem tok_split (p : Fin 3) (w : Fin 16384) (r : Fin 256) :
    tokAll c x p r ⊣⊢ iprop(tokRow c x p w r ∗ tokRest c x p w r) :=
  pointsTo_split_subset (Finset.subset_univ _)

theorem tokRow_view (p : Fin 3) (r : Fin 256) (w : Fin 16384) :
    tokRow c x p w r ⊣⊢ ((srcM w).view.loc (c : Thread nD τ) ↦[(srcM w).view.set]{tk p r} x : sProp 𝕄) := by
  rw [src_set]; exact .rfl

theorem dst_emb (p : Fin 3) (r : Fin 256) (a : Fin 1) (b : Fin 2048) : (dstM p r).view.emb (ix2 a b) = ix3 p r b := by
  show (Rect.unit (s := S3x256x2048) ![p.val, r.val, 0] S1x1x2048.size (dst_inb p r)).emb
    (Shape.reshapeEquiv (s := S1x1x2048) squeezes_S1x1x2048_S1x2048.numel_eq (ix2 a b)) = _
  have he : Shape.reshapeEquiv (s := S1x1x2048) squeezes_S1x1x2048_S1x2048.numel_eq (ix2 a b) = (Fin.cons ⟨0, Nat.one_pos⟩ (ix2 a b) : S1x1x2048.Idx) :=
    Shape.reshapeEquiv_cons_one _ _
  rw [he]
  funext i
  apply Fin.ext
  rw [Rect.emb_apply]
  fin_cases i
  · show p.val + 1 * 0 = p.val; omega
  · show r.val + 1 * a.val = r.val; have := a.isLt; omega
  · show 0 + 1 * b.val = b.val; omega

theorem src_emb (w : Fin 16384) (a : Fin 1) (b : Fin 2048) : (srcM w).view.emb (ix2 a b) = ix2 w b := by
  show (Rect.unit (s := S16384x2048) ![w.val, 0] S1x2048.size (src_inb w)).emb (ix2 a b) = _
  funext i
  apply Fin.ext
  rw [Rect.emb_apply]
  fin_cases i
  · show w.val + 1 * a.val = w.val; have := a.isLt; omega
  · show 0 + 1 * b.val = b.val; omega

theorem landed (p : Fin 3) (T : Fin 256 → Fin 16384) (r : Fin 256) (fd : S3x256x2048.Idx → Elt F .f32) (y : S3x256x2048.Idx) (hy : y ∈ rset p r) :
    (dstM p r).view.write (Elt F) fd ((srcM (T r)).view.read (Elt F) x) Finset.univ y = gathered x T y := by
  obtain ⟨hy0, hy1⟩ := (mem_rset p r y).1 hy
  obtain ⟨a, b, d, rfl⟩ : ∃ a b d, y = ix3 a b d := ⟨y 0, y 1, y 2, by funext i; fin_cases i <;> rfl⟩
  obtain rfl : a = p := Fin.ext hy0
  obtain rfl : b = r := Fin.ext hy1
  refine Eq.trans (congrArg _ (dst_emb a b 0 d).symm) (Eq.trans (View.write_emb_of_mem (v := (dstM a b).view) (Val := Elt F) fd _ (Finset.mem_univ _)) ?_)
  show x ((srcM (T b)).view.emb (ix2 0 d)) = x (ix2 (T b) d)
  exact congrArg x (src_emb _ _ _)

theorem amount_dst (p : Fin 3) (r : Fin 256) (sm : DmaSem sig) : (dstM p r).view.amount (.dma sm) = NR := by
  rfl

/-- One row sent for. -/
theorem send {α : Type} (Q : α → sProp 𝕄) (p : Fin 3) (T : Fin 256 → Fin 16384) (n : Fin 256) (w : Fin 16384) (hw : w = T n)
    (oD : Fin 3 → ℕ) (hoD : oD = ![p.val, n.val, 0]) (iD : ∀ a, oD a + S1x1x2048.size a ≤ S3x256x2048.size a)
    (oS : Fin 2 → ℕ) (hoS : oS = ![w.val, 0]) (iS : ∀ a, oS a + S1x2048.size a ≤ S16384x2048.size a)
    (oC : Fin 1 → ℕ) (hoC : oC = ![p.val]) (iC : ∀ a, oC a + S1.size a ≤ S3.size a)
    (h1 h2 h3) (k : PUnit → Prog (TpuEff nD τ sig (Elt F) Λ₀ .tc) α) :
    sent c x p T n.val ⊢ iprop((sent c x p T (n.val + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma (xM.slice (Rect.unit (s := S16384x2048) oS S1x2048.size iS) (fun _ => rfl))
          (.here ((bufM.slice (Rect.unit (s := S3x256x2048) oD S1x1x2048.size iD) (fun _ => rfl)).squeeze S1x2048 squeezes_S1x1x2048_S1x2048))
          (.dma ((cc0_scratch4.slice (Rect.unit (s := S3) oC S1.size iC)).squeeze S_ squeezes_S1_S_).sem) h1 h2 h3) k) Q) := by
  subst hw hoD hoS hoC
  have hn := n.isLt
  unfold sent
  rw [Ring.bigSep_rangeSet_head (Φ := rowAny (F := F) c p) hn hn, Ring.bigSep_rangeSet_head (Φ := tokAll c x p) hn hn,
    Ring.bigSep_rangeSet_last (lo := 0) (hi := n.val + 1) (Φ := fun r => tokRest c x p (T r) r) (Nat.succ_pos _) hn]
  iintro ⟨HB, ⟨Hd, Hds⟩, ⟨Ht, Hts⟩, Hr⟩ Hk
  ihave Ht' := (tok_split c x p (T n) n).1 $$ Ht
  icases Ht' with ⟨Hrow, Hrest⟩
  unfold rowAny
  icases Hd with ⟨%fd, Hd⟩
  iapply (Transfers.wp_dmaBatch (countersEmb (U := Pipeline.UD sig nD τ)) Variants.none (c : Thread nD τ) none
    (src := srcM (T n)) (dst := dstM p n) (Sd := rset p n) (fs := x) (fd := fd) (q := tk p n) (D := deliv c x p T) (j := n.val) (u := 0)
    () NR (amount_dst p n _) (by rw [dst_set]; exact Finset.Subset.refl _) hn (Nat.zero_le _) ?_) $$ [Hrow Hd HB]
  · unfold deliv rowAt
    iintro ⟨Hd, Hs⟩
    isplitl [Hd]
    · rw [← pointsTo_congr (fun y hy => landed x p T n fd y hy)]
      iexact Hd
    · iapply (tokRow_view c x p n (T n)).2; iexact Hs
  · isplitl [Hrow]; · iapply (tokRow_view c x p n (T n)).1; iexact Hrow
    isplitl [Hd]; · iexact Hd
    iexact HB
  iintro HB
  iapply Hk
  isplitl [HB]; · iexact HB
  isplitl [Hds]; · iexact Hds
  isplitl [Hts]; · iexact Hts
  isplitl [Hrest]; · iexact Hrest
  iexact Hr

/-! ## A slot: free, in flight, drained -/

theorem NR_pos : 0 < NR := by unfold NR; decide

/-- Slot `p` free: its cell at zero, its rows at some contents, its rows' tokens. -/
def slotFree (p : Fin 3) : sProp 𝕄 :=
  iprop(semVal ((c : Thread nD τ), SemLoc.dma (cellM p)) 0 ∗ bigSep Finset.univ (rowAny (F := F) c p) ∗ bigSep Finset.univ (tokAll c x p))
/-- Slot `p` landed: the same with the rows gathered. -/
def slotLanded (p : Fin 3) (T : Fin 256 → Fin 16384) : sProp 𝕄 :=
  iprop(semVal ((c : Thread nD τ), SemLoc.dma (cellM p)) 0 ∗ bigSep Finset.univ (rowAt c x p T) ∗ bigSep Finset.univ (tokAll c x p))
/-- `n` rows of slot `p` waited for. -/
def waited (p : Fin 3) (T : Fin 256 → Fin 16384) (n : ℕ) : sProp 𝕄 :=
  if n < 256 then iprop(batch c x p T 256 (n * NR) ∗ bigSep Finset.univ (fun r => tokRest c x p (T r) r)) else slotLanded c x p T

theorem slot_alloc (p : Fin 3) (T : Fin 256 → Fin 16384) : slotFree c x p ⊢ iprop(|={Set.univ}=> sent c x p T 0) := by
  unfold slotFree sent
  iintro ⟨Hc, Hd, Ht⟩
  imod (Transfers.batch_alloc' (Lvl := ℕ) (countersEmb (U := Pipeline.UD sig nD τ)) (c : Thread nD τ) () NR (deliv c x p T) (sm := .dma (cellM p)) (E := Set.univ)) $$ Hc with HB
  imodintro
  isplitl [HB]; · iexact HB
  rw [Ring.rangeSet_univ, Ring.bigSep_rangeSet_empty (le_refl 0)]
  isplitl [Hd]; · iexact Hd
  isplitl [Ht]; · iexact Ht
  iempintro

theorem sent_waited (p : Fin 3) (T : Fin 256 → Fin 16384) : sent c x p T 256 ⊢ waited c x p T 0 := by
  unfold sent waited
  rw [if_pos (by omega), Ring.rangeSet_univ, Nat.zero_mul]
  iintro ⟨HB, -, -, Hr⟩
  isplitl [HB]; · iexact HB
  iexact Hr

theorem rowAt_any (p : Fin 3) (T : Fin 256 → Fin 16384) (r : Fin 256) : rowAt c x p T r ⊢ rowAny (F := F) c p r := by
  unfold rowAt rowAny
  iintro H; iexists _; iexact H

theorem landed_free (p : Fin 3) (T : Fin 256 → Fin 16384) : slotLanded c x p T ⊢ slotFree c x p := by
  unfold slotLanded slotFree
  iintro ⟨Hc, Hd, Ht⟩
  isplitl [Hc]; · iexact Hc
  isplitl [Hd]
  · iapply (show bigSep Finset.univ (rowAt c x p T) ⊢ bigSep Finset.univ (rowAny (F := F) c p) from
      BI.bigSep_mono fun r _ => rowAt_any c x p T r)
    iexact Hd
  iexact Ht

theorem deliv_landed (p : Fin 3) (T : Fin 256 → Fin 16384) :
    iprop(bigSep Finset.univ (deliv c x p T) ∗ bigSep Finset.univ (fun r => tokRest c x p (T r) r))
      ⊢ iprop(bigSep Finset.univ (rowAt c x p T) ∗ bigSep Finset.univ (tokAll c x p)) := by
  iintro ⟨Hd, Hr⟩
  ihave Hd' := (show bigSep Finset.univ (deliv c x p T) ⊢ iprop(bigSep Finset.univ (rowAt c x p T) ∗ bigSep Finset.univ (fun r => tokRow c x p (T r) r))
    from Entails.of_eq (BI.bigSep_sep _ _ _)) $$ Hd
  icases Hd' with ⟨Hd, Ht⟩
  isplitl [Hd]; · iexact Hd
  iapply (show iprop(bigSep Finset.univ (fun r => tokRow c x p (T r) r) ∗ bigSep Finset.univ (fun r => tokRest c x p (T r) r)) ⊢ bigSep Finset.univ (tokAll c x p)
    from (Entails.of_eq (BI.bigSep_sep _ _ _).symm).trans (BI.bigSep_mono fun r _ => (tok_split c x p (T r) r).2))
  isplitl [Ht]; · iexact Ht
  iexact Hr

/-- One row waited for. -/
theorem wait {α : Type} (Q : α → sProp 𝕄) (p : Fin 3) (T : Fin 256 → Fin 16384) (n : ℕ) (hn : n < 256)
    (oD : Fin 3 → ℕ) (iD : ∀ a, oD a + S1x1x2048.size a ≤ S3x256x2048.size a)
    (srcw : Memref sig .tc .hbm S1x2048 .f32)
    (oC : Fin 1 → ℕ) (hoC : oC = ![p.val]) (iC : ∀ a, oC a + S1.size a ≤ S3.size a)
    (h1 h2) (k : PUnit → Prog (TpuEff nD τ sig (Elt F) Λ₀ .tc) α) :
    iprop(waited c x p T n ∗ (∃ W, owes (c : Thread nD τ) 0 W))
      ⊢ iprop((iprop(waited c x p T (n + 1) ∗ (∃ W, owes (c : Thread nD τ) 0 W)) -∗ wp frame (wpE (defs₀ (F := F)) Variants.none (c : Thread nD τ) none) Set.univ (k ⟨⟩) Q)
      -∗ wp frame (wpE (defs₀ (F := F)) Variants.none (c : Thread nD τ) none) Set.univ
        (.op (.waitDma2 ((cc0_scratch4.slice (Rect.unit (s := S3) oC S1.size iC)).squeeze S_ squeezes_S1_S_).sem srcw
          ((bufM.slice (Rect.unit (s := S3x256x2048) oD S1x1x2048.size iD) (fun _ => rfl)).squeeze S1x2048 squeezes_S1x1x2048_S1x2048) h1 h2) k) Q) := by
  subst hoC
  have hN := NR_pos
  unfold waited
  rw [if_pos hn]
  by_cases hl : n + 1 < 256
  · rw [if_pos hl]
    iintro ⟨⟨HB, Hr⟩, ⟨%W, HO⟩⟩ Hk
    iapply (Transfers.wp_waitBatch (countersEmb (U := Pipeline.UD sig nD τ)) Variants.none (c : Thread nD τ) none
      () (N := NR) rfl (D := deliv c x p T) (u := n * NR) (by nlinarith)) $$ [HB HO]
    · isplitl [HB]; · iexact HB
      iexact HO
    iintro ⟨HB, HO⟩
    iapply Hk
    rw [show (n + 1) * NR = n * NR + NR by ring]
    isplitl [HB Hr]
    · isplitl [HB]; · iexact HB
      iexact Hr
    iexists _; iexact HO
  · rw [if_neg hl]
    iintro ⟨⟨HB, Hr⟩, ⟨%W, HO⟩⟩ Hk
    iapply (Transfers.wp_waitBatchLast (countersEmb (U := Pipeline.UD sig nD τ)) Variants.none (c : Thread nD τ) none
      () (N := NR) rfl hN (D := deliv c x p T) (u := n * NR) (by obtain rfl : n = 255 := by omega
                                                                 ring)) $$ [HB HO]
    · isplitl [HB]; · iexact HB
      iexact HO
    iintro ⟨Hall, Hc, HO⟩
    iapply Hk
    isplitl [Hall Hc Hr]
    · unfold slotLanded
      isplitl [Hc]; · iexact Hc
      iapply (deliv_landed c x p T)
      isplitl [Hall]; · iexact Hall
      iexact Hr
    iexists _; iexact HO

end Cert.Proof.ExIdeal
-- ==== Proof.ExIdealLoops.lean ====
module

public import proofs.«01_k».proof.Proof.ExIdealRows

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The row a trip's `u`-th transfer is for. -/
theorem row_word (k : ℕ) (hk : k < 32) (u : ℕ) (hu : u < 8) :
    (Scalar.addi (Scalar.muli (Scf.iv 0#32 1#32 k) 8#32) (BitVec.ofNat 32 u) : BitVec 32).toNat = 8 * k + u := by
  simp only [Scalar.addi, Scalar.muli, IntOp.addi, IntOp.muli, Scf.iv, BitVec.toNat_add, BitVec.toNat_mul, BitVec.toNat_ofNat]
  omega

theorem off_row (w : BitVec 32) {n : ℕ} (h : w.toNat = n) : (![0, 0, w.toNat] : Fin 3 → ℕ) = ![0, 0, n] := by rw [h]
theorem off_dst (p : ℕ) (w : BitVec 32) {n : ℕ} (h : w.toNat = n) : (![p, w.toNat, 0] : Fin 3 → ℕ) = ![p, n, 0] := by rw [h]
theorem src_ok (v : BitVec 32) (h : v.toNat < 16384) : ∀ a, (![v.toNat, 0] : Fin 2 → ℕ) a + S1x2048.size a ≤ S16384x2048.size a := by
  intro a
  fin_cases a
  · show v.toNat + 1 ≤ 16384; omega
  · show 0 + 2048 ≤ 2048; omega

/-- The slot of the block two ahead, as the kernel computes it. -/
theorem slot3 (i : grid0.Coords) : (Scalar.remsi (Scalar.addi (BitVec.ofNat 32 (i 0).val) 2#32) 3#32 : BitVec 32).toNat = ((i 0).val + 2) % 3 := by
  have : ∀ n : Fin 160, (Scalar.remsi (Scalar.addi (BitVec.ofNat 32 n.val) 2#32) 3#32 : BitVec 32).toNat = (n.val + 2) % 3 := by decide
  exact this (i 0)
/-- The slot of the block itself. -/
theorem slot4 (i : grid0.Coords) : (Scalar.remsi (BitVec.ofNat 32 (i 0).val) 3#32 : BitVec 32).toNat = (i 0).val % 3 := by
  have : ∀ n : Fin 160, (Scalar.remsi (BitVec.ofNat 32 n.val) 3#32 : BitVec 32).toNat = n.val % 3 := by decide
  exact this (i 0)
theorem off_cell3 (i : grid0.Coords) (p : Fin 3) (hp : p.val = ((i 0).val + 2) % 3) :
    (![(Scalar.remsi (Scalar.addi (BitVec.ofNat 32 (i 0).val) 2#32) 3#32 : BitVec 32).toNat] : Fin 1 → ℕ) = ![p.val] := by rw [slot3, hp]
theorem off_cell4 (i : grid0.Coords) (p : Fin 3) (hp : p.val = (i 0).val % 3) :
    (![(Scalar.remsi (BitVec.ofNat 32 (i 0).val) 3#32 : BitVec 32).toNat] : Fin 1 → ℕ) = ![p.val] := by rw [slot4, hp]
theorem off_dst3 (i : grid0.Coords) (p : Fin 3) (hp : p.val = ((i 0).val + 2) % 3) (w : BitVec 32) {n : ℕ} (h : w.toNat = n) :
    (![(Scalar.remsi (Scalar.addi (BitVec.ofNat 32 (i 0).val) 2#32) 3#32 : BitVec 32).toNat, w.toNat, 0] : Fin 3 → ℕ) = ![p.val, n, 0] := by rw [slot3, hp, h]

variable (c : Dev nD) (x : S16384x2048.Idx → Elt F .f32)

/-- One row sent: the token word read, its bound, the transfer. -/
theorem send_row {α : Type} (Q : α → sProp 𝕄) (ar : Memref sig .tc .smem S1x1x256 .i32) (q : PosShare TreeShare) (tw : S1x1x256.Idx → Elt F .i32)
    (p : Fin 3) (T : Fin 256 → Fin 16384) (hT : ∀ r : Fin 256, (tw (ix3 0 0 r) : BitVec 32).toNat = (T r).val) (n : ℕ) (hn : n < 256)
    (oT : Fin 3 → ℕ) (iT : ∀ a, oT a + S1x1x1.size a ≤ S1x1x256.size a) (C : BitVec 32 → Prop) (dC : ∀ v, Decidable (C v))
    (oS : BitVec 32 → Fin 2 → ℕ) (iS : ∀ v, C v → ∀ a, oS v a + S1x2048.size a ≤ S16384x2048.size a)
    (oD : Fin 3 → ℕ) (iD : ∀ a, oD a + S1x1x2048.size a ≤ S3x256x2048.size a)
    (oC : Fin 1 → ℕ) (iC : ∀ a, oC a + S1.size a ≤ S3.size a)
    (hoT : oT = ![0, 0, n]) (hC : ∀ v : BitVec 32, v.toNat < 16384 → C v) (hoS : ∀ v, oS v = ![v.toNat, 0]) (hoD : oD = ![p.val, n, 0]) (hoC : oC = ![p.val])
    (hl : ar.view.LoadsAt (Rect.unit (s := S1x1x256) oT S1x1x1.size iT).toLoadRect) (i0 : (Rect.unit (s := S1x1x256) oT S1x1x1.size iT).shape.Idx)
    (k : Prog (TpuEff nD τ sig (Elt F) Λ₀ .tc) α) :
    iprop(owns (c : Thread nD τ) ar q tw ∗ sent c x p T n)
      ⊢ iprop((iprop(owns (c : Thread nD τ) ar q tw ∗ sent c x p T (n + 1)) -∗ wp frame (wpE (defs₀ (F := F)) Variants.none (c : Thread nD τ) none) Set.univ k Q)
      -∗ wp frame (wpE (defs₀ (F := F)) Variants.none (c : Thread nD τ) none) Set.univ
        (.op (.load ar (Rect.unit (s := S1x1x256) oT S1x1x1.size iT).toLoadRect hl) fun f =>
          .op (.assume (C (f i0)) (dC (f i0))) fun h =>
          .op (.enqueueDma (xM.slice (Rect.unit (s := S16384x2048) (oS (f i0)) S1x2048.size (iS (f i0) h.down)) (fun _ => rfl))
            (.here ((bufM.slice (Rect.unit (s := S3x256x2048) oD S1x1x2048.size iD) (fun _ => rfl)).squeeze S1x2048 squeezes_S1x1x2048_S1x2048))
            (.dma ((cc0_scratch4.slice (Rect.unit (s := S3) oC S1.size iC)).squeeze S_ squeezes_S1_S_).sem) (View.wordExact_bits rfl) ((View.wordExact_bits rfl).reshape _ _) ⟨Or.inl rfl, trivial⟩) fun _ => k) Q) := by
  subst hoT
  iintro ⟨Ho, HS⟩ Hk
  unfold owns
  icases Ho with ⟨%f, %hf, Hp⟩
  iapply (wp_load Variants.none (c : Thread nD τ) none Set.univ (m := ar) (S := ar.view.set) (q := q) (f := f) ?_) $$ Hp
  · exact View.setOn_subset_set _ _
  iintro Hp
  have hw : (ar.view.readAt (Elt F) (Rect.unit (s := S1x1x256) ![0, 0, n] S1x1x1.size iT).toLoadRect f i0 : BitVec 32).toNat = (T ⟨n, hn⟩).val := by
    rw [← hT ⟨n, hn⟩, ← hf, View.readAt_apply]
    congr 2
    funext a
    apply Fin.ext
    have := (i0 a).isLt
    fin_cases a
    · have h : (i0 0).val < 1 := this
      show 0 + 1 * (i0 0).val = 0; omega
    · have h : (i0 1).val < 1 := this
      show 0 + 1 * (i0 1).val = 0; omega
    · have h : (i0 2).val < 1 := this
      show n + 1 * (i0 2).val = n; omega
  generalize ar.view.readAt (Elt F) (Rect.unit (s := S1x1x256) ![0, 0, n] S1x1x1.size iT).toLoadRect f i0 = w at *
  have hCw : C w := hC w (by rw [hw]; exact (T ⟨n, hn⟩).isLt)
  iapply (wp_assume Variants.none (c : Thread nD τ) none Set.univ hCw)
  iapply (send c x Q p T ⟨n, hn⟩ (T ⟨n, hn⟩) rfl oD hoD iD (oS w) ((hoS w).trans (by rw [hw])) (iS w hCw) oC hoC iC _ _ _ (fun _ => k)) $$ HS
  iintro HS
  iapply Hk
  isplitl [Hp]
  · iexists f
    isplitr; · ipureintro; exact hf
    iexact Hp
  iexact HS

section Trips

variable (i : grid0.Coords) (arg1 : Memref sig .tc .smem S160 .i32) (harg1 : arg1.IsWhole) (arg2 : Memref sig .tc .smem S1 .i32) (harg2 : arg2.IsWhole)
  (arg3 : Memref sig .tc .smem S1x1x256 .i32) (harg3 : arg3.IsWhole) (arg4 : Memref sig .tc .smem S1x1x256 .i32) (harg4 : arg4.IsWhole)
  (arg5 : Memref sig .tc .smem S1x1x256 .i32) (harg5 : arg5.IsWhole)
  (arg7 : Memref sig .tc .vmem S1x1x2048x512 .f32) (harg7 : arg7.IsWhole) (arg8 : Memref sig .tc .vmem S1x1x2048x512 .f32) (harg8 : arg8.IsWhole)
  (arg9 : Memref sig .tc .vmem S1x1x512x2048 .f32) (harg9 : arg9.IsWhole) (arg10 : Memref sig .tc .vmem S256x2048 .f32) (harg10 : arg10.IsWhole)

/-- Before trip `k` of a loop that sends: `8k` rows of slot `p` sent for. -/
def sending (ar : Memref sig .tc .smem S1x1x256 .i32) (q : PosShare TreeShare) (tw : S1x1x256.Idx → Elt F .i32) (p : Fin 3) (T : Fin 256 → Fin 16384)
    (k : ℕ) (_ : Unit) : sProp 𝕄 :=
  iprop(owns (c : Thread nD τ) ar q tw ∗ sent c x p T (8 * k))

/-- Before trip `k` of the loop that waits: `8k` rows of slot `p` waited for. -/
def waiting (p : Fin 3) (T : Fin 256 → Fin 16384) (k : ℕ) (_ : Unit) : sProp 𝕄 :=
  iprop(waited c x p T (8 * k) ∗ (∃ W, owes (c : Thread nD τ) 0 W))

variable (q : PosShare TreeShare) (tw : S1x1x256.Idx → Elt F .i32) (T : Fin 256 → Fin 16384)

theorem step1 (hT : ∀ r : Fin 256, (tw (ix3 0 0 r) : BitVec 32).toNat = (T r).val) (h2 : k0_cond2 i = 1#1)
    (k : Fin k0_t1_loop.trips) (acc : Unit) :
    sending c x arg3 q tw 0 T k acc ⊢ wp frame (wpE (defs₀ (F := F)) Variants.none (c : Thread nD τ) none) Set.univ
      (k0_t1_body (F := F) i arg1 harg1 arg2 harg2 arg3 harg3 arg4 harg4 arg5 harg5 xM (Memref.isWhole_whole _) arg7 harg7 arg8 harg8 arg9 harg9 arg10 harg10
        bufM (Memref.isWhole_whole _) (Memref.whole cc0_scratch1) (Memref.isWhole_whole _) (Memref.whole cc0_scratch2) (Memref.isWhole_whole _)
        (Memref.whole cc0_scratch3) (Memref.isWhole_whole _) cc0_scratch4 h2 k acc)
      (sending c x arg3 q tw 0 T (k.val + 1)) := by
  have hk : k.val < 32 := k.isLt
  unfold sending
  iintro ⟨Ht, HS⟩
  unfold k0_t1_body
  rw [k0_part1_eq_skeleton, k0_part2_eq_skeleton]
  unfold k0_part1_skel k0_part2_skel
  simp only [smemLoad, smemLoadElt, Prog.lift, Prog.bind_op, Prog.bind_ret, Prog.pure_eq_ret]
  iapply (send_row c x _ arg3 q tw 0 T hT (8 * k.val) (by omega) (k0_off3 k) _ (k0_chk1 i) (k0_chk1.dec i) k0_off5 (fun v h => k0_off5_inb i v h h2)
    (k0_off4 k) _ ![0] _ (off_row _ (row_word k.val hk 0 (by omega))) (fun v hv _ => src_ok v hv) (fun _ => rfl) (off_dst 0 _ (row_word k.val hk 0 (by omega))) rfl _ _ _) $$ [Ht HS]
  · isplitl [Ht]; · iexact Ht
    iexact HS
  iintro ⟨Ht, HS⟩
  iapply (send_row c x _ arg3 q tw 0 T hT (8 * k.val + 1) (by omega) (k0_off6 k) _ (k0_chk2 i) (k0_chk2.dec i) k0_off8 (fun v h => k0_off8_inb i v h h2)
    (k0_off7 k) _ ![0] _ (off_row _ (row_word k.val hk 1 (by omega))) (fun v hv _ => src_ok v hv) (fun _ => rfl) (off_dst 0 _ (row_word k.val hk 1 (by omega))) rfl _ _ _) $$ [Ht HS]
  · isplitl [Ht]; · iexact Ht
    iexact HS
  iintro ⟨Ht, HS⟩
  iapply (send_row c x _ arg3 q tw 0 T hT (8 * k.val + 2) (by omega) (k0_off9 k) _ (k0_chk3 i) (k0_chk3.dec i) k0_off11 (fun v h => k0_off11_inb i v h h2)
    (k0_off10 k) _ ![0] _ (off_row _ (row_word k.val hk 2 (by omega))) (fun v hv _ => src_ok v hv) (fun _ => rfl) (off_dst 0 _ (row_word k.val hk 2 (by omega))) rfl _ _ _) $$ [Ht HS]
  · isplitl [Ht]; · iexact Ht
    iexact HS
  iintro ⟨Ht, HS⟩
  iapply (send_row c x _ arg3 q tw 0 T hT (8 * k.val + 3) (by omega) (k0_off12 k) _ (k0_chk4 i) (k0_chk4.dec i) k0_off14 (fun v h => k0_off14_inb i v h h2)
    (k0_off13 k) _ ![0] _ (off_row _ (row_word k.val hk 3 (by omega))) (fun v hv _ => src_ok v hv) (fun _ => rfl) (off_dst 0 _ (row_word k.val hk 3 (by omega))) rfl _ _ _) $$ [Ht HS]
  · isplitl [Ht]; · iexact Ht
    iexact HS
  iintro ⟨Ht, HS⟩
  iapply (send_row c x _ arg3 q tw 0 T hT (8 * k.val + 4) (by omega) (k0_off15 k) _ (k0_chk5 i) (k0_chk5.dec i) k0_off17 (fun v h => k0_off17_inb i v h h2)
    (k0_off16 k) _ ![0] _ (off_row _ (row_word k.val hk 4 (by omega))) (fun v hv _ => src_ok v hv) (fun _ => rfl) (off_dst 0 _ (row_word k.val hk 4 (by omega))) rfl _ _ _) $$ [Ht HS]
  · isplitl [Ht]; · iexact Ht
    iexact HS
  iintro ⟨Ht, HS⟩
  iapply (send_row c x _ arg3 q tw 0 T hT (8 * k.val + 5) (by omega) (k0_off18 k) _ (k0_chk6 i) (k0_chk6.dec i) k0_off20 (fun v h => k0_off20_inb i v h h2)
    (k0_off19 k) _ ![0] _ (off_row _ (row_word k.val hk 5 (by omega))) (fun v hv _ => src_ok v hv) (fun _ => rfl) (off_dst 0 _ (row_word k.val hk 5 (by omega))) rfl _ _ _) $$ [Ht HS]
  · isplitl [Ht]; · iexact Ht
    iexact HS
  iintro ⟨Ht, HS⟩
  iapply (send_row c x _ arg3 q tw 0 T hT (8 * k.val + 6) (by omega) (k0_off21 k) _ (k0_chk7 i) (k0_chk7.dec i) k0_off23 (fun v h => k0_off23_inb i v h h2)
    (k0_off22 k) _ ![0] _ (off_row _ (row_word k.val hk 6 (by omega))) (fun v hv _ => src_ok v hv) (fun _ => rfl) (off_dst 0 _ (row_word k.val hk 6 (by omega))) rfl _ _ _) $$ [Ht HS]
  · isplitl [Ht]; · iexact Ht
    iexact HS
  iintro ⟨Ht, HS⟩
  iapply (send_row c x _ arg3 q tw 0 T hT (8 * k.val + 7) (by omega) (k0_off24 k) _ (k0_chk8 i) (k0_chk8.dec i) k0_off26 (fun v h => k0_off26_inb i v h h2)
    (k0_off25 k) _ ![0] _ (off_row _ (row_word k.val hk 7 (by omega))) (fun v hv _ => src_ok v hv) (fun _ => rfl) (off_dst 0 _ (row_word k.val hk 7 (by omega))) rfl _ _ _) $$ [Ht HS]
  · isplitl [Ht]; · iexact Ht
    iexact HS
  iintro ⟨Ht, HS⟩
  iapply (le_wp_ret _ _ _ _ _)
  isplitl [Ht]; · iexact Ht
  iexact HS

theorem step2 (hT : ∀ r : Fin 256, (tw (ix3 0 0 r) : BitVec 32).toNat = (T r).val) (v0 : BitVec 32) (h2 : k0_cond2 i = 1#1) (h3 : k0_cond3 v0 = 1#1)
    (k : Fin k0_t2_loop.trips) (acc : Unit) :
    sending c x arg4 q tw 1 T k acc ⊢ wp frame (wpE (defs₀ (F := F)) Variants.none (c : Thread nD τ) none) Set.univ
      (k0_t2_body (F := F) i arg1 harg1 arg2 harg2 arg3 harg3 arg4 harg4 arg5 harg5 xM (Memref.isWhole_whole _) arg7 harg7 arg8 harg8 arg9 harg9 arg10 harg10
        bufM (Memref.isWhole_whole _) (Memref.whole cc0_scratch1) (Memref.isWhole_whole _) (Memref.whole cc0_scratch2) (Memref.isWhole_whole _)
        (Memref.whole cc0_scratch3) (Memref.isWhole_whole _) cc0_scratch4 v0 h2 h3 k acc)
      (sending c x arg4 q tw 1 T (k.val + 1)) := by
  have hk : k.val < 32 := k.isLt
  unfold sending
  iintro ⟨Ht, HS⟩
  unfold k0_t2_body
  rw [k0_part3_eq_skeleton, k0_part4_eq_skeleton]
  unfold k0_part3_skel k0_part4_skel
  simp only [smemLoad, smemLoadElt, Prog.lift, Prog.bind_op, Prog.bind_ret, Prog.pure_eq_ret]
  iapply (send_row c x _ arg4 q tw 1 T hT (8 * k.val) (by omega) (k0_off27 k) _ (k0_chk9 i v0) (k0_chk9.dec i v0) k0_off29 (fun v h => k0_off29_inb i v0 v h h2 h3)
    (k0_off28 k) _ ![1] _ (off_row _ (row_word k.val hk 0 (by omega))) (fun v hv _ _ => src_ok v hv) (fun _ => rfl) (off_dst 1 _ (row_word k.val hk 0 (by omega))) rfl _ _ _) $$ [Ht HS]
  · isplitl [Ht]; · iexact Ht
    iexact HS
  iintro ⟨Ht, HS⟩
  iapply (send_row c x _ arg4 q tw 1 T hT (8 * k.val + 1) (by omega) (k0_off30 k) _ (k0_chk10 i v0) (k0_chk10.dec i v0) k0_off32 (fun v h => k0_off32_inb i v0 v h h2 h3)
    (k0_off31 k) _ ![1] _ (off_row _ (row_word k.val hk 1 (by omega))) (fun v hv _ _ => src_ok v hv) (fun _ => rfl) (off_dst 1 _ (row_word k.val hk 1 (by omega))) rfl _ _ _) $$ [Ht HS]
  · isplitl [Ht]; · iexact Ht
    iexact HS
  iintro ⟨Ht, HS⟩
  iapply (send_row c x _ arg4 q tw 1 T hT (8 * k.val + 2) (by omega) (k0_off33 k) _ (k0_chk11 i v0) (k0_chk11.dec i v0) k0_off35 (fun v h => k0_off35_inb i v0 v h h2 h3)
    (k0_off34 k) _ ![1] _ (off_row _ (row_word k.val hk 2 (by omega))) (fun v hv _ _ => src_ok v hv) (fun _ => rfl) (off_dst 1 _ (row_word k.val hk 2 (by omega))) rfl _ _ _) $$ [Ht HS]
  · isplitl [Ht]; · iexact Ht
    iexact HS
  iintro ⟨Ht, HS⟩
  iapply (send_row c x _ arg4 q tw 1 T hT (8 * k.val + 3) (by omega) (k0_off36 k) _ (k0_chk12 i v0) (k0_chk12.dec i v0) k0_off38 (fun v h => k0_off38_inb i v0 v h h2 h3)
    (k0_off37 k) _ ![1] _ (off_row _ (row_word k.val hk 3 (by omega))) (fun v hv _ _ => src_ok v hv) (fun _ => rfl) (off_dst 1 _ (row_word k.val hk 3 (by omega))) rfl _ _ _) $$ [Ht HS]
  · isplitl [Ht]; · iexact Ht
    iexact HS
  iintro ⟨Ht, HS⟩
  iapply (send_row c x _ arg4 q tw 1 T hT (8 * k.val + 4) (by omega) (k0_off39 k) _ (k0_chk13 i v0) (k0_chk13.dec i v0) k0_off41 (fun v h => k0_off41_inb i v0 v h h2 h3)
    (k0_off40 k) _ ![1] _ (off_row _ (row_word k.val hk 4 (by omega))) (fun v hv _ _ => src_ok v hv) (fun _ => rfl) (off_dst 1 _ (row_word k.val hk 4 (by omega))) rfl _ _ _) $$ [Ht HS]
  · isplitl [Ht]; · iexact Ht
    iexact HS
  iintro ⟨Ht, HS⟩
  iapply (send_row c x _ arg4 q tw 1 T hT (8 * k.val + 5) (by omega) (k0_off42 k) _ (k0_chk14 i v0) (k0_chk14.dec i v0) k0_off44 (fun v h => k0_off44_inb i v0 v h h2 h3)
    (k0_off43 k) _ ![1] _ (off_row _ (row_word k.val hk 5 (by omega))) (fun v hv _ _ => src_ok v hv) (fun _ => rfl) (off_dst 1 _ (row_word k.val hk 5 (by omega))) rfl _ _ _) $$ [Ht HS]
  · isplitl [Ht]; · iexact Ht
    iexact HS
  iintro ⟨Ht, HS⟩
  iapply (send_row c x _ arg4 q tw 1 T hT (8 * k.val + 6) (by omega) (k0_off45 k) _ (k0_chk15 i v0) (k0_chk15.dec i v0) k0_off47 (fun v h => k0_off47_inb i v0 v h h2 h3)
    (k0_off46 k) _ ![1] _ (off_row _ (row_word k.val hk 6 (by omega))) (fun v hv _ _ => src_ok v hv) (fun _ => rfl) (off_dst 1 _ (row_word k.val hk 6 (by omega))) rfl _ _ _) $$ [Ht HS]
  · isplitl [Ht]; · iexact Ht
    iexact HS
  iintro ⟨Ht, HS⟩
  iapply (send_row c x _ arg4 q tw 1 T hT (8 * k.val + 7) (by omega) (k0_off48 k) _ (k0_chk16 i v0) (k0_chk16.dec i v0) k0_off50 (fun v h => k0_off50_inb i v0 v h h2 h3)
    (k0_off49 k) _ ![1] _ (off_row _ (row_word k.val hk 7 (by omega))) (fun v hv _ _ => src_ok v hv) (fun _ => rfl) (off_dst 1 _ (row_word k.val hk 7 (by omega))) rfl _ _ _) $$ [Ht HS]
  · isplitl [Ht]; · iexact Ht
    iexact HS
  iintro ⟨Ht, HS⟩
  iapply (le_wp_ret _ _ _ _ _)
  isplitl [Ht]; · iexact Ht
  iexact HS

theorem step3 (hT : ∀ r : Fin 256, (tw (ix3 0 0 r) : BitVec 32).toNat = (T r).val) (v0 : BitVec 32) (h4 : k0_cond4 i v0 = 1#1) (p : Fin 3) (hp : p.val = ((i 0).val + 2) % 3)
    (k : Fin k0_t3_loop.trips) (acc : Unit) :
    sending c x arg5 q tw p T k acc ⊢ wp frame (wpE (defs₀ (F := F)) Variants.none (c : Thread nD τ) none) Set.univ
      (k0_t3_body (F := F) i arg1 harg1 arg2 harg2 arg3 harg3 arg4 harg4 arg5 harg5 xM (Memref.isWhole_whole _) arg7 harg7 arg8 harg8 arg9 harg9 arg10 harg10
        bufM (Memref.isWhole_whole _) (Memref.whole cc0_scratch1) (Memref.isWhole_whole _) (Memref.whole cc0_scratch2) (Memref.isWhole_whole _)
        (Memref.whole cc0_scratch3) (Memref.isWhole_whole _) cc0_scratch4 v0 h4 k acc)
      (sending c x arg5 q tw p T (k.val + 1)) := by
  have hk : k.val < 32 := k.isLt
  unfold sending
  iintro ⟨Ht, HS⟩
  unfold k0_t3_body
  rw [k0_part5_eq_skeleton, k0_part6_eq_skeleton]
  unfold k0_part5_skel k0_part6_skel
  simp only [smemLoad, smemLoadElt, Prog.lift, Prog.bind_op, Prog.bind_ret, Prog.pure_eq_ret]
  iapply (send_row c x _ arg5 q tw p T hT (8 * k.val) (by omega) (k0_off51 k) _ (k0_chk17 i v0) (k0_chk17.dec i v0) k0_off54 (fun v h => k0_off54_inb i v0 v h h4)
    (k0_off53 i k) _ (k0_off52 i) _ (off_row _ (row_word k.val hk 0 (by omega))) (fun v hv _ => src_ok v hv) (fun _ => rfl) (off_dst3 i p hp _ (row_word k.val hk 0 (by omega))) (off_cell3 i p hp) _ _ _) $$ [Ht HS]
  · isplitl [Ht]; · iexact Ht
    iexact HS
  iintro ⟨Ht, HS⟩
  iapply (send_row c x _ arg5 q tw p T hT (8 * k.val + 1) (by omega) (k0_off55 k) _ (k0_chk18 i v0) (k0_chk18.dec i v0) k0_off58 (fun v h => k0_off58_inb i v0 v h h4)
    (k0_off57 i k) _ (k0_off56 i) _ (off_row _ (row_word k.val hk 1 (by omega))) (fun v hv _ => src_ok v hv) (fun _ => rfl) (off_dst3 i p hp _ (row_word k.val hk 1 (by omega))) (off_cell3 i p hp) _ _ _) $$ [Ht HS]
  · isplitl [Ht]; · iexact Ht
    iexact HS
  iintro ⟨Ht, HS⟩
  iapply (send_row c x _ arg5 q tw p T hT (8 * k.val + 2) (by omega) (k0_off59 k) _ (k0_chk19 i v0) (k0_chk19.dec i v0) k0_off62 (fun v h => k0_off62_inb i v0 v h h4)
    (k0_off61 i k) _ (k0_off60 i) _ (off_row _ (row_word k.val hk 2 (by omega))) (fun v hv _ => src_ok v hv) (fun _ => rfl) (off_dst3 i p hp _ (row_word k.val hk 2 (by omega))) (off_cell3 i p hp) _ _ _) $$ [Ht HS]
  · isplitl [Ht]; · iexact Ht
    iexact HS
  iintro ⟨Ht, HS⟩
  iapply (send_row c x _ arg5 q tw p T hT (8 * k.val + 3) (by omega) (k0_off63 k) _ (k0_chk20 i v0) (k0_chk20.dec i v0) k0_off66 (fun v h => k0_off66_inb i v0 v h h4)
    (k0_off65 i k) _ (k0_off64 i) _ (off_row _ (row_word k.val hk 3 (by omega))) (fun v hv _ => src_ok v hv) (fun _ => rfl) (off_dst3 i p hp _ (row_word k.val hk 3 (by omega))) (off_cell3 i p hp) _ _ _) $$ [Ht HS]
  · isplitl [Ht]; · iexact Ht
    iexact HS
  iintro ⟨Ht, HS⟩
  iapply (send_row c x _ arg5 q tw p T hT (8 * k.val + 4) (by omega) (k0_off67 k) _ (k0_chk21 i v0) (k0_chk21.dec i v0) k0_off70 (fun v h => k0_off70_inb i v0 v h h4)
    (k0_off69 i k) _ (k0_off68 i) _ (off_row _ (row_word k.val hk 4 (by omega))) (fun v hv _ => src_ok v hv) (fun _ => rfl) (off_dst3 i p hp _ (row_word k.val hk 4 (by omega))) (off_cell3 i p hp) _ _ _) $$ [Ht HS]
  · isplitl [Ht]; · iexact Ht
    iexact HS
  iintro ⟨Ht, HS⟩
  iapply (send_row c x _ arg5 q tw p T hT (8 * k.val + 5) (by omega) (k0_off71 k) _ (k0_chk22 i v0) (k0_chk22.dec i v0) k0_off74 (fun v h => k0_off74_inb i v0 v h h4)
    (k0_off73 i k) _ (k0_off72 i) _ (off_row _ (row_word k.val hk 5 (by omega))) (fun v hv _ => src_ok v hv) (fun _ => rfl) (off_dst3 i p hp _ (row_word k.val hk 5 (by omega))) (off_cell3 i p hp) _ _ _) $$ [Ht HS]
  · isplitl [Ht]; · iexact Ht
    iexact HS
  iintro ⟨Ht, HS⟩
  iapply (send_row c x _ arg5 q tw p T hT (8 * k.val + 6) (by omega) (k0_off75 k) _ (k0_chk23 i v0) (k0_chk23.dec i v0) k0_off78 (fun v h => k0_off78_inb i v0 v h h4)
    (k0_off77 i k) _ (k0_off76 i) _ (off_row _ (row_word k.val hk 6 (by omega))) (fun v hv _ => src_ok v hv) (fun _ => rfl) (off_dst3 i p hp _ (row_word k.val hk 6 (by omega))) (off_cell3 i p hp) _ _ _) $$ [Ht HS]
  · isplitl [Ht]; · iexact Ht
    iexact HS
  iintro ⟨Ht, HS⟩
  iapply (send_row c x _ arg5 q tw p T hT (8 * k.val + 7) (by omega) (k0_off79 k) _ (k0_chk24 i v0) (k0_chk24.dec i v0) k0_off82 (fun v h => k0_off82_inb i v0 v h h4)
    (k0_off81 i k) _ (k0_off80 i) _ (off_row _ (row_word k.val hk 7 (by omega))) (fun v hv _ => src_ok v hv) (fun _ => rfl) (off_dst3 i p hp _ (row_word k.val hk 7 (by omega))) (off_cell3 i p hp) _ _ _) $$ [Ht HS]
  · isplitl [Ht]; · iexact Ht
    iexact HS
  iintro ⟨Ht, HS⟩
  iapply (le_wp_ret _ _ _ _ _)
  isplitl [Ht]; · iexact Ht
  iexact HS

theorem step4 (p : Fin 3) (hp : p.val = (i 0).val % 3) (k : Fin k0_t4_loop.trips) (acc : Unit) :
    waiting c x p T k acc ⊢ wp frame (wpE (defs₀ (F := F)) Variants.none (c : Thread nD τ) none) Set.univ
      (k0_t4_body (F := F) i arg1 harg1 arg2 harg2 arg3 harg3 arg4 harg4 arg5 harg5 xM (Memref.isWhole_whole _) arg7 harg7 arg8 harg8 arg9 harg9 arg10 harg10
        bufM (Memref.isWhole_whole _) (Memref.whole cc0_scratch1) (Memref.isWhole_whole _) (Memref.whole cc0_scratch2) (Memref.isWhole_whole _)
        (Memref.whole cc0_scratch3) (Memref.isWhole_whole _) cc0_scratch4 k acc)
      (waiting c x p T (k.val + 1)) := by
  have hk : k.val < 32 := k.isLt
  unfold waiting
  iintro HW
  unfold k0_t4_body
  rw [k0_part7_eq_skeleton]
  unfold k0_part7_skel
  simp only [Prog.lift, Prog.bind_op, Prog.bind_ret, Prog.pure_eq_ret]
  iapply (wait c x _ p T (8 * k.val) (by omega) (k0_off84 i) _ _ (k0_off83 i) (off_cell4 i p hp) _ _ _ _) $$ HW
  iintro HW
  iapply (wait c x _ p T (8 * k.val + 1) (by omega) (k0_off84 i) _ _ (k0_off83 i) (off_cell4 i p hp) _ _ _ _) $$ HW
  iintro HW
  iapply (wait c x _ p T (8 * k.val + 2) (by omega) (k0_off84 i) _ _ (k0_off83 i) (off_cell4 i p hp) _ _ _ _) $$ HW
  iintro HW
  iapply (wait c x _ p T (8 * k.val + 3) (by omega) (k0_off84 i) _ _ (k0_off83 i) (off_cell4 i p hp) _ _ _ _) $$ HW
  iintro HW
  iapply (wait c x _ p T (8 * k.val + 4) (by omega) (k0_off84 i) _ _ (k0_off83 i) (off_cell4 i p hp) _ _ _ _) $$ HW
  iintro HW
  iapply (wait c x _ p T (8 * k.val + 5) (by omega) (k0_off84 i) _ _ (k0_off83 i) (off_cell4 i p hp) _ _ _ _) $$ HW
  iintro HW
  iapply (wait c x _ p T (8 * k.val + 6) (by omega) (k0_off84 i) _ _ (k0_off83 i) (off_cell4 i p hp) _ _ _ _) $$ HW
  iintro HW
  iapply (wait c x _ p T (8 * k.val + 7) (by omega) (k0_off84 i) _ _ (k0_off83 i) (off_cell4 i p hp) _ _ _ _) $$ HW
  iintro HW
  iapply (le_wp_ret _ _ _ _ _)
  iexact HW

end Trips

end Cert.Proof.ExIdeal
-- ==== Proof.ExIdealBody.lean ====
module

public import proofs.«01_k».proof.Proof.ExIdealLoops
public import Idealize.ShloMosaic.Lib.WordCmp
public import Idealize.ShloMosaic.Lib.VecWindow

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Whole loads and stores, a branch, by what they hold -/

section Rules

variable (c : Dev nD)

theorem load_full {α : Type} (Q : α → sProp 𝕄) {cs : CoreSpace} {s : Shape} {e : EltTy} (m : Memref sig .tc cs s e) (q : PosShare TreeShare) (X : s.Idx → Elt F e)
    (off : Fin s.rank → ℕ) (inb : ∀ a, off a + s.size a ≤ s.size a) (hl : m.view.LoadsAt (Rect.unit off s.size inb).toLoadRect)
    (k : (s.Idx → Elt F e) → Prog (TpuEff nD τ sig (Elt F) Λ₀ .tc) α) :
    owns (c : Thread nD τ) m q X ⊢ iprop((owns (c : Thread nD τ) m q X -∗ wp frame (wpE (defs₀ (F := F)) Variants.none (c : Thread nD τ) none) Set.univ (k X) Q)
      -∗ wp frame (wpE (defs₀ (F := F)) Variants.none (c : Thread nD τ) none) Set.univ (.op (.load m (Rect.unit off s.size inb).toLoadRect hl) k) Q) := by
  unfold owns
  iintro ⟨%f, %hf, H⟩ Hk
  iapply (wp_load Variants.none (c : Thread nD τ) none Set.univ (m := m) (S := m.view.set) (q := q) (f := f) ?_) $$ H
  · exact View.setOn_subset_set _ _
  iintro H
  rw [View.readAt_full, hf]
  iapply Hk
  iexists f
  isplitr; · ipureintro; exact hf
  iexact H

theorem store_full {α : Type} (Q : α → sProp 𝕄) {cs : CoreSpace} {s : Shape} {e : EltTy} (m : Memref sig .tc cs s e) (X w : s.Idx → Elt F e)
    (off : Fin s.rank → ℕ) (inb : ∀ a, off a + s.size a ≤ s.size a) (hx hm)
    (k : PUnit → Prog (TpuEff nD τ sig (Elt F) Λ₀ .tc) α) :
    owns (c : Thread nD τ) m fullShare X ⊢ iprop((owns (c : Thread nD τ) m fullShare w -∗ wp frame (wpE (defs₀ (F := F)) Variants.none (c : Thread nD τ) none) Set.univ (k ⟨⟩) Q)
      -∗ wp frame (wpE (defs₀ (F := F)) Variants.none (c : Thread nD τ) none) Set.univ
        (.op (.store m (Rect.unit off s.size inb) w Finset.univ hx hm) k) Q) := by
  unfold owns
  iintro ⟨%f, -, H⟩ Hk
  iapply (wp_store Variants.none (c : Thread nD τ) none Set.univ (m := m) (r := Rect.unit off s.size inb) (w := w) (S := m.view.set) (f := f) ?_) $$ H
  · exact (View.setOn_subset_set _ _).trans (View.set_slice_subset _ _)
  iintro H
  iapply Hk
  iexists _
  isplitr
  swap
  · iexact H
  ipureintro
  have := View.readAt_full m.view ((m.access (Rect.unit off s.size inb)).write (Elt F) f w Finset.univ) inb
  rw [← this]
  exact View.read_write_univ (v := m.access (Rect.unit off s.size inb)) f w

/-- A branch whose other side does nothing: what it leaves, either way. -/
theorem branch {β : Type} (Q : β → sProp 𝕄) {C : Prop} [Decidable C] (R R' : sProp 𝕄) (p : C → Prog (TpuEff nD τ sig (Elt F) Λ₀ .tc) PUnit)
    (n : ¬C → Prog (TpuEff nD τ sig (Elt F) Λ₀ .tc) PUnit)
    (hp : ∀ h : C, R ⊢ wp frame (wpE (defs₀ (F := F)) Variants.none (c : Thread nD τ) none) Set.univ (p h) (fun _ => R'))
    (hn : ∀ h : ¬C, R ⊢ wp frame (wpE (defs₀ (F := F)) Variants.none (c : Thread nD τ) none) Set.univ (n h) (fun _ => R'))
    (k : PUnit → Prog (TpuEff nD τ sig (Elt F) Λ₀ .tc) β) :
    R ⊢ iprop((R' -∗ wp frame (wpE (defs₀ (F := F)) Variants.none (c : Thread nD τ) none) Set.univ (k ⟨⟩) Q)
      -∗ wp frame (wpE (defs₀ (F := F)) Variants.none (c : Thread nD τ) none) Set.univ
        (dite C p n >>= k) Q) := by
  have hw : R ⊢ wp frame (wpE (defs₀ (F := F)) Variants.none (c : Thread nD τ) none) Set.univ (dite C p n) (fun _ => R') := by
    rcases Classical.em C with h | h
    · rw [dif_pos h]; exact hp h
    · rw [dif_neg h]; exact hn h
  rw [wp_bind]
  iintro HR Hk
  ihave Hw := hw $$ HR
  iapply (wp_wand frame (wpE (defs₀ (F := F)) Variants.none (c : Thread nD τ) none) Set.univ) $$ Hw
  iintro %a HR
  iapply Hk; iexact HR

end Rules

/-! ## The slot read whole -/

variable (c : Dev nD) (x : S16384x2048.Idx → Elt F .f32)

/-- The rows named by `T`, as the block the body loads. -/
def rowsOf (T : Fin 256 → Fin 16384) : S1x256x2048.Idx → Elt F .f32 := fun y => x (ix2 (T (y 1)) (y 2))

theorem rset_disjoint (p : Fin 3) (r r' : Fin 256) (h : r ≠ r') : Disjoint (rset p r) (rset p r') := by
  rw [Finset.disjoint_left]
  intro y h1 h2
  exact h (Fin.ext (((mem_rset p r y).1 h1).2.symm.trans ((mem_rset p r' y).1 h2).2))

theorem slot_inb (p : Fin 3) : ∀ a, (![p.val, 0, 0] : Fin 3 → ℕ) a + S1x256x2048.size a ≤ S3x256x2048.size a := by
  have := p.isLt; intro a; fin_cases a
  · show p.val + 1 ≤ 3; omega
  · show 0 + 256 ≤ 256; omega
  · show 0 + 2048 ≤ 2048; omega

/-- The elements of a slot. -/
abbrev slset (p : Fin 3) : Finset S3x256x2048.Idx :=
  (Rect.unit (s := S3x256x2048) ![p.val, 0, 0] S1x256x2048.size (slot_inb p)).set

theorem mem_slset (p : Fin 3) (y : S3x256x2048.Idx) : y ∈ slset p ↔ (y 0).val = p.val := by
  rw [Rect.mem_set_unit]
  have h1 : (y 1).val < 256 := (y 1).isLt
  have h2 : (y 2).val < 2048 := (y 2).isLt
  constructor
  · intro H
    have a0 : p.val ≤ (y 0).val ∧ (y 0).val < p.val + 1 := H 0
    omega
  · intro H a; fin_cases a
    · show p.val ≤ (y 0).val ∧ (y 0).val < p.val + 1; omega
    · show 0 ≤ (y 1).val ∧ (y 1).val < 0 + 256; omega
    · show 0 ≤ (y 2).val ∧ (y 2).val < 0 + 2048; omega

theorem slot_emb (p : Fin 3) (inb : ∀ a, (![p.val, 0, 0] : Fin 3 → ℕ) a + S1x256x2048.size a ≤ S3x256x2048.size a) (y : S1x256x2048.Idx) :
    (Rect.unit (s := S3x256x2048) ![p.val, 0, 0] S1x256x2048.size inb).emb y = ix3 p (y 1) (y 2) := by
  funext a
  apply Fin.ext
  rw [Rect.emb_apply]
  have h0 : (y 0).val < 1 := (y 0).isLt
  fin_cases a
  · show p.val + 1 * (y 0).val = p.val; omega
  · show 0 + 1 * (y 1).val = (y 1).val; omega
  · show 0 + 1 * (y 2).val = (y 2).val; omega

theorem slot_read (p : Fin 3) (T : Fin 256 → Fin 16384) (inb : ∀ a, (![p.val, 0, 0] : Fin 3 → ℕ) a + S1x256x2048.size a ≤ S3x256x2048.size a) :
    bufM.view.readAt (Elt F) (Rect.unit (s := S3x256x2048) ![p.val, 0, 0] S1x256x2048.size inb).toLoadRect (gathered x T) = rowsOf x T := by
  funext y
  exact congrArg (gathered x T) (slot_emb p inb y)

theorem slot_join (p : Fin 3) (T : Fin 256 → Fin 16384) :
    (bigSep Finset.univ (rowAt c x p T) : sProp 𝕄) = (bufM.view.loc (c : Thread nD τ) ↦[slset p]{fullShare} gathered x T) := by
  have hS : Finset.univ.biUnion (rset p) = slset p := by
    ext z
    rw [Finset.mem_biUnion, mem_slset]
    constructor
    · rintro ⟨r, -, hr⟩
      exact ((mem_rset p r z).1 hr).1
    · intro hz
      exact ⟨(z 1 : Fin 256), Finset.mem_univ _, (mem_rset _ _ _).2 ⟨hz, rfl⟩⟩
  have h := Ring.pointsTo_sub_blocks (nD := nD) (τ := τ) (sig := sig) (Val := Elt F) (Ix := Unit) (Name := ℕ) (U := Pipeline.UD sig nD τ) (Lvl := ℕ)
    (ℓ := bufM.view.loc (c : Thread nD τ)) (rset p) (fun r r' h => rset_disjoint p r r' h) (slset p) hS (q := fullShare) (gathered x T)
  exact h.symm

theorem slot_on (p : Fin 3) (inb : ∀ a, (![p.val, 0, 0] : Fin 3 → ℕ) a + S1x256x2048.size a ≤ S3x256x2048.size a) :
    bufM.view.setOn (Rect.unit (s := S3x256x2048) ![p.val, 0, 0] S1x256x2048.size inb).toLoadRect.set ⊆ slset p := by
  intro z hz
  obtain ⟨w, hw, rfl⟩ := Finset.mem_map.1 hz
  exact hw

theorem load_slot {α : Type} (Q : α → sProp 𝕄) (p : Fin 3) (T : Fin 256 → Fin 16384) (off : Fin 3 → ℕ) (hoff : off = ![p.val, 0, 0])
    (inb : ∀ a, off a + S1x256x2048.size a ≤ S3x256x2048.size a) (hl)
    (k : (S1x256x2048.Idx → Elt F .f32) → Prog (TpuEff nD τ sig (Elt F) Λ₀ .tc) α) :
    slotLanded c x p T ⊢ iprop((slotLanded c x p T -∗ wp frame (wpE (defs₀ (F := F)) Variants.none (c : Thread nD τ) none) Set.univ (k (rowsOf x T)) Q)
      -∗ wp frame (wpE (defs₀ (F := F)) Variants.none (c : Thread nD τ) none) Set.univ
        (.op (.load bufM (Rect.unit (s := S3x256x2048) off S1x256x2048.size inb).toLoadRect hl) k) Q) := by
  subst hoff
  unfold slotLanded
  rw [slot_join]
  iintro ⟨Hc, Hd, Ht⟩ Hk
  iapply (wp_load Variants.none (c : Thread nD τ) none Set.univ (m := bufM) (S := slset p) (q := fullShare) (f := gathered x T) ?_) $$ Hd
  · exact slot_on p inb
  iintro Hd
  rw [slot_read]
  iapply Hk
  isplitl [Hc]; · iexact Hc
  isplitl [Hd]; · iexact Hd
  iexact Ht

/-! ## The conditions, by the point's number and the count of used blocks -/

theorem bit_word : ∀ b : BitVec 1, Scalar.cmpi (w := 32) .ne (Scalar.extui b) 0#32 = b := by decide

theorem slt_word (a b : BitVec 32) (ha : a.toNat < 2 ^ 31) (hb : b.toNat < 2 ^ 31) : Scalar.cmpi .slt a b = 1#1 ↔ a.toNat < b.toNat := by
  show BitVec.ofBool (BitVec.slt a b) = 1#1 ↔ _
  rw [WordCmp.ofBool_eq_one_iff, BitVec.slt_iff_toInt_lt, WordCmp.toInt_eq_toNat_of_lt_half ha, WordCmp.toInt_eq_toNat_of_lt_half hb]
  omega

theorem sge_word (a b : BitVec 32) (ha : a.toNat < 2 ^ 31) (hb : b.toNat < 2 ^ 31) : Scalar.cmpi .sge a b = 1#1 ↔ b.toNat ≤ a.toNat := by
  show BitVec.ofBool (BitVec.sle b a) = 1#1 ↔ _
  rw [WordCmp.ofBool_eq_one_iff, BitVec.sle_iff_toInt_le, WordCmp.toInt_eq_toNat_of_lt_half ha, WordCmp.toInt_eq_toNat_of_lt_half hb]
  omega

theorem eq_word (a b : BitVec 32) : Scalar.cmpi .eq a b = 1#1 ↔ a = b := by
  show BitVec.ofBool (a == b) = 1#1 ↔ _
  rw [WordCmp.ofBool_eq_one_iff, beq_iff_eq]

theorem point_word (i : grid0.Coords) : (BitVec.ofNat 32 (i 0).val).toNat = (i 0).val := by
  have : (i 0).val < 160 := (i 0).isLt
  exact WordCmp.toNat_ofNat_of_lt (by omega)

theorem cond2_iff (i : grid0.Coords) : k0_cond2 i = 1#1 ↔ (i 0).val = 0 := by
  have h := point_word i
  refine (iff_of_eq (congrArg (· = 1#1) (show k0_cond2 _ = _ from bit_word _))).trans ((eq_word _ _).trans ?_)
  constructor
  · intro e; rw [e] at h; simpa using h.symm
  · intro e; show BitVec.ofNat 32 (i 0).val = 0#32; rw [e]

theorem cond3_iff (v : BitVec 32) (hv : v.toNat ≤ 160) : k0_cond3 v = 1#1 ↔ 1 < v.toNat := by
  refine (iff_of_eq (congrArg (· = 1#1) (show k0_cond3 _ = _ from bit_word _))).trans ?_
  exact slt_word 1#32 v (by decide) (by omega)

theorem cond4_iff (i : grid0.Coords) (v : BitVec 32) (hv : v.toNat ≤ 160) : k0_cond4 i v = 1#1 ↔ (i 0).val + 2 < v.toNat := by
  have h := point_word i
  have hi : (i 0).val < 160 := (i 0).isLt
  refine (iff_of_eq (congrArg (· = 1#1) (show k0_cond4 _ _ = _ from bit_word _))).trans ?_
  have h2 : (Scalar.addi (BitVec.ofNat 32 (i 0).val) 2#32 : BitVec 32).toNat = (i 0).val + 2 := by
    show (BitVec.ofNat 32 (i 0).val + 2#32).toNat = _
    rw [BitVec.toNat_add, h]
    show ((i 0).val + 2) % 4294967296 = _
    omega
  exact (slt_word _ v (by rw [h2]; omega) (by omega)).trans (by rw [h2])

theorem cond5_iff (i : grid0.Coords) (v : BitVec 32) (hv : v.toNat ≤ 160) : k0_cond5 i v = 1#1 ↔ (i 0).val < v.toNat := by
  have h := point_word i
  have hi : (i 0).val < 160 := (i 0).isLt
  refine (iff_of_eq (congrArg (· = 1#1) (show k0_cond5 _ _ = _ from bit_word _))).trans ?_
  exact (slt_word _ v (by rw [h]; omega) (by omega)).trans (by rw [h])

theorem cond6_iff (i : grid0.Coords) (v : BitVec 32) (hv : v.toNat ≤ 160) : k0_cond6 i v = 1#1 ↔ v.toNat ≤ (i 0).val := by
  have h := point_word i
  have hi : (i 0).val < 160 := (i 0).isLt
  refine (iff_of_eq (congrArg (· = 1#1) (show k0_cond6 _ _ = _ from bit_word _))).trans ?_
  exact (sge_word _ v (by rw [h]; omega) (by omega)).trans (by rw [h])

/-! ## A slot filled, a slot drained -/

section Loops

theorem fill (ar : Memref sig .tc .smem S1x1x256 .i32) (q : PosShare TreeShare) (tw : S1x1x256.Idx → Elt F .i32) (p : Fin 3) (T : Fin 256 → Fin 16384)
    (lp : Scf.Loop 32) (hok : lp.OK) (hn : lp.trips = 32) (body : Fin lp.trips → Unit → Prog (TpuEff nD τ sig (Elt F) Λ₀ .tc) Unit)
    (hstep : ∀ k acc, sending c x ar q tw p T k.val acc ⊢ wp frame (wpE (defs₀ (F := F)) Variants.none (c : Thread nD τ) none) Set.univ (body k acc)
      (sending c x ar q tw p T (k.val + 1))) :
    iprop(slotFree c x p ∗ owns (c : Thread nD τ) ar q tw) ⊢ wp frame (wpE (defs₀ (F := F)) Variants.none (c : Thread nD τ) none) Set.univ
      (lp.for hok ⟨⟩ body) (fun _ => iprop(sent c x p T 256 ∗ owns (c : Thread nD τ) ar q tw)) := by
  iintro ⟨HS, Ho⟩
  imod (slot_alloc c x p T) $$ HS with HS
  iapply (Scf.wp_for frame (wpE (defs₀ (F := F)) Variants.none (c : Thread nD τ) none) Set.univ lp.lb lp.ub lp.st hok ⟨⟩ body (sending c x ar q tw p T) hstep)
  isplitl [HS Ho]
  · unfold sending
    isplitl [Ho]; · iexact Ho
    iexact HS
  rw [show Scf.trips lp.lb lp.ub lp.st = 32 from hn]
  unfold sending
  iintro %a ⟨Ho, HS⟩
  isplitl [HS]; · iexact HS
  iexact Ho

theorem drain (p : Fin 3) (T : Fin 256 → Fin 16384)
    (lp : Scf.Loop 32) (hok : lp.OK) (hn : lp.trips = 32) (body : Fin lp.trips → Unit → Prog (TpuEff nD τ sig (Elt F) Λ₀ .tc) Unit)
    (hstep : ∀ k acc, waiting c x p T k.val acc ⊢ wp frame (wpE (defs₀ (F := F)) Variants.none (c : Thread nD τ) none) Set.univ (body k acc)
      (waiting c x p T (k.val + 1))) :
    iprop(sent c x p T 256 ∗ (∃ W, owes (c : Thread nD τ) 0 W)) ⊢ wp frame (wpE (defs₀ (F := F)) Variants.none (c : Thread nD τ) none) Set.univ
      (lp.for hok ⟨⟩ body) (fun _ => iprop(slotLanded c x p T ∗ (∃ W, owes (c : Thread nD τ) 0 W))) := by
  iintro ⟨HS, Ho⟩
  ihave HS := (sent_waited c x p T) $$ HS
  iapply (Scf.wp_for frame (wpE (defs₀ (F := F)) Variants.none (c : Thread nD τ) none) Set.univ lp.lb lp.ub lp.st hok ⟨⟩ body (waiting c x p T) hstep)
  isplitl [HS Ho]
  · unfold waiting
    isplitl [HS]; · iexact HS
    iexact Ho
  rw [show Scf.trips lp.lb lp.ub lp.st = 32 from hn]
  unfold waiting waited
  rw [if_neg (by omega)]
  iintro %a ⟨HS, Ho⟩
  isplitl [HS]; · iexact HS
  iexact Ho

end Loops

/-- An element read through its unit rectangle. -/
theorem load_elt {β : Type} (Q : β → sProp 𝕄) {cs : CoreSpace} {s : Shape} {e : EltTy} (m : Memref sig .tc cs s e) (q : PosShare TreeShare) (X : s.Idx → Elt F e)
    (r : Rect s) (z : r.shape.Idx) (y : s.Idx) (hy : r.emb z = y) (hl : m.view.LoadsAt r.toLoadRect)
    (k : Elt F e → Prog (TpuEff nD τ sig (Elt F) Λ₀ .tc) β) :
    owns (c : Thread nD τ) m q X ⊢ iprop((owns (c : Thread nD τ) m q X -∗ wp frame (wpE (defs₀ (F := F)) Variants.none (c : Thread nD τ) none) Set.univ (k (X y)) Q)
      -∗ wp frame (wpE (defs₀ (F := F)) Variants.none (c : Thread nD τ) none) Set.univ (.op (.load m r.toLoadRect hl) fun f => k (f z)) Q) := by
  subst hy
  unfold owns
  iintro ⟨%f, %hf, H⟩ Hk
  iapply (wp_load Variants.none (c : Thread nD τ) none Set.univ (m := m) (S := m.view.set) (q := q) (f := f) ?_) $$ H
  · exact View.setOn_subset_set _ _
  iintro H
  rw [View.readAt_apply, show m.view.read (Elt F) f = X from hf]
  iapply Hk
  iexists f
  isplitr; · ipureintro; exact hf
  iexact H

/-! ## The ring of three slots -/

/-- Block `b`'s slot: in flight with the block's rows, or free. -/
def sl (b : ℕ) : Fin 3 := ⟨b % 3, Nat.mod_lt _ (by decide)⟩
def slot (T : ℕ → Fin 256 → Fin 16384) (P : Prop) [Decidable P] (b : ℕ) : sProp 𝕄 :=
  if P then sent c x (sl b) (T b) 256 else slotFree c x (sl b)

/-- Before point `t`: its block and the next in flight, after the first point and while blocks are left. -/
def ring (T : ℕ → Fin 256 → Fin 16384) (NB t : ℕ) : sProp 𝕄 :=
  iprop(slot c x T (1 ≤ t ∧ t < NB) t ∗ slot c x T (1 ≤ t ∧ t + 1 < NB) (t + 1) ∗ slot c x T False (t + 2))

theorem slot_pos (T : ℕ → Fin 256 → Fin 16384) (P : Prop) [Decidable P] (b : ℕ) (h : P) : slot c x T P b = sent c x (sl b) (T b) 256 := if_pos h
theorem slot_neg (T : ℕ → Fin 256 → Fin 16384) (P : Prop) [Decidable P] (b : ℕ) (h : ¬P) : slot c x T P b = slotFree c x (sl b) := if_neg h
theorem slot_congr (T : ℕ → Fin 256 → Fin 16384) (P P' : Prop) [Decidable P] [Decidable P'] (b : ℕ) (h : P ↔ P') : slot c x T P b = slot c x T P' b := by
  unfold slot; simp only [h]

theorem first_word (i : grid0.Coords) (a b : BitVec 32)
    (h : ¬ Scalar.cmpi (w := 32) .ne (Scalar.extui (Scalar.ori (Scalar.cmpi .eq (BitVec.ofNat 32 (i 0).val) 0#32) (Scalar.cmpi .ne a b))) 0#32 = 1#1) :
    (i 0).val ≠ 0 ∧ a = b := by
  rw [bit_word] at h
  constructor
  · intro h0
    apply h
    rw [(eq_word (BitVec.ofNat 32 (i 0).val) 0#32).2 (by rw [h0])]
    generalize Scalar.cmpi .ne a b = u
    revert u; decide
  · by_contra hne
    apply h
    have : Scalar.cmpi .ne a b = 1#1 := by
      show BitVec.ofBool (a != b) = 1#1
      rw [WordCmp.ofBool_eq_one_iff, bne_iff_ne]; exact hne
    rw [this]
    generalize Scalar.cmpi .eq (BitVec.ofNat 32 (i 0).val) 0#32 = u
    revert u; decide

/-- The same of a load of one element whose value is taken up later. -/
theorem load_one {β : Type} (Q : β → sProp 𝕄) {cs : CoreSpace} {s : Shape} {e : EltTy} (m : Memref sig .tc cs s e) (q : PosShare TreeShare) (X : s.Idx → Elt F e)
    (r : Rect s) (y : s.Idx) (hy : ∀ z, r.emb z = y) (hl : m.view.LoadsAt r.toLoadRect)
    (k : (r.shape.Idx → Elt F e) → Prog (TpuEff nD τ sig (Elt F) Λ₀ .tc) β) :
    owns (c : Thread nD τ) m q X ⊢ iprop((owns (c : Thread nD τ) m q X -∗ wp frame (wpE (defs₀ (F := F)) Variants.none (c : Thread nD τ) none) Set.univ (k fun _ => X y) Q)
      -∗ wp frame (wpE (defs₀ (F := F)) Variants.none (c : Thread nD τ) none) Set.univ (.op (.load m r.toLoadRect hl) k) Q) := by
  unfold owns
  iintro ⟨%f, %hf, H⟩ Hk
  iapply (wp_load Variants.none (c : Thread nD τ) none Set.univ (m := m) (S := m.view.set) (q := q) (f := f) ?_) $$ H
  · exact View.setOn_subset_set _ _
  iintro H
  rw [show m.view.readAt (Elt F) r.toLoadRect f = (fun _ => X y) from by
    funext z; rw [View.readAt_apply, show m.view.read (Elt F) f = X from hf]; exact congrArg X (hy z)]
  iapply Hk
  iexists f
  isplitr; · ipureintro; exact hf
  iexact H

theorem off1_emb (i : grid0.Coords) (z) : (Rect.unit (s := S160) (k0_off1 i) S1.size (k0_off1_inb i)).emb z = ix1 (i 0) := by
  funext a
  apply Fin.ext
  rw [Rect.emb_apply]
  have hz : (z a).val < S1.size a := (z a).isLt
  have h := point_word i
  fin_cases a
  have hz : (z 0).val < 1 := hz
  show (BitVec.ofNat 32 (i 0).val).toNat + 1 * (z 0).val = (i 0).val
  omega

/-- The point before, or the first. -/
def prev (i : grid0.Coords) : Fin 160 := ⟨(i 0).val - 1, by have : (i 0).val < 160 := (i 0).isLt; omega⟩

theorem prev_word : ∀ n : Fin 160, (Scalar.maxsi (Scalar.subi (BitVec.ofNat 32 n.val) 1#32) 0#32 : BitVec 32).toNat = n.val - 1 := by decide

theorem off2_emb (i : grid0.Coords) (z) : (Rect.unit (s := S160) (k0_off2 i) S1.size (k0_off2_inb i)).emb z = ix1 (prev i) := by
  funext a
  apply Fin.ext
  rw [Rect.emb_apply]
  have hz : (z a).val < S1.size a := (z a).isLt
  fin_cases a
  have hz : (z 0).val < 1 := hz
  have h := prev_word (i 0)
  show (Scalar.maxsi (Scalar.subi (BitVec.ofNat 32 (i 0).val) 1#32) 0#32 : BitVec 32).toNat + 1 * (z 0).val = (i 0).val - 1
  omega

theorem nb_emb (z) : (Rect.unit (s := S1) ![0] S1.size inb_S1_S1_0).emb z = ix1 0 := by
  funext a
  apply Fin.ext
  rw [Rect.emb_apply]
  have hz : (z a).val < S1.size a := (z a).isLt
  fin_cases a
  have hz : (z 0).val < 1 := hz
  show 0 + 1 * (z 0).val = 0
  omega

/-- The block point `t` leaves. -/
def outB (T : Fin 256 → Fin 16384) (wg wu : S1x1x2048x512.Idx → Elt F .f32) (wd : S1x1x512x2048.Idx → Elt F .f32) (P : Prop) [Decidable P] :
    S256x2048.Idx → Elt F .f32 :=
  if P then k0_pay4 (rowsOf x T) (k0_pay1 wg) (k0_pay2 wu) (k0_pay3 wd) else k0_pay5

section Body

variable (i : grid0.Coords) (arg1 : Memref sig .tc .smem S160 .i32) (harg1 : arg1.IsWhole) (arg2 : Memref sig .tc .smem S1 .i32) (harg2 : arg2.IsWhole)
  (arg3 : Memref sig .tc .smem S1x1x256 .i32) (harg3 : arg3.IsWhole) (arg4 : Memref sig .tc .smem S1x1x256 .i32) (harg4 : arg4.IsWhole)
  (arg5 : Memref sig .tc .smem S1x1x256 .i32) (harg5 : arg5.IsWhole)
  (arg7 : Memref sig .tc .vmem S1x1x2048x512 .f32) (harg7 : arg7.IsWhole) (arg8 : Memref sig .tc .vmem S1x1x2048x512 .f32) (harg8 : arg8.IsWhole)
  (arg9 : Memref sig .tc .vmem S1x1x512x2048 .f32) (harg9 : arg9.IsWhole) (arg10 : Memref sig .tc .vmem S256x2048 .f32) (harg10 : arg10.IsWhole)

/-- The weights' three 16-bit copies. -/
def copies (sg su : S2048x512.Idx → Elt F .bf16) (sd : S512x2048.Idx → Elt F .bf16) : sProp 𝕄 :=
  iprop(owns (c : Thread nD τ) (Memref.whole cc0_scratch1) fullShare sg ∗ owns (c : Thread nD τ) (Memref.whole cc0_scratch2) fullShare su
    ∗ owns (c : Thread nD τ) (Memref.whole cc0_scratch3) fullShare sd)

end Body

end Cert.Proof.ExIdeal
-- ==== Proof.ExIdealStages.lean ====
module

public import proofs.«01_k».proof.Proof.ExIdealBody
public import Idealize.ShloMosaic.Lib.WordCmp

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body as its six stages, each followed by the rest -/

section Stages

variable (i : grid0.Coords) (arg1 : Memref sig .tc .smem S160 .i32) (harg1 : arg1.IsWhole) (arg2 : Memref sig .tc .smem S1 .i32) (harg2 : arg2.IsWhole)
  (arg3 : Memref sig .tc .smem S1x1x256 .i32) (harg3 : arg3.IsWhole) (arg4 : Memref sig .tc .smem S1x1x256 .i32) (harg4 : arg4.IsWhole)
  (arg5 : Memref sig .tc .smem S1x1x256 .i32) (harg5 : arg5.IsWhole)
  (arg7 : Memref sig .tc .vmem S1x1x2048x512 .f32) (harg7 : arg7.IsWhole) (arg8 : Memref sig .tc .vmem S1x1x2048x512 .f32) (harg8 : arg8.IsWhole)
  (arg9 : Memref sig .tc .vmem S1x1x512x2048 .f32) (harg9 : arg9.IsWhole) (arg10 : Memref sig .tc .vmem S256x2048 .f32) (harg10 : arg10.IsWhole)

/-- The weights' copies renewed. -/
def st1 (v4 v8 : BitVec 32) (j : Unit → Prog (TpuEff nD τ sig (Elt F) Λ₀ .tc) PUnit) : Prog (TpuEff nD τ sig (Elt F) Λ₀ .tc) PUnit :=
  if Scalar.cmpi (w := 32) .ne (Scalar.extui (Scalar.ori (Scalar.cmpi .eq (BitVec.ofNat 32 (i 0).val) 0#32) (Scalar.cmpi .ne v4 v8))) 0#32 = 1#1 then do
    let v26 : Vec F S1x1x2048x512 .f32 ← Prog.lift (.load arg7 (Rect.unit (s := S1x1x2048x512) ![0, 0, 0, 0] S1x1x2048x512.size inb_S1x1x2048x512_S1x1x2048x512_0_0_0_0).toLoadRect (View.loadsAt_vmem h_S1x1x2048x512))
    let v29 : Vec F S2048x512 .bf16 ← Prog.lift (.load (Memref.whole cc0_scratch1) (Rect.unit (s := S2048x512) ![0, 0] S2048x512.size inb_S2048x512_S2048x512_0_0).toLoadRect (View.loadsAt_vmem h_S2048x512))
    Prog.lift (.store (Memref.whole cc0_scratch1) (Rect.unit (s := S2048x512) ![0, 0] S2048x512.size inb_S2048x512_S2048x512_0_0) (k0_pay1 v26) Finset.univ (View.stores_vmem h_S2048x512 ((Memref.isWhole_whole cc0_scratch1).storeExact_slice rfl _ packedbf16_S2048x512_S2048x512_0_0) (fun _ => rfl)) (.inl rfl))
    let v32 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
    let v35 : Vec F S2048x512 .bf16 ← Prog.lift (.load (Memref.whole cc0_scratch2) (Rect.unit (s := S2048x512) ![0, 0] S2048x512.size inb_S2048x512_S2048x512_0_0).toLoadRect (View.loadsAt_vmem h_S2048x512))
    Prog.lift (.store (Memref.whole cc0_scratch2) (Rect.unit (s := S2048x512) ![0, 0] S2048x512.size inb_S2048x512_S2048x512_0_0) (k0_pay2 v32) Finset.univ (View.stores_vmem h_S2048x512 ((Memref.isWhole_whole cc0_scratch2).storeExact_slice rfl _ packedbf16_S2048x512_S2048x512_0_0) (fun _ => rfl)) (.inl rfl))
    let v38 : Vec F S1x1x512x2048 .f32 ← Prog.lift (.load arg9 (Rect.unit (s := S1x1x512x2048) ![0, 0, 0, 0] S1x1x512x2048.size inb_S1x1x512x2048_S1x1x512x2048_0_0_0_0).toLoadRect (View.loadsAt_vmem h_S1x1x512x2048))
    let v41 : Vec F S512x2048 .bf16 ← Prog.lift (.load (Memref.whole cc0_scratch3) (Rect.unit (s := S512x2048) ![0, 0] S512x2048.size inb_S512x2048_S512x2048_0_0).toLoadRect (View.loadsAt_vmem h_S512x2048))
    Prog.lift (.store (Memref.whole cc0_scratch3) (Rect.unit (s := S512x2048) ![0, 0] S512x2048.size inb_S512x2048_S512x2048_0_0) (k0_pay3 v38) Finset.univ (View.stores_vmem h_S512x2048 ((Memref.isWhole_whole cc0_scratch3).storeExact_slice rfl _ packedbf16_S512x2048_S512x2048_0_0) (fun _ => rfl)) (.inl rfl))
    j ⟨⟩
  else j ⟨⟩

/-- At the first point: the second block sent for. -/
def st3 (v0 : BitVec 32) (k0_h2 : k0_cond2 i = 1#1) (j : Unit → Prog (TpuEff nD τ sig (Elt F) Λ₀ .tc) PUnit) : Prog (TpuEff nD τ sig (Elt F) Λ₀ .tc) PUnit :=
  if k0_h3 : k0_cond3 v0 = 1#1 then do
    Scf.Loop.for k0_t2_loop (k0_t2_ok i k0_h2) ⟨⟩ (k0_t2_body i arg1 harg1 arg2 harg2 arg3 harg3 arg4 harg4 arg5 harg5 xM (Memref.isWhole_whole _) arg7 harg7 arg8 harg8 arg9 harg9 arg10 harg10 bufM (Memref.isWhole_whole _) (Memref.whole cc0_scratch1) (Memref.isWhole_whole _) (Memref.whole cc0_scratch2) (Memref.isWhole_whole _) (Memref.whole cc0_scratch3) (Memref.isWhole_whole _) cc0_scratch4 v0 k0_h2 k0_h3)
    j ⟨⟩
  else j ⟨⟩

/-- At the first point: the first two blocks sent for. -/
def st2 (v0 : BitVec 32) (j : Unit → Prog (TpuEff nD τ sig (Elt F) Λ₀ .tc) PUnit) : Prog (TpuEff nD τ sig (Elt F) Λ₀ .tc) PUnit :=
  if k0_h2 : k0_cond2 i = 1#1 then do
    Scf.Loop.for k0_t1_loop (k0_t1_ok i k0_h2) ⟨⟩ (k0_t1_body i arg1 harg1 arg2 harg2 arg3 harg3 arg4 harg4 arg5 harg5 xM (Memref.isWhole_whole _) arg7 harg7 arg8 harg8 arg9 harg9 arg10 harg10 bufM (Memref.isWhole_whole _) (Memref.whole cc0_scratch1) (Memref.isWhole_whole _) (Memref.whole cc0_scratch2) (Memref.isWhole_whole _) (Memref.whole cc0_scratch3) (Memref.isWhole_whole _) cc0_scratch4 k0_h2)
    st3 i arg1 harg1 arg2 harg2 arg3 harg3 arg4 harg4 arg5 harg5 arg7 harg7 arg8 harg8 arg9 harg9 arg10 harg10 v0 k0_h2 j
  else j ⟨⟩

/-- The block two points on sent for. -/
def st4 (v0 : BitVec 32) (j : Unit → Prog (TpuEff nD τ sig (Elt F) Λ₀ .tc) PUnit) : Prog (TpuEff nD τ sig (Elt F) Λ₀ .tc) PUnit :=
  if k0_h4 : k0_cond4 i v0 = 1#1 then do
    Scf.Loop.for k0_t3_loop k0_t3_ok ⟨⟩ (k0_t3_body i arg1 harg1 arg2 harg2 arg3 harg3 arg4 harg4 arg5 harg5 xM (Memref.isWhole_whole _) arg7 harg7 arg8 harg8 arg9 harg9 arg10 harg10 bufM (Memref.isWhole_whole _) (Memref.whole cc0_scratch1) (Memref.isWhole_whole _) (Memref.whole cc0_scratch2) (Memref.isWhole_whole _) (Memref.whole cc0_scratch3) (Memref.isWhole_whole _) cc0_scratch4 v0 k0_h4)
    j ⟨⟩
  else j ⟨⟩

/-- The point's block waited for, and the experts' arithmetic on it. -/
def st5 (v0 : BitVec 32) (j : Unit → Prog (TpuEff nD τ sig (Elt F) Λ₀ .tc) PUnit) : Prog (TpuEff nD τ sig (Elt F) Λ₀ .tc) PUnit :=
  if k0_h5 : k0_cond5 i v0 = 1#1 then do
    Scf.Loop.for k0_t4_loop k0_t4_ok ⟨⟩ (k0_t4_body i arg1 harg1 arg2 harg2 arg3 harg3 arg4 harg4 arg5 harg5 xM (Memref.isWhole_whole _) arg7 harg7 arg8 harg8 arg9 harg9 arg10 harg10 bufM (Memref.isWhole_whole _) (Memref.whole cc0_scratch1) (Memref.isWhole_whole _) (Memref.whole cc0_scratch2) (Memref.isWhole_whole _) (Memref.whole cc0_scratch3) (Memref.isWhole_whole _) cc0_scratch4)
    let v28 : Vec F S1x256x2048 .f32 ← Prog.lift (.load bufM (Rect.unit (s := S3x256x2048) (k0_off85 i) S1x256x2048.size (k0_off85_inb i)).toLoadRect (View.loadsAt_vmem h_S1x256x2048))
    let v31 : Vec F S2048x512 .bf16 ← Prog.lift (.load (Memref.whole cc0_scratch1) (Rect.unit (s := S2048x512) ![0, 0] S2048x512.size inb_S2048x512_S2048x512_0_0).toLoadRect (View.loadsAt_vmem h_S2048x512))
    let v41 : Vec F S2048x512 .bf16 ← Prog.lift (.load (Memref.whole cc0_scratch2) (Rect.unit (s := S2048x512) ![0, 0] S2048x512.size inb_S2048x512_S2048x512_0_0).toLoadRect (View.loadsAt_vmem h_S2048x512))
    let v45 : Vec F S512x2048 .bf16 ← Prog.lift (.load (Memref.whole cc0_scratch3) (Rect.unit (s := S512x2048) ![0, 0] S512x2048.size inb_S512x2048_S512x2048_0_0).toLoadRect (View.loadsAt_vmem h_S512x2048))
    let v47 : Vec F S256x2048 .f32 ← Prog.lift (.load arg10 (Rect.unit (s := S256x2048) ![0, 0] S256x2048.size inb_S256x2048_S256x2048_0_0).toLoadRect (View.loadsAt_vmem h_S256x2048))
    Prog.lift (.store arg10 (Rect.unit (s := S256x2048) ![0, 0] S256x2048.size inb_S256x2048_S256x2048_0_0) (k0_pay4 v28 v31 v41 v45) Finset.univ (View.stores_vmem_bits_univ h_S256x2048 rfl) (.inl rfl))
    j ⟨⟩
  else j ⟨⟩

/-- An unused block's zeros. -/
def st6 (v0 : BitVec 32) (j : Unit → Prog (TpuEff nD τ sig (Elt F) Λ₀ .tc) PUnit) : Prog (TpuEff nD τ sig (Elt F) Λ₀ .tc) PUnit :=
  if k0_h6 : k0_cond6 i v0 = 1#1 then do
    let v27 : Vec F S256x2048 .f32 ← Prog.lift (.load arg10 (Rect.unit (s := S256x2048) ![0, 0] S256x2048.size inb_S256x2048_S256x2048_0_0).toLoadRect (View.loadsAt_vmem h_S256x2048))
    Prog.lift (.store arg10 (Rect.unit (s := S256x2048) ![0, 0] S256x2048.size inb_S256x2048_S256x2048_0_0) (k0_pay5 (F := F)) Finset.univ (View.stores_vmem_bits_univ h_S256x2048 rfl) (.inl rfl))
    j ⟨⟩
  else j ⟨⟩

set_option maxRecDepth 65536 in
theorem stages : cc0_moe_experts (F := F) i arg1 harg1 arg2 harg2 arg3 harg3 arg4 harg4 arg5 harg5 xM (Memref.isWhole_whole _) arg7 harg7 arg8 harg8 arg9 harg9 arg10 harg10 bufM (Memref.isWhole_whole _) (Memref.whole cc0_scratch1) (Memref.isWhole_whole _) (Memref.whole cc0_scratch2) (Memref.isWhole_whole _) (Memref.whole cc0_scratch3) (Memref.isWhole_whole _) cc0_scratch4
    = (do
      let v0 : Elt F .i32 ← smemLoad arg2 (Rect.unit (s := S1) ![0] S1.size inb_S1_S1_0) numel1_S1 rfl
      let v4 : Elt F .i32 ← smemLoad arg1 (Rect.unit (s := S160) (k0_off1 i) S1.size (k0_off1_inb i)) numel1_S1 rfl
      let v8 : Elt F .i32 ← smemLoad arg1 (Rect.unit (s := S160) (k0_off2 i) S1.size (k0_off2_inb i)) numel1_S1 rfl
      st1 i arg7 arg8 arg9 v4 v8 fun _ => st2 i arg1 harg1 arg2 harg2 arg3 harg3 arg4 harg4 arg5 harg5 arg7 harg7 arg8 harg8 arg9 harg9 arg10 harg10 v0 fun _ => st4 i arg1 harg1 arg2 harg2 arg3 harg3 arg4 harg4 arg5 harg5 arg7 harg7 arg8 harg8 arg9 harg9 arg10 harg10 v0 fun _ => st5 i arg1 harg1 arg2 harg2 arg3 harg3 arg4 harg4 arg5 harg5 arg7 harg7 arg8 harg8 arg9 harg9 arg10 harg10 v0 fun _ => st6 i arg10 v0 fun _ => .ret ⟨⟩) := by
  rw [cc0_moe_experts_eq_skeleton]
  rfl

variable (c : Dev nD) (x : S16384x2048.Idx → Elt F .f32)

/-! ## What each stage leaves -/

theorem run1 (wg wu : S1x1x2048x512.Idx → Elt F .f32) (wd : S1x1x512x2048.Idx → Elt F .f32)
    (sg su : S2048x512.Idx → Elt F .bf16) (sd : S512x2048.Idx → Elt F .bf16) (v4 v8 : BitVec 32)
    (hS : (i 0).val ≠ 0 → v4 = v8 → sg = k0_pay1 wg ∧ su = k0_pay2 wu ∧ sd = k0_pay3 wd) (j : Unit → Prog (TpuEff nD τ sig (Elt F) Λ₀ .tc) PUnit) (K : PUnit → sProp 𝕄) :
    iprop(owns (c : Thread nD τ) arg7 fullShare wg ∗ owns (c : Thread nD τ) arg8 fullShare wu ∗ owns (c : Thread nD τ) arg9 fullShare wd ∗ copies c sg su sd)
      ⊢ iprop((iprop(owns (c : Thread nD τ) arg7 fullShare wg ∗ owns (c : Thread nD τ) arg8 fullShare wu ∗ owns (c : Thread nD τ) arg9 fullShare wd ∗ copies c (k0_pay1 wg) (k0_pay2 wu) (k0_pay3 wd)) -∗ wp frame (wpE (defs₀ (F := F)) Variants.none (c : Thread nD τ) none) Set.univ (j ⟨⟩) K)
        -∗ wp frame (wpE (defs₀ (F := F)) Variants.none (c : Thread nD τ) none) Set.univ (st1 i arg7 arg8 arg9 v4 v8 j) K) := by
  unfold st1
  split
  next h =>
    simp only [Prog.lift, Prog.bind_op, Prog.bind_ret, Prog.pure_eq_ret]
    unfold copies
    iintro ⟨H7, H8, H9, Hg, Hu, Hd⟩ Hk
    iapply (load_full c K arg7 fullShare wg ![0, 0, 0, 0] _ _ _) $$ H7
    iintro H7
    iapply (load_full c K (Memref.whole cc0_scratch1) fullShare sg ![0, 0] _ _ _) $$ Hg
    iintro Hg
    iapply (store_full c K (Memref.whole cc0_scratch1) sg (k0_pay1 wg) ![0, 0] _ _ _ _) $$ Hg
    iintro Hg
    iapply (load_full c K arg8 fullShare wu ![0, 0, 0, 0] _ _ _) $$ H8
    iintro H8
    iapply (load_full c K (Memref.whole cc0_scratch2) fullShare su ![0, 0] _ _ _) $$ Hu
    iintro Hu
    iapply (store_full c K (Memref.whole cc0_scratch2) su (k0_pay2 wu) ![0, 0] _ _ _ _) $$ Hu
    iintro Hu
    iapply (load_full c K arg9 fullShare wd ![0, 0, 0, 0] _ _ _) $$ H9
    iintro H9
    iapply (load_full c K (Memref.whole cc0_scratch3) fullShare sd ![0, 0] _ _ _) $$ Hd
    iintro Hd
    iapply (store_full c K (Memref.whole cc0_scratch3) sd (k0_pay3 wd) ![0, 0] _ _ _ _) $$ Hd
    iintro Hd
    iapply Hk
    isplitl [H7]; · iexact H7
    isplitl [H8]; · iexact H8
    isplitl [H9]; · iexact H9
    isplitl [Hg]; · iexact Hg
    isplitl [Hu]; · iexact Hu
    iexact Hd
  next h =>
    obtain ⟨h0, hv⟩ := first_word i v4 v8 h
    obtain ⟨rfl, rfl, rfl⟩ := hS h0 hv
    iintro H Hk
    iapply Hk; iexact H

theorem run3 (q : PosShare TreeShare) (tw : S1x1x256.Idx → Elt F .i32) (T : ℕ → Fin 256 → Fin 16384) (v0 : BitVec 32) (hv : v0.toNat ≤ 160)
    (hT : 1 < v0.toNat → ∀ r : Fin 256, (tw (ix3 0 0 r) : BitVec 32).toNat = (T 1 r).val) (h2 : k0_cond2 i = 1#1) (j : Unit → Prog (TpuEff nD τ sig (Elt F) Λ₀ .tc) PUnit) (K : PUnit → sProp 𝕄) :
    iprop(slotFree c x (sl 1) ∗ owns (c : Thread nD τ) arg4 q tw)
      ⊢ iprop((iprop(slot c x T (1 < v0.toNat) 1 ∗ owns (c : Thread nD τ) arg4 q tw) -∗ wp frame (wpE (defs₀ (F := F)) Variants.none (c : Thread nD τ) none) Set.univ (j ⟨⟩) K)
        -∗ wp frame (wpE (defs₀ (F := F)) Variants.none (c : Thread nD τ) none) Set.univ (st3 i arg1 harg1 arg2 harg2 arg3 harg3 arg4 harg4 arg5 harg5 arg7 harg7 arg8 harg8 arg9 harg9 arg10 harg10 v0 h2 j) K) := by
  unfold st3
  split
  next h =>
    have h' := (cond3_iff v0 hv).1 h
    rw [slot_pos c x T _ 1 h', wp_bind]
    iintro H Hk
    ihave Hw := (fill c x arg4 q tw (sl 1) (T 1) k0_t2_loop (k0_t2_ok i h2) rfl _
      (fun k acc => step2 c x i arg1 harg1 arg2 harg2 arg3 harg3 arg4 harg4 arg5 harg5 arg7 harg7 arg8 harg8 arg9 harg9 arg10 harg10 q tw (T 1) (hT h') v0 h2 h k acc)) $$ H
    iapply (wp_wand frame (wpE (defs₀ (F := F)) Variants.none (c : Thread nD τ) none) Set.univ) $$ Hw
    iintro %a H
    iapply Hk; iexact H
  next h =>
    have h' : ¬ 1 < v0.toNat := fun h' => h ((cond3_iff v0 hv).2 h')
    rw [slot_neg c x T _ 1 h']
    iintro H Hk
    iapply Hk; iexact H

theorem run2 (tw0 tw1 : S1x1x256.Idx → Elt F .i32) (T : ℕ → Fin 256 → Fin 16384) (v0 : BitVec 32) (hv : v0.toNat ≤ 160) (hv1 : 1 ≤ v0.toNat)
    (hT0 : ∀ r : Fin 256, (tw0 (ix3 0 0 r) : BitVec 32).toNat = (T (i 0).val r).val)
    (hT1 : (i 0).val + 1 < v0.toNat → ∀ r : Fin 256, (tw1 (ix3 0 0 r) : BitVec 32).toNat = (T ((i 0).val + 1) r).val) (j : Unit → Prog (TpuEff nD τ sig (Elt F) Λ₀ .tc) PUnit) (K : PUnit → sProp 𝕄) :
    iprop(slot c x T (1 ≤ (i 0).val ∧ (i 0).val < v0.toNat) (i 0).val ∗ slot c x T (1 ≤ (i 0).val ∧ (i 0).val + 1 < v0.toNat) ((i 0).val + 1)
        ∗ owns (c : Thread nD τ) arg3 fullShare tw0 ∗ owns (c : Thread nD τ) arg4 fullShare tw1)
      ⊢ iprop((iprop(slot c x T ((i 0).val < v0.toNat) (i 0).val ∗ slot c x T ((i 0).val + 1 < v0.toNat) ((i 0).val + 1)
        ∗ owns (c : Thread nD τ) arg3 fullShare tw0 ∗ owns (c : Thread nD τ) arg4 fullShare tw1) -∗ wp frame (wpE (defs₀ (F := F)) Variants.none (c : Thread nD τ) none) Set.univ (j ⟨⟩) K)
        -∗ wp frame (wpE (defs₀ (F := F)) Variants.none (c : Thread nD τ) none) Set.univ (st2 i arg1 harg1 arg2 harg2 arg3 harg3 arg4 harg4 arg5 harg5 arg7 harg7 arg8 harg8 arg9 harg9 arg10 harg10 v0 j) K) := by
  unfold st2
  split
  next h =>
    have h' := (cond2_iff i).1 h
    rw [h'] at hT0 hT1 ⊢
    rw [slot_neg c x T (1 ≤ 0 ∧ _) 0 (by omega), slot_neg c x T (1 ≤ 0 ∧ _) (0 + 1) (by omega), slot_pos c x T (0 < _) 0 (by omega), wp_bind]
    iintro ⟨HS0, HS1, H3, H4⟩ Hk
    ihave Hw := (fill c x arg3 fullShare tw0 (sl 0) (T 0) k0_t1_loop (k0_t1_ok i h) rfl _
      (fun k acc => step1 c x i arg1 harg1 arg2 harg2 arg3 harg3 arg4 harg4 arg5 harg5 arg7 harg7 arg8 harg8 arg9 harg9 arg10 harg10 fullShare tw0 (T 0) hT0 h k acc)) $$ [HS0 H3]
    · isplitl [HS0]; · iexact HS0
      iexact H3
    iapply (wp_wand frame (wpE (defs₀ (F := F)) Variants.none (c : Thread nD τ) none) Set.univ) $$ Hw
    iintro %a ⟨HS0, H3⟩
    iapply (run3 i arg1 harg1 arg2 harg2 arg3 harg3 arg4 harg4 arg5 harg5 arg7 harg7 arg8 harg8 arg9 harg9 arg10 harg10 c x fullShare tw1 T v0 hv hT1 h j K) $$ [HS1 H4]
    · isplitl [HS1]; · iexact HS1
      iexact H4
    iintro ⟨HS1, H4⟩
    iapply Hk
    isplitl [HS0]; · iexact HS0
    isplitl [HS1]; · iexact HS1
    isplitl [H3]; · iexact H3
    iexact H4
  next h =>
    have h' : 1 ≤ (i 0).val := Nat.one_le_iff_ne_zero.2 fun h' => h ((cond2_iff i).2 h')
    rw [slot_congr c x T (1 ≤ (i 0).val ∧ (i 0).val < v0.toNat) ((i 0).val < v0.toNat) _ (by omega),
      slot_congr c x T (1 ≤ (i 0).val ∧ (i 0).val + 1 < v0.toNat) ((i 0).val + 1 < v0.toNat) _ (by omega)]
    iintro H Hk
    iapply Hk; iexact H

theorem run4 (tw : S1x1x256.Idx → Elt F .i32) (T : ℕ → Fin 256 → Fin 16384) (v0 : BitVec 32) (hv : v0.toNat ≤ 160)
    (hT : (i 0).val + 2 < v0.toNat → ∀ r : Fin 256, (tw (ix3 0 0 r) : BitVec 32).toNat = (T ((i 0).val + 2) r).val) (j : Unit → Prog (TpuEff nD τ sig (Elt F) Λ₀ .tc) PUnit) (K : PUnit → sProp 𝕄) :
    iprop(slot c x T False ((i 0).val + 2) ∗ owns (c : Thread nD τ) arg5 fullShare tw)
      ⊢ iprop((iprop(slot c x T ((i 0).val + 2 < v0.toNat) ((i 0).val + 2) ∗ owns (c : Thread nD τ) arg5 fullShare tw) -∗ wp frame (wpE (defs₀ (F := F)) Variants.none (c : Thread nD τ) none) Set.univ (j ⟨⟩) K)
        -∗ wp frame (wpE (defs₀ (F := F)) Variants.none (c : Thread nD τ) none) Set.univ (st4 i arg1 harg1 arg2 harg2 arg3 harg3 arg4 harg4 arg5 harg5 arg7 harg7 arg8 harg8 arg9 harg9 arg10 harg10 v0 j) K) := by
  unfold st4
  split
  next h =>
    have h' := (cond4_iff i v0 hv).1 h
    rw [slot_pos c x T _ _ h', slot_neg c x T _ _ (fun h => h), wp_bind]
    iintro H Hk
    ihave Hw := (fill c x arg5 fullShare tw (sl ((i 0).val + 2)) (T ((i 0).val + 2)) k0_t3_loop k0_t3_ok rfl _
      (fun k acc => step3 c x i arg1 harg1 arg2 harg2 arg3 harg3 arg4 harg4 arg5 harg5 arg7 harg7 arg8 harg8 arg9 harg9 arg10 harg10 fullShare tw (T ((i 0).val + 2)) (hT h') v0 h (sl ((i 0).val + 2)) rfl k acc)) $$ H
    iapply (wp_wand frame (wpE (defs₀ (F := F)) Variants.none (c : Thread nD τ) none) Set.univ) $$ Hw
    iintro %a H
    iapply Hk; iexact H
  next h =>
    have h' : ¬ (i 0).val + 2 < v0.toNat := fun h' => h ((cond4_iff i v0 hv).2 h')
    rw [slot_congr c x T ((i 0).val + 2 < v0.toNat) False _ (by tauto)]
    iintro H Hk
    iapply Hk; iexact H

theorem off85_eq (i : grid0.Coords) : k0_off85 i = ![(sl (i 0).val).val, 0, 0] := by
  show ![(Scalar.remsi (BitVec.ofNat 32 (i 0).val) 3#32 : BitVec 32).toNat, 0, 0] = _
  rw [slot4]; rfl

theorem run5 (T : ℕ → Fin 256 → Fin 16384) (v0 : BitVec 32) (hv : v0.toNat ≤ 160)
    (sg su : S2048x512.Idx → Elt F .bf16) (sd : S512x2048.Idx → Elt F .bf16) (j : Unit → Prog (TpuEff nD τ sig (Elt F) Λ₀ .tc) PUnit) (K : PUnit → sProp 𝕄) :
    iprop(slot c x T ((i 0).val < v0.toNat) (i 0).val ∗ (∃ W, owes (c : Thread nD τ) 0 W) ∗ copies c sg su sd ∗ (∃ d, owns (c : Thread nD τ) arg10 fullShare d))
      ⊢ iprop((iprop(slot c x T False (i 0).val ∗ (∃ W, owes (c : Thread nD τ) 0 W) ∗ copies c sg su sd
          ∗ (∃ d, ⌜(i 0).val < v0.toNat → d = k0_pay4 (rowsOf x (T (i 0).val)) sg su sd⌝ ∗ owns (c : Thread nD τ) arg10 fullShare d)) -∗ wp frame (wpE (defs₀ (F := F)) Variants.none (c : Thread nD τ) none) Set.univ (j ⟨⟩) K)
        -∗ wp frame (wpE (defs₀ (F := F)) Variants.none (c : Thread nD τ) none) Set.univ (st5 i arg1 harg1 arg2 harg2 arg3 harg3 arg4 harg4 arg5 harg5 arg7 harg7 arg8 harg8 arg9 harg9 arg10 harg10 v0 j) K) := by
  unfold st5
  split
  next h =>
    have h' := (cond5_iff i v0 hv).1 h
    rw [slot_pos c x T _ _ h', slot_neg c x T False _ (fun h => h), wp_bind]
    simp only [Prog.lift, Prog.bind_op, Prog.bind_ret, Prog.pure_eq_ret]
    iintro ⟨HS, HO, HC, ⟨%d, H10⟩⟩ Hk
    ihave Hw := (drain c x (sl (i 0).val) (T (i 0).val) k0_t4_loop k0_t4_ok rfl _
      (fun k acc => step4 c x i arg1 harg1 arg2 harg2 arg3 harg3 arg4 harg4 arg5 harg5 arg7 harg7 arg8 harg8 arg9 harg9 arg10 harg10 (T (i 0).val) (sl (i 0).val) rfl k acc)) $$ [HS HO]
    · isplitl [HS]; · iexact HS
      iexact HO
    iapply (wp_wand frame (wpE (defs₀ (F := F)) Variants.none (c : Thread nD τ) none) Set.univ) $$ Hw
    iintro %a ⟨HS, HO⟩
    unfold copies
    icases HC with ⟨Hg, Hu, Hd⟩
    iapply (load_slot c x K (sl (i 0).val) (T (i 0).val) (k0_off85 i) (off85_eq i) _ _ _) $$ HS
    iintro HS
    iapply (load_full c K (Memref.whole cc0_scratch1) fullShare sg ![0, 0] _ _ _) $$ Hg
    iintro Hg
    iapply (load_full c K (Memref.whole cc0_scratch2) fullShare su ![0, 0] _ _ _) $$ Hu
    iintro Hu
    iapply (load_full c K (Memref.whole cc0_scratch3) fullShare sd ![0, 0] _ _ _) $$ Hd
    iintro Hd
    iapply (load_full c K arg10 fullShare d ![0, 0] _ _ _) $$ H10
    iintro H10
    iapply (store_full c K arg10 d (k0_pay4 (rowsOf x (T (i 0).val)) sg su sd) ![0, 0] _ _ _ _) $$ H10
    iintro H10
    ihave HS := (landed_free c x (sl (i 0).val) (T (i 0).val)) $$ HS
    iapply Hk
    isplitl [HS]; · iexact HS
    isplitl [HO]; · iexact HO
    isplitl [Hg Hu Hd]
    · isplitl [Hg]; · iexact Hg
      isplitl [Hu]; · iexact Hu
      iexact Hd
    iexists _
    isplitr
    swap; · iexact H10
    ipureintro; intro _; rfl
  next h =>
    have h' : ¬ (i 0).val < v0.toNat := fun h' => h ((cond5_iff i v0 hv).2 h')
    rw [slot_congr c x T ((i 0).val < v0.toNat) False _ (by tauto)]
    iintro ⟨HS, HO, HC, ⟨%d, H10⟩⟩ Hk
    iapply Hk
    isplitl [HS]; · iexact HS
    isplitl [HO]; · iexact HO
    isplitl [HC]; · iexact HC
    iexists d
    isplitr; · ipureintro; intro h; exact absurd h h'
    iexact H10

theorem run6 (v0 : BitVec 32) (hv : v0.toNat ≤ 160) (X : S256x2048.Idx → Elt F .f32) (j : Unit → Prog (TpuEff nD τ sig (Elt F) Λ₀ .tc) PUnit) (K : PUnit → sProp 𝕄) :
    iprop(∃ d, ⌜(i 0).val < v0.toNat → d = X⌝ ∗ owns (c : Thread nD τ) arg10 fullShare d)
      ⊢ iprop((owns (c : Thread nD τ) arg10 fullShare (if (i 0).val < v0.toNat then X else k0_pay5) -∗ wp frame (wpE (defs₀ (F := F)) Variants.none (c : Thread nD τ) none) Set.univ (j ⟨⟩) K)
        -∗ wp frame (wpE (defs₀ (F := F)) Variants.none (c : Thread nD τ) none) Set.univ (st6 i arg10 v0 j) K) := by
  unfold st6
  by_cases h : k0_cond6 i v0 = 1#1
  · rw [dif_pos h]
    have h' : ¬ (i 0).val < v0.toNat := by have := (cond6_iff i v0 hv).1 h; omega
    simp only [Prog.lift, Prog.bind_op, Prog.bind_ret, Prog.pure_eq_ret]
    rw [if_neg h']
    iintro ⟨%d, -, H10⟩ Hk
    iapply (load_full c K arg10 fullShare d ![0, 0] _ _ _) $$ H10
    iintro H10
    iapply (store_full c K arg10 d k0_pay5 ![0, 0] _ _ _ _) $$ H10
    iintro H10
    iapply Hk; iexact H10
  · rw [dif_neg h]
    have h' : (i 0).val < v0.toNat := by
      by_contra h'; exact h ((cond6_iff i v0 hv).2 (by omega))
    rw [if_pos h']
    iintro ⟨%d, %hd, H10⟩ Hk
    rw [← hd h']
    iapply Hk; iexact H10

/-- The slot of the block three ahead is this one's. -/
theorem turn (T : ℕ → Fin 256 → Fin 16384) (b : ℕ) : slot c x T False (b + 1 + 2) = slot c x T False b := by
  rw [slot_neg c x T False b (fun h => h), slot_neg c x T False (b + 1 + 2) (fun h => h),
    show sl (b + 1 + 2) = sl b from Fin.ext (by show (b + 1 + 2) % 3 = b % 3; omega)]

set_option maxHeartbeats 4000000 in
theorem sound_kernel (q1 q2 : PosShare TreeShare) (be : S160.Idx → Elt F .i32) (nb : S1.Idx → Elt F .i32) (tw0 tw1 tw2 : S1x1x256.Idx → Elt F .i32)
    (wg wu : S1x1x2048x512.Idx → Elt F .f32) (wd : S1x1x512x2048.Idx → Elt F .f32)
    (sg su : S2048x512.Idx → Elt F .bf16) (sd : S512x2048.Idx → Elt F .bf16) (T : ℕ → Fin 256 → Fin 16384) (NB : ℕ)
    (hnb : (nb (ix1 0) : BitVec 32).toNat = NB) (hNB : NB ≤ 160) (hNB1 : 1 ≤ NB)
    (hT0 : ∀ r : Fin 256, (tw0 (ix3 0 0 r) : BitVec 32).toNat = (T (i 0).val r).val)
    (hT1 : (i 0).val + 1 < NB → ∀ r : Fin 256, (tw1 (ix3 0 0 r) : BitVec 32).toNat = (T ((i 0).val + 1) r).val)
    (hT2 : (i 0).val + 2 < NB → ∀ r : Fin 256, (tw2 (ix3 0 0 r) : BitVec 32).toNat = (T ((i 0).val + 2) r).val)
    (hS : (i 0).val ≠ 0 → be (ix1 (i 0)) = be (ix1 (prev i)) → sg = k0_pay1 wg ∧ su = k0_pay2 wu ∧ sd = k0_pay3 wd)
    (K : PUnit → sProp 𝕄) :
    iprop(owns (c : Thread nD τ) arg1 q1 be ∗ owns (c : Thread nD τ) arg2 q2 nb
        ∗ owns (c : Thread nD τ) arg3 fullShare tw0 ∗ owns (c : Thread nD τ) arg4 fullShare tw1 ∗ owns (c : Thread nD τ) arg5 fullShare tw2
        ∗ owns (c : Thread nD τ) arg7 fullShare wg ∗ owns (c : Thread nD τ) arg8 fullShare wu ∗ owns (c : Thread nD τ) arg9 fullShare wd
        ∗ (∃ d, owns (c : Thread nD τ) arg10 fullShare d) ∗ copies c sg su sd ∗ ring c x T NB (i 0).val ∗ (∃ W, owes (c : Thread nD τ) 0 W)
        ∗ (iprop(owns (c : Thread nD τ) arg1 q1 be ∗ owns (c : Thread nD τ) arg2 q2 nb
            ∗ owns (c : Thread nD τ) arg3 fullShare tw0 ∗ owns (c : Thread nD τ) arg4 fullShare tw1 ∗ owns (c : Thread nD τ) arg5 fullShare tw2
            ∗ owns (c : Thread nD τ) arg7 fullShare wg ∗ owns (c : Thread nD τ) arg8 fullShare wu ∗ owns (c : Thread nD τ) arg9 fullShare wd
            ∗ owns (c : Thread nD τ) arg10 fullShare (outB x (T (i 0).val) wg wu wd ((i 0).val < NB))
            ∗ copies c (k0_pay1 wg) (k0_pay2 wu) (k0_pay3 wd) ∗ ring c x T NB ((i 0).val + 1) ∗ (∃ W, owes (c : Thread nD τ) 0 W)) -∗ K ⟨⟩))
      ⊢ wp frame (wpE (defs₀ (F := F)) Variants.none (c : Thread nD τ) none) Set.univ
          (cc0_moe_experts (F := F) i arg1 harg1 arg2 harg2 arg3 harg3 arg4 harg4 arg5 harg5 xM (Memref.isWhole_whole _) arg7 harg7 arg8 harg8 arg9 harg9 arg10 harg10
            bufM (Memref.isWhole_whole _) (Memref.whole cc0_scratch1) (Memref.isWhole_whole _) (Memref.whole cc0_scratch2) (Memref.isWhole_whole _)
            (Memref.whole cc0_scratch3) (Memref.isWhole_whole _) cc0_scratch4) K := by
  rw [stages]
  simp only [smemLoad, smemLoadElt, Prog.lift, Prog.bind_op, Prog.bind_ret, Prog.pure_eq_ret]
  subst hnb
  iintro ⟨H1, H2, H3, H4, H5, H7, H8, H9, H10, HC, HR, HO, Hk⟩
  iapply (load_one c K arg2 q2 nb (Rect.unit (s := S1) ![0] S1.size inb_S1_S1_0) (ix1 0) nb_emb _ _) $$ H2
  iintro H2
  iapply (load_one c K arg1 q1 be (Rect.unit (s := S160) (k0_off1 i) S1.size (k0_off1_inb i)) (ix1 (i 0)) (off1_emb i) _ _) $$ H1
  iintro H1
  iapply (load_one c K arg1 q1 be (Rect.unit (s := S160) (k0_off2 i) S1.size (k0_off2_inb i)) (ix1 (prev i)) (off2_emb i) _ _) $$ H1
  iintro H1
  iapply (run1 i arg7 arg8 arg9 c wg wu wd sg su sd _ _ hS _ K) $$ [H7 H8 H9 HC]
  · isplitl [H7]; · iexact H7
    isplitl [H8]; · iexact H8
    isplitl [H9]; · iexact H9
    iexact HC
  iintro ⟨H7, H8, H9, HC⟩
  unfold ring
  icases HR with ⟨HS0, HS1, HS2⟩
  iapply (run2 i arg1 harg1 arg2 harg2 arg3 harg3 arg4 harg4 arg5 harg5 arg7 harg7 arg8 harg8 arg9 harg9 arg10 harg10 c x tw0 tw1 T _ hNB hNB1 hT0 hT1 _ K) $$ [HS0 HS1 H3 H4]
  · isplitl [HS0]; · iexact HS0
    isplitl [HS1]; · iexact HS1
    isplitl [H3]; · iexact H3
    iexact H4
  iintro ⟨HS0, HS1, H3, H4⟩
  iapply (run4 i arg1 harg1 arg2 harg2 arg3 harg3 arg4 harg4 arg5 harg5 arg7 harg7 arg8 harg8 arg9 harg9 arg10 harg10 c x tw2 T _ hNB hT2 _ K) $$ [HS2 H5]
  · isplitl [HS2]; · iexact HS2
    iexact H5
  iintro ⟨HS2, H5⟩
  iapply (run5 i arg1 harg1 arg2 harg2 arg3 harg3 arg4 harg4 arg5 harg5 arg7 harg7 arg8 harg8 arg9 harg9 arg10 harg10 c x T _ hNB _ _ _ _ K) $$ [HS0 HO HC H10]
  · isplitl [HS0]; · iexact HS0
    isplitl [HO]; · iexact HO
    isplitl [HC]; · iexact HC
    iexact H10
  iintro ⟨HS0, HO, HC, H10⟩
  iapply (run6 i arg10 c _ hNB _ _ K) $$ H10
  iintro H10
  iapply (le_wp_ret _ _ _ _ _)
  iapply Hk
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [HC]; · iexact HC
  isplitr [HO]
  · isplitl [HS1]
    · rw [slot_congr c x T (1 ≤ (i 0).val + 1 ∧ (i 0).val + 1 < _) ((i 0).val + 1 < (nb (ix1 0) : BitVec 32).toNat) _ (by omega)]
      iexact HS1
    isplitl [HS2]
    · rw [slot_congr c x T (1 ≤ (i 0).val + 1 ∧ (i 0).val + 1 + 1 < _) ((i 0).val + 2 < (nb (ix1 0) : BitVec 32).toNat) _ (by omega)]
      iexact HS2
    rw [turn c x T (i 0).val]
    iexact HS0
  iexact HO

end Stages

end Cert.Proof.ExIdeal
-- ==== Proof.ExIdealData.lean ====
module

public import proofs.«01_k».proof.Proof.ExIdealStages
public import Idealize.ShloMosaic.Lib.ValueIdx

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What the region finds -/

/-- Every buffer at the region's entry: as launched, the token ids reshaped. -/
def V (c : Dev nD) (b : Ref sig .tc) : Buf (Elt F) ((c : Thread nD τ).loc b) := StableHlo.after (hostOps0 (F := F)) (fun b => m (c, b)) b

theorem V_arg (c : Dev nD) (b : Ref sig .tc) (hb : b ≠ main_v0) : V m c b = m ((c : Thread nD τ).loc b) := by
  unfold V
  simp only [hostOps0, StableHlo.after_cons, StableHlo.after_nil]
  exact StableHlo.reshape_result_ne main_arg1 main_v0 _ _ _ _ _ hb

/-- The token ids by block and row. -/
theorem V_tok (c : Dev nD) (b : Fin 160) (r : Fin 256) :
    V m c main_v0 (ix3 b 0 r) = m ((c : Thread nD τ).loc main_arg1) (ix1 ⟨b.val * 256 + r.val, by omega⟩) := by
  unfold V
  simp only [hostOps0, StableHlo.after_cons, StableHlo.after_nil]
  rw [StableHlo.reshape_result]
  exact shapeCast_apply _ shapeCasts_S40960_S160x1x256 (ix3 b 0 r) (ix1 ⟨b.val * 256 + r.val, by omega⟩) (by
    rw [Shape.rowMajor_val_one, Shape.rowMajor_val_three]
    show b.val * 256 + r.val = (b.val * 1 + 0) * 256 + r.val
    omega)

/-- The two tables' contents: the blocks' experts and the number of blocks. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

variable (hO : Ok m)

/-- Window `w`'s block at point `t`. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The expert's word at a block, the number of blocks. -/
abbrev be (c : Dev nD) : S160.Idx → Elt F .i32 := V m c main_arg2
abbrev nb (c : Dev nD) : S1.Idx → Elt F .i32 := V m c main_arg3
def NB (c : Dev nD) : ℕ := (nb m c (ix1 0) : BitVec 32).toNat

/-- The token named by a block's row (blocks past the last one are never asked for). -/
def T (c : Dev nD) (b : ℕ) (r : Fin 256) : Fin 16384 :=
  if h : b < 160 then ⟨(V m c main_v0 (ix3 ⟨b, h⟩ 0 r) : BitVec 32).toNat % 16384, Nat.mod_lt _ (by decide)⟩ else 0

/-- What is asked of the ids and of the number of blocks. -/
structure Fits (c : Dev nD) : Prop where
  tok : ∀ (b : Fin 160) (r : Fin 256), (V m c main_v0 (ix3 b 0 r) : BitVec 32).toNat < 16384
  pos : 1 ≤ NB m c
  le : NB m c ≤ 160

abbrev coords (t : Fin (cfgM m hO).N) : grid0.Coords := grid0.coords t

theorem coord_all : ∀ t : Fin grid0.N, ((grid0.coords t) 0).val = t.val := by decide +kernel

theorem coord_val (t : Fin (cfgM m hO).N) : ((coords m hO t) 0).val = t.val := coord_all t

theorem tr0 : ∀ i : grid0.Coords, cc0_transform_0 i 0 = (i 0).val := by decide +kernel
theorem tr1 : ∀ i : grid0.Coords, (i 0).val + 1 < 160 → cc0_transform_1 i 0 = (i 0).val + 1 := by decide +kernel
theorem tr2 : ∀ i : grid0.Coords, (i 0).val + 2 < 160 → cc0_transform_2 i 0 = (i 0).val + 2 := by decide +kernel

theorem iblk0 (c : Dev nD) (t : Fin (cfgM m hO).N) (r : Fin 256) (b : Fin 160) (hb : b.val = t.val) :
    (iblk m hO c 0 t : S1x1x256.Idx → Elt F .i32) (ix3 0 0 r) = V m c main_v0 (ix3 b 0 r) := by
  unfold iblk
  show V m c main_v0 _ = _
  congr 1
  funext a
  apply Fin.ext
  fin_cases a
  · show cc0_transform_0 (coords m hO t) 0 * 1 + 1 * 0 = b.val
    rw [tr0, coord_val, hb]; omega
  · rfl
  · show 0 * 256 + 1 * r.val = r.val; omega

theorem iblk1 (c : Dev nD) (t : Fin (cfgM m hO).N) (r : Fin 256) (b : Fin 160) (hb : b.val = t.val + 1) :
    (iblk m hO c 1 t : S1x1x256.Idx → Elt F .i32) (ix3 0 0 r) = V m c main_v0 (ix3 b 0 r) := by
  unfold iblk
  show V m c main_v0 _ = _
  congr 1
  funext a
  apply Fin.ext
  fin_cases a
  · show cc0_transform_1 (coords m hO t) 0 * 1 + 1 * 0 = b.val
    rw [tr1 _ (by rw [coord_val]; omega), coord_val, hb]; omega
  · rfl
  · show 0 * 256 + 1 * r.val = r.val; omega

theorem iblk2 (c : Dev nD) (t : Fin (cfgM m hO).N) (r : Fin 256) (b : Fin 160) (hb : b.val = t.val + 2) :
    (iblk m hO c 2 t : S1x1x256.Idx → Elt F .i32) (ix3 0 0 r) = V m c main_v0 (ix3 b 0 r) := by
  unfold iblk
  show V m c main_v0 _ = _
  congr 1
  funext a
  apply Fin.ext
  fin_cases a
  · show cc0_transform_2 (coords m hO t) 0 * 1 + 1 * 0 = b.val
    rw [tr2 _ (by rw [coord_val]; omega), coord_val, hb]; omega
  · rfl
  · show 0 * 256 + 1 * r.val = r.val; omega

/-- The expert a block's word names. -/
theorem tr_at (i : grid0.Coords) : (tbl m).at 0 (Rect.unit (s := S160) ![(Scalar.indexCast (BitVec.ofNat 32 (i 0).val) : Index).toNat] S1.size (k0_off1_inb i)) numel1_S1
    = be m 0 (ix1 (i 0)) := congrArg (be m 0) (off1_emb i _)

theorem tr4 (i : grid0.Coords) : cc0_transform_4 k0_off1_inb numel1_S1 (tbl m) i = ![0, (be m 0 (ix1 (i 0)) : BitVec 32).toNat, 0, 0] := by
  rw [← tr_at m i]; rfl
theorem tr5 (i : grid0.Coords) : cc0_transform_5 k0_off1_inb numel1_S1 (tbl m) i = ![0, (be m 0 (ix1 (i 0)) : BitVec 32).toNat, 0, 0] := by
  rw [← tr_at m i]; rfl
theorem tr6 (i : grid0.Coords) : cc0_transform_6 k0_off1_inb numel1_S1 (tbl m) i = ![0, (be m 0 (ix1 (i 0)) : BitVec 32).toNat, 0, 0] := by
  rw [← tr_at m i]; rfl

include hO in
theorem expert_lt (b : Fin 160) : (be m 0 (ix1 b) : BitVec 32).toNat < 32 := by
  obtain ⟨i, hi⟩ : ∃ i : grid0.Coords, i 0 = b := ⟨grid0.coords ⟨b.val, by rw [N_0]; exact b.isLt⟩, Fin.ext (coord_all _)⟩
  obtain ⟨h, -⟩ := hO.1 i
  have h1 : (cc0_transform_4 k0_off1_inb numel1_S1 (tbl m) i 1 + 1) * 1 ≤ 32 := h 1
  rw [tr4, hi] at h1
  have h2 : ((be m 0 (ix1 b) : BitVec 32).toNat + 1) * 1 ≤ 32 := h1
  omega

def expert (b : Fin 160) : Fin 32 := ⟨_, expert_lt m hO b⟩

theorem iblk3 (c : Dev nD) (t : Fin (cfgM m hO).N) (a : Fin 2048) (b : Fin 512) :
    (iblk m hO c 3 t : S1x1x2048x512.Idx → Elt F .f32) (ix4 0 0 a b) = V m c main_arg4 (ix4 0 (expert m hO ((coords m hO t) 0)) a b) := by
  unfold iblk
  show V m c main_arg4 _ = _
  congr 1
  funext k
  apply Fin.ext
  have h := tr4 m (coords m hO t)
  fin_cases k
  · show cc0_transform_4 k0_off1_inb numel1_S1 (tbl m) (coords m hO t) 0 * 1 + 1 * 0 = 0
    rw [h]; rfl
  · show cc0_transform_4 k0_off1_inb numel1_S1 (tbl m) (coords m hO t) 1 * 1 + 1 * 0 = (be m 0 (ix1 ((coords m hO t) 0)) : BitVec 32).toNat
    rw [h]; show _ * 1 + 1 * 0 = _; rw [Nat.mul_one]; rfl
  · show cc0_transform_4 k0_off1_inb numel1_S1 (tbl m) (coords m hO t) 2 * 2048 + 1 * a.val = a.val
    rw [h]; show 0 * 2048 + 1 * a.val = a.val; omega
  · show cc0_transform_4 k0_off1_inb numel1_S1 (tbl m) (coords m hO t) 3 * 512 + 1 * b.val = b.val
    rw [h]; show 0 * 512 + 1 * b.val = b.val; omega

theorem iblk4 (c : Dev nD) (t : Fin (cfgM m hO).N) (a : Fin 2048) (b : Fin 512) :
    (iblk m hO c 4 t : S1x1x2048x512.Idx → Elt F .f32) (ix4 0 0 a b) = V m c main_arg5 (ix4 0 (expert m hO ((coords m hO t) 0)) a b) := by
  unfold iblk
  show V m c main_arg5 _ = _
  congr 1
  funext k
  apply Fin.ext
  have h := tr5 m (coords m hO t)
  fin_cases k
  · show cc0_transform_5 k0_off1_inb numel1_S1 (tbl m) (coords m hO t) 0 * 1 + 1 * 0 = 0
    rw [h]; rfl
  · show cc0_transform_5 k0_off1_inb numel1_S1 (tbl m) (coords m hO t) 1 * 1 + 1 * 0 = (be m 0 (ix1 ((coords m hO t) 0)) : BitVec 32).toNat
    rw [h]; show _ * 1 + 1 * 0 = _; rw [Nat.mul_one]; rfl
  · show cc0_transform_5 k0_off1_inb numel1_S1 (tbl m) (coords m hO t) 2 * 2048 + 1 * a.val = a.val
    rw [h]; show 0 * 2048 + 1 * a.val = a.val; omega
  · show cc0_transform_5 k0_off1_inb numel1_S1 (tbl m) (coords m hO t) 3 * 512 + 1 * b.val = b.val
    rw [h]; show 0 * 512 + 1 * b.val = b.val; omega

theorem iblk5 (c : Dev nD) (t : Fin (cfgM m hO).N) (a : Fin 512) (b : Fin 2048) :
    (iblk m hO c 5 t : S1x1x512x2048.Idx → Elt F .f32) (ix4 0 0 a b) = V m c main_arg6 (ix4 0 (expert m hO ((coords m hO t) 0)) a b) := by
  unfold iblk
  show V m c main_arg6 _ = _
  congr 1
  funext k
  apply Fin.ext
  have h := tr6 m (coords m hO t)
  fin_cases k
  · show cc0_transform_6 k0_off1_inb numel1_S1 (tbl m) (coords m hO t) 0 * 1 + 1 * 0 = 0
    rw [h]; rfl
  · show cc0_transform_6 k0_off1_inb numel1_S1 (tbl m) (coords m hO t) 1 * 1 + 1 * 0 = (be m 0 (ix1 ((coords m hO t) 0)) : BitVec 32).toNat
    rw [h]; show _ * 1 + 1 * 0 = _; rw [Nat.mul_one]; rfl
  · show cc0_transform_6 k0_off1_inb numel1_S1 (tbl m) (coords m hO t) 2 * 512 + 1 * a.val = a.val
    rw [h]; show 0 * 512 + 1 * a.val = a.val; omega
  · show cc0_transform_6 k0_off1_inb numel1_S1 (tbl m) (coords m hO t) 3 * 2048 + 1 * b.val = b.val
    rw [h]; show 0 * 2048 + 1 * b.val = b.val; omega

/-- An index of a block of unit leading axes, by its last two. -/
theorem idx4 {p q : ℕ} (y : (⟨4, ![1, 1, p, q]⟩ : Shape).Idx) : y = ix4 0 0 (y 2) (y 3) := by
  funext a; fin_cases a
  · exact Subsingleton.elim (α := Fin 1) _ _
  · exact Subsingleton.elim (α := Fin 1) _ _
  · rfl
  · rfl

/-- Blocks of one expert find the same weights. -/
theorem weights_same (c : Dev nD) (t t' : Fin (cfgM m hO).N) (h : be m 0 (ix1 ((coords m hO t) 0)) = be m 0 (ix1 ((coords m hO t') 0))) :
    (iblk m hO c 3 t : S1x1x2048x512.Idx → Elt F .f32) = iblk m hO c 3 t'
      ∧ (iblk m hO c 4 t : S1x1x2048x512.Idx → Elt F .f32) = iblk m hO c 4 t'
      ∧ (iblk m hO c 5 t : S1x1x512x2048.Idx → Elt F .f32) = iblk m hO c 5 t' := by
  have he : expert m hO ((coords m hO t) 0) = expert m hO ((coords m hO t') 0) := by
    unfold expert; simp only [h]
  refine ⟨?_, ?_, ?_⟩
  · funext y; rw [idx4 y]; exact (iblk3 m hO c t _ _).trans (by rw [he]; exact (iblk3 m hO c t' _ _).symm)
  · funext y; rw [idx4 y]; exact (iblk4 m hO c t _ _).trans (by rw [he]; exact (iblk4 m hO c t' _ _).symm)
  · funext y; rw [idx4 y]; exact (iblk5 m hO c t _ _).trans (by rw [he]; exact (iblk5 m hO c t' _ _).symm)

/-- The tokens' window at a point names the block's tokens, the next two likewise while blocks are left. -/
theorem T_at (c : Dev nD) (hF : Fits m c) (b : Fin 160) (r : Fin 256) : (V m c main_v0 (ix3 b 0 r) : BitVec 32).toNat = (T m c b.val r).val := by
  unfold T
  rw [dif_pos b.isLt]
  exact (Nat.mod_eq_of_lt (hF.tok b r)).symm

end Cert.Proof.ExIdeal
-- ==== Proof.ExIdealInv.lean ====
module

public import proofs.«01_k».proof.Proof.ExIdealData
public import Idealize.ShloMosaic.Lib.PageRing.Basic

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The buffer as its rows, the token array as its shares -/

section Split

variable (c : Dev nD) (x : S16384x2048.Idx → Elt F .f32)

theorem sl_disjoint (p p' : Fin 3) (h : p ≠ p') : Disjoint (slset p) (slset p') := by
  rw [Finset.disjoint_left]
  intro z hz hz'
  rw [mem_slset] at hz hz'
  exact h (Fin.ext (hz.symm.trans hz'))

theorem sl_cover : Finset.univ.biUnion slset = (Finset.univ : Finset S3x256x2048.Idx) := by
  ext z
  rw [Finset.mem_biUnion]
  exact ⟨fun _ => Finset.mem_univ _, fun _ => ⟨(z 0 : Fin 3), Finset.mem_univ _, (mem_slset _ _).2 rfl⟩⟩

theorem rows_cover (p : Fin 3) : Finset.univ.biUnion (rset p) = slset p := by
  ext z
  rw [Finset.mem_biUnion, mem_slset]
  constructor
  · rintro ⟨r, -, hr⟩
    exact ((mem_rset p r z).1 hr).1
  · intro hz
    exact ⟨(z 1 : Fin 256), Finset.mem_univ _, (mem_rset _ _ _).2 ⟨hz, rfl⟩⟩

/-- The buffer whole is the three slots' rows. -/
theorem rows_split (f : S3x256x2048.Idx → Elt F .f32) :
    (((c : Thread nD τ).loc cc0_scratch0) ↦{fullShare} f : sProp 𝕄)
      ⊢ iprop(bigSep Finset.univ (rowAny (F := F) c 0) ∗ bigSep Finset.univ (rowAny (F := F) c 1) ∗ bigSep Finset.univ (rowAny (F := F) c 2)) := by
  have h := Ring.pointsTo_blocks (nD := nD) (τ := τ) (sig := sig) (Val := Elt F) (Ix := Unit) (Name := ℕ) (U := Pipeline.UD sig nD τ) (Lvl := ℕ)
    (ℓ := bufM.view.loc (c : Thread nD τ)) slset (fun p p' h => sl_disjoint p p' h) sl_cover (q := fullShare) f
  have hp (p : Fin 3) : (bufM.view.loc (c : Thread nD τ) ↦[slset p]{fullShare} f : sProp 𝕄) ⊢ bigSep Finset.univ (rowAny (F := F) c p) := by
    rw [Ring.pointsTo_sub_blocks (nD := nD) (τ := τ) (sig := sig) (Val := Elt F) (Ix := Unit) (Name := ℕ) (U := Pipeline.UD sig nD τ) (Lvl := ℕ)
      (ℓ := bufM.view.loc (c : Thread nD τ)) (rset p) (fun r r' h => rset_disjoint p r r' h) (slset p) (rows_cover p) (q := fullShare) f]
    refine BI.bigSep_mono fun r _ => ?_
    show (bufM.view.loc (c : Thread nD τ) ↦[rset p r]{fullShare} f : sProp 𝕄) ⊢ rowAny (F := F) c p r
    unfold rowAny
    iintro H; iexists f; iexact H
  rw [← Ring.bigSep_fin3 (fun p => bigSep Finset.univ (rowAny (F := F) c p))]
  exact (Entails.of_eq h).trans (BI.bigSep_mono fun p _ => hp p)

/-- and the rows join to the buffer at some contents. -/
theorem rows_join (f₀ : S3x256x2048.Idx → Elt F .f32) :
    iprop(bigSep Finset.univ (rowAny (F := F) c 0) ∗ bigSep Finset.univ (rowAny (F := F) c 1) ∗ bigSep Finset.univ (rowAny (F := F) c 2))
      ⊢ (iprop(∃ f : Buf (Elt F) ((c : Thread nD τ).loc cc0_scratch0), ((c : Thread nD τ).loc cc0_scratch0) ↦{fullShare} f) : sProp 𝕄) := by
  have h := Ring.pointsTo_blocks_join_exists (nD := nD) (τ := τ) (sig := sig) (Val := Elt F) (Ix := Unit) (Name := ℕ) (U := Pipeline.UD sig nD τ) (Lvl := ℕ)
    (ℓ := bufM.view.loc (c : Thread nD τ)) slset (fun p p' h => sl_disjoint p p' h) sl_cover (q := fullShare) f₀
  have hp (p : Fin 3) : bigSep Finset.univ (rowAny (F := F) c p) ⊢ (iprop(∃ f, bufM.view.loc (c : Thread nD τ) ↦[slset p]{fullShare} f) : sProp 𝕄) :=
    Ring.pointsTo_sub_blocks_join_exists (nD := nD) (τ := τ) (sig := sig) (Val := Elt F) (Ix := Unit) (Name := ℕ) (U := Pipeline.UD sig nD τ) (Lvl := ℕ)
      (ℓ := bufM.view.loc (c : Thread nD τ)) (rset p) (fun r r' h => rset_disjoint p r r' h) (slset p) (rows_cover p) (q := fullShare) f₀
  rw [← Ring.bigSep_fin3 (fun p => bigSep Finset.univ (rowAny (F := F) c p))]
  exact (BI.bigSep_mono fun p _ => hp p).trans h

/-- The share of the token array that is never lent. -/
def kept : sProp 𝕄 := xM.view.loc (c : Thread nD τ) ↦{Transfers.shareDrop fullShare 768} x

/-- The token array whole is what is kept and a token for every row. -/
theorem toks_split : (((c : Thread nD τ).loc main_arg0) ↦{fullShare} x : sProp 𝕄)
    ⊣⊢ iprop(kept c x ∗ bigSep Finset.univ (tokAll c x 0) ∗ bigSep Finset.univ (tokAll c x 1) ∗ bigSep Finset.univ (tokAll c x 2)) := by
  have h := PageRing.toks_by_cell (F := F) (nD := nD) (τ := τ) (sig := sig) (U := Pipeline.UD sig nD τ) (Lvl := ℕ)
    (ℓ := xM.view.loc (c : Thread nD τ)) (S := Finset.univ) (f := x) fullShare 3 256
  have e (p : Fin 3) : (bigSep (Finset.range 256) (fun r => (xM.view.loc (c : Thread nD τ) ↦[Finset.univ]{Transfers.shareTokN fullShare (256 * p.val + r)} x : sProp 𝕄)) : sProp 𝕄)
      = bigSep Finset.univ (tokAll c x p) :=
    (Ring.bigSep_fin_eq_range 256 (tokAll c x p) _ fun t ht => by unfold tokAll tk; rw [Nat.mul_comm]).symm
  rw [← Ring.bigSep_fin_eq_range 3 (fun p => bigSep Finset.univ (tokAll c x p)) _ (fun t ht => e ⟨t, ht⟩), Ring.bigSep_fin3] at h
  exact h

end Split

/-! ## What holds between points -/

section Inv

variable (m : (ℓ : Loc nD τ sig) → Buf (Elt F) ℓ) (hO : Ok m)

/-- The two tables, at the share the kernel reads them with. -/
def tables (c : Dev nD) : sProp 𝕄 :=
  iprop(owns (c : Thread nD τ) (Memref.whole main_arg2) fullShare.right (be m c) ∗ owns (c : Thread nD τ) (Memref.whole main_arg3) fullShare.right (nb m c))

/-- The rounded weights are those of the block before point `t`. -/
def Fresh (c : Dev nD) (t : ℕ) (sg su : S2048x512.Idx → Elt F .bf16) (sd : S512x2048.Idx → Elt F .bf16) : Prop :=
  ∀ u : Fin (cfgM m hO).N, u.val + 1 = t → sg = k0_pay1 (iblk m hO c 3 u) ∧ su = k0_pay2 (iblk m hO c 4 u) ∧ sd = k0_pay3 (iblk m hO c 5 u)

/-- Before point `t`: the tables, the rounded weights of the block before, the array's kept share, and the slots. -/
def inv (c : Dev nD) (t : ℕ) : sProp 𝕄 :=
  iprop(tables m c ∗ (∃ r, prngReg c r) ∗ (∃ sg su sd, ⌜Fresh m hO c t sg su sd⌝ ∗ copies c sg su sd)
    ∗ kept c (V m c main_arg0) ∗ ring c (V m c main_arg0) (T m c) (NB m c) t)

end Inv

end Cert.Proof.ExIdeal
-- ==== Proof.ExIdealFrame.lean ====
module

public import proofs.«01_k».proof.Proof.ExIdealInv
public import proofs.«01_k».proof.Proof.Gen.ExIdeal.Launch
public import Idealize.ShloMosaic.Lib.Pipeline.Kit
public import Idealize.ShloMosaic.Lib.Pipeline.Frame

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hO : Ok m)

/-! ## The launch's data -/

def dats (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outB (V m c main_arg0) (T m c ((coords m hO t) 0).val) (iblk m hO c 3 t) (iblk m hO c 4 t) (iblk m hO c 5 t) (((coords m hO t) 0).val < NB m c)
  Φ t := inv m hO c t.val
  q w := Pipeline.shareOf spec0 w
  owed _ := 0

theorem A_eq (c : Dev nD) (w : Fin (cfgM m hO).W) : (dats m hO 0 c).A w = V m c (Pipeline.arrRef spec0 w) := by
  dsimp only [dats]

section Blocks

variable (c : Dev nD) (t : Fin (cfgM m hO).N)

theorem after0 : (dats m hO 0 c).after 0 t = iblk m hO c 0 t := rfl
theorem after1 : (dats m hO 0 c).after 1 t = iblk m hO c 1 t := rfl
theorem after2 : (dats m hO 0 c).after 2 t = iblk m hO c 2 t := rfl
theorem after3 : (dats m hO 0 c).after 3 t = iblk m hO c 3 t := rfl
theorem after4 : (dats m hO 0 c).after 4 t = iblk m hO c 4 t := rfl
theorem after5 : (dats m hO 0 c).after 5 t = iblk m hO c 5 t := rfl
theorem after6 : (dats m hO 0 c).after 6 t
    = outB (V m c main_arg0) (T m c ((coords m hO t) 0).val) (iblk m hO c 3 t) (iblk m hO c 4 t) (iblk m hO c 5 t) (((coords m hO t) 0).val < NB m c) := rfl

/-! An input's staging buffer holds its block, fetched there or not. -/

theorem before0 (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (d) : (dats m hO 0 c).before 5 t d = iblk m hO c 5 t :=
  ((dats m hO 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Blocks

/-! ## The body at a point -/

/-- At every point the result's block is written, by one branch or the other. -/
theorem written (i : grid0.Coords) (v : BitVec 32) : (!(k0_cond5 i v == 1#1) && !(k0_cond6 i v == 1#1)) = false := by
  rw [show k0_cond5 i v = _ from bit_word _, show k0_cond6 i v = _ from bit_word _]
  show (!(BitVec.ofBool (BitVec.slt (BitVec.ofNat 32 (i 0).val) v) == 1#1) && !(BitVec.ofBool (BitVec.sle v (BitVec.ofNat 32 (i 0).val)) == 1#1)) = false
  have h : BitVec.slt (BitVec.ofNat 32 (i 0).val) v = !(BitVec.sle v (BitVec.ofNat 32 (i 0).val)) := by
    rw [Bool.eq_iff_iff, Bool.not_eq_true', ← Bool.not_eq_true, BitVec.slt_iff_toInt_lt, BitVec.sle_iff_toInt_le]; omega
  rw [h]
  cases BitVec.sle v (BitVec.ofNat 32 (i 0).val) <;> rfl

section Body

variable (c : Dev nD) (t : Fin (cfgM m hO).N)

theorem idle6 : (cfgM m hO).idle 6 ((cfgM m hO).grid.coords t) = false := written _ _

abbrev st (w : Fin (cfgM m hO).W) := ((cfgM m hO).win w).stage ((cfgM m hO).slots t w)

/-- What the body finds at a point. -/
def entry : sProp 𝕄 :=
  iprop((dats m hO 0 c).Φ t.castSucc ∗ (dats m hO 0 c).owesAt () t.castSucc
    ∗ (∃ d, owns (c : Thread nD τ) (st m hO t 0) fullShare ((dats m hO 0 c).before 0 t d))
    ∗ (∃ d, owns (c : Thread nD τ) (st m hO t 1) fullShare ((dats m hO 0 c).before 1 t d))
    ∗ (∃ d, owns (c : Thread nD τ) (st m hO t 2) fullShare ((dats m hO 0 c).before 2 t d))
    ∗ (∃ d, owns (c : Thread nD τ) (st m hO t 3) fullShare ((dats m hO 0 c).before 3 t d))
    ∗ (∃ d, owns (c : Thread nD τ) (st m hO t 4) fullShare ((dats m hO 0 c).before 4 t d))
    ∗ (∃ d, owns (c : Thread nD τ) (st m hO t 5) fullShare ((dats m hO 0 c).before 5 t d))
    ∗ (∃ d, owns (c : Thread nD τ) (st m hO t 6) fullShare ((dats m hO 0 c).before 6 t d)))

/-- What it leaves there. -/
def exit : sProp 𝕄 :=
  iprop((dats m hO 0 c).Φ t.succ ∗ (dats m hO 0 c).owesAt () t.succ
    ∗ owns (c : Thread nD τ) (st m hO t 0) fullShare ((dats m hO 0 c).after 0 t)
    ∗ owns (c : Thread nD τ) (st m hO t 1) fullShare ((dats m hO 0 c).after 1 t)
    ∗ owns (c : Thread nD τ) (st m hO t 2) fullShare ((dats m hO 0 c).after 2 t)
    ∗ owns (c : Thread nD τ) (st m hO t 3) fullShare ((dats m hO 0 c).after 3 t)
    ∗ owns (c : Thread nD τ) (st m hO t 4) fullShare ((dats m hO 0 c).after 4 t)
    ∗ owns (c : Thread nD τ) (st m hO t 5) fullShare ((dats m hO 0 c).after 5 t)
    ∗ owns (c : Thread nD τ) (st m hO t 6) fullShare ((dats m hO 0 c).after 6 t))

/-- The body's call at a point. -/
def bodyAt : Prog (TpuEff nD τ sig (Elt F) Λ₀ .tc) PUnit :=
  cc0_moe_experts (F := F) (coords m hO t) (Memref.whole main_arg2) (Memref.isWhole_whole _) (Memref.whole main_arg3) (Memref.isWhole_whole _)
    (st m hO t 0) (hstage0_0 (((cfgM m hO).slots t 0).cast nbuf0_0)) (st m hO t 1) (hstage0_1 (((cfgM m hO).slots t 1).cast nbuf0_1))
    (st m hO t 2) (hstage0_2 (((cfgM m hO).slots t 2).cast nbuf0_2)) xM (Memref.isWhole_whole _)
    (st m hO t 3) (hstage0_3 (((cfgM m hO).slots t 3).cast nbuf0_3)) (st m hO t 4) (hstage0_4 (((cfgM m hO).slots t 4).cast nbuf0_4))
    (st m hO t 5) (hstage0_5 (((cfgM m hO).slots t 5).cast nbuf0_5)) (st m hO t 6) (hstage0_6 (((cfgM m hO).slots t 6).cast nbuf0_6))
    bufM (Memref.isWhole_whole _) (Memref.whole cc0_scratch1) (Memref.isWhole_whole _) (Memref.whole cc0_scratch2) (Memref.isWhole_whole _)
    (Memref.whole cc0_scratch3) (Memref.isWhole_whole _) cc0_scratch4

theorem owes_elim (u : Fin ((cfgM m hO).N + 1)) : (dats m hO 0 c).owesAt () u ⊢ (iprop(∃ W, owes (c : Thread nD τ) 0 W) : sProp 𝕄) := by
  unfold Pipeline.Dat.owesAt Pipeline.owesWithin
  rw [show (dats m hO 0 c).owed u = 0 from rfl]
  iintro ⟨%W, -, HO⟩; iexists W; iexact HO

theorem owes_intro (u : Fin ((cfgM m hO).N + 1)) : (iprop(∃ W, owes (c : Thread nD τ) 0 W) : sProp 𝕄) ⊢ (dats m hO 0 c).owesAt () u := by
  unfold Pipeline.Dat.owesAt Pipeline.owesWithin Pipeline.Dat.bound
  rw [show (dats m hO 0 c).owed u = 0 from rfl, show (dats m hO 0 c).recorded u = Set.univ from rfl]
  iintro ⟨%W, HO⟩; iexists W; isplitr
  · ipureintro; exact fun _ _ => Or.inl trivial
  iexact HO

/-- Where a block's expert is the block before's, the rounded weights are already its own. -/
theorem kept_weights (sg su : S2048x512.Idx → Elt F .bf16) (sd : S512x2048.Idx → Elt F .bf16) (hfr : Fresh m hO c t.val sg su sd) (h0 : t.val ≠ 0)
    (h : be m c (ix1 ((coords m hO t) 0)) = be m c (ix1 (prev (coords m hO t)))) :
    sg = k0_pay1 (iblk m hO c 3 t) ∧ su = k0_pay2 (iblk m hO c 4 t) ∧ sd = k0_pay3 (iblk m hO c 5 t) := by
  obtain rfl : c = 0 := Subsingleton.elim _ _
  have hu : t.val - 1 < (cfgM m hO).N := lt_of_le_of_lt (Nat.sub_le _ _) t.isLt
  obtain ⟨h1, h2, h3⟩ := hfr ⟨t.val - 1, hu⟩ (by show t.val - 1 + 1 = t.val; omega)
  have hp : prev (coords m hO t) = (coords m hO ⟨t.val - 1, hu⟩) 0 := by
    apply Fin.ext
    show ((coords m hO t) 0).val - 1 = _
    rw [coord_val, coord_val]
  rw [hp] at h
  obtain ⟨e1, e2, e3⟩ := weights_same m hO 0 t ⟨t.val - 1, hu⟩ h
  refine ⟨h1.trans (congrArg k0_pay1 e1.symm), h2.trans (congrArg k0_pay2 e2.symm), h3.trans (congrArg k0_pay3 e3.symm)⟩

theorem row : defs₀ (F := F) .tc (cfgM m hO).body ((cfgM m hO).bodyArgs t ((cfgM m hO).slots t)) = bodyAt m hO t := by
  unfold defs₀; rw [Defs.onTc_tc]; rfl

theorem sound_body (hF : Fits m c) :
    entry m hO c t ⊢ wp frame (wpE (defs₀ (F := F)) Variants.none (c : Thread nD τ) none) Set.univ (bodyAt m hO t) (fun _ => exit m hO c t) := by
  unfold entry exit bodyAt
  simp only [before0, before1, before2, before3, before4, before5]
  rw [show (dats m hO 0 c).Φ t.succ = inv m hO c (t.val + 1) from rfl, show (dats m hO 0 c).Φ t.castSucc = inv m hO c t.val from rfl,
    after0, after1, after2, after3, after4, after5, after6]
  unfold inv tables
  have hc := coord_val m hO t
  have ht : t.val < 160 := by rw [← hc]; exact ((coords m hO t) 0).isLt
  iintro ⟨⟨⟨H1, H2⟩, Hr, ⟨%sg, %su, %sd, %hfr, HC⟩, HK, HR⟩, HO, ⟨%d0, W0⟩, ⟨%d1, W1⟩, ⟨%d2, W2⟩, ⟨%d3, W3⟩, ⟨%d4, W4⟩, ⟨%d5, W5⟩, ⟨%d6, W6⟩⟩
  rw [← hc]
  iapply (sound_kernel (coords m hO t) (Memref.whole main_arg2) (Memref.isWhole_whole _) (Memref.whole main_arg3) (Memref.isWhole_whole _)
    _ _ _ _ _ _ _ _ _ _ _ _ _ _ c (V m c main_arg0) fullShare.right fullShare.right (be m c) (nb m c)
    (iblk m hO c 0 t) (iblk m hO c 1 t) (iblk m hO c 2 t) (iblk m hO c 3 t) (iblk m hO c 4 t) (iblk m hO c 5 t) sg su sd (T m c) (NB m c) rfl hF.le hF.pos
    (fun r => (congrArg (fun w : BitVec 32 => w.toNat) (iblk0 m hO c t r ⟨t.val, ht⟩ rfl)).trans ((T_at m c hF ⟨t.val, ht⟩ r).trans (by rw [hc])))
    (fun h r => (congrArg (fun w : BitVec 32 => w.toNat) (iblk1 m hO c t r ⟨t.val + 1, by have := hF.le; omega⟩ rfl)).trans
      ((T_at m c hF ⟨t.val + 1, by have := hF.le; omega⟩ r).trans (by rw [hc])))
    (fun h r => (congrArg (fun w : BitVec 32 => w.toNat) (iblk2 m hO c t r ⟨t.val + 2, by have := hF.le; omega⟩ rfl)).trans
      ((T_at m c hF ⟨t.val + 2, by have := hF.le; omega⟩ r).trans (by rw [hc])))
    (fun h0 h => kept_weights m hO c t _ _ _ hfr (by omega) h) _)
  isplitl [H1]; · iexact H1
  isplitl [H2]; · iexact H2
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [HC]; · iexact HC
  isplitl [HR]; · iexact HR
  isplitl [HO]; · iapply (owes_elim m hO c t.castSucc); iexact HO
  iintro ⟨H1, H2, W0, W1, W2, W3, W4, W5, W6, HC, HR, HO⟩
  isplitl [H1 H2 Hr HC HK HR]
  · isplitl [H1 H2]
    · isplitl [H1]; · iexact H1
      iexact H2
    isplitl [Hr]; · iexact Hr
    isplitl [HC]
    · iexists (k0_pay1 (iblk m hO c 3 t)), (k0_pay2 (iblk m hO c 4 t)), (k0_pay3 (iblk m hO c 5 t))
      isplitr
      · ipureintro
        intro u hu
        have e : u = t := Fin.ext (by omega)
        rw [e]
        exact ⟨rfl, rfl, rfl⟩
      iexact HC
    isplitl [HK]; · iexact HK
    iexact HR
  isplitl [HO]; · iapply (owes_intro m hO c t.succ); iexact HO
  isplitl [W0]; · iexact W0
  isplitl [W1]; · iexact W1
  isplitl [W2]; · iexact W2
  isplitl [W3]; · iexact W3
  isplitl [W4]; · iexact W4
  isplitl [W5]; · iexact W5
  iexact W6

end Body

theorem obligation (c : Dev nD) (hF : Fits m c) : BodyObligation (dats (F := F) m hO 0 c) (defs₀ (F := F)) Variants.none () Set.univ := fun t => by
  rw [bigSep_W0, bigSep_W0, row]
  refine triple_restated (sound_body m hO c t hF) rfl .rfl fun _ => ?_
  rw [idle6]
  exact .rfl

end Cert.Proof.ExIdeal
-- ==== Proof.ExIdealEnds.lean ====
module

public import proofs.«01_k».proof.Proof.ExIdealInv
public import proofs.«01_k».proof.Proof.Gen.ExIdeal.Launch
public import Idealize.ShloMosaic.Lib.Pipeline.Kit
public import Idealize.ShloMosaic.Lib.Pipeline.Frame

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hO : Ok m)

/-! ## The launch's ends: what it hands over is the invariant before the first point, and the last gives it back -/

/-- The three counters of the slots. -/
abbrev osem0 : Fin 3 → SemLoc sig := fun j => (![SemLoc.dma 14, SemLoc.dma 15, SemLoc.dma 16]) j
theorem ownSemFacts0 : Pipeline.OwnSemFacts spec0 osem0 := by decide
theorem cell_eq : ∀ p : Fin 3, osem0 p = SemLoc.dma (cellM p) := by decide
/-- The array the kernel reads by its own transfers. -/
abbrev H0 : Finset (Ref sig .tc) := {main_arg0}
theorem H0_sub : H0 ⊆ Pipeline.restRefsP sig pre0 spec0 := by decide

theorem tables_eq (c : Dev nD) : (Pipeline.ΦT pre0 (tbl m) c : sProp 𝕄) = tables m c := by
  obtain rfl : c = 0 := Subsingleton.elim _ _
  unfold Pipeline.ΦT Pipeline.prefHeld
  rw [show (Finset.univ : Finset (Fin 2)) = insert (0 : Fin 2) {(1 : Fin 2)} from by decide, bigSep_insert (by decide), bigSep_singleton]
  unfold tables
  rw [owns_whole, owns_whole]
  rfl

theorem held_eq (c : Dev nD) : (Pipeline.ΦD (τ := τ) osem0 spec0 H0 (V m) c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ∗ (∃ r, prngReg c r)
      ∗ (semVal ((c : Thread nD τ), SemLoc.dma (cellM 0)) 0 ∗ semVal ((c : Thread nD τ), SemLoc.dma (cellM 1)) 0 ∗ semVal ((c : Thread nD τ), SemLoc.dma (cellM 2)) 0)
      ∗ (((c : Thread nD τ).loc main_arg0) ↦{fullShare} V m c main_arg0)) := by
  rw [Pipeline.ΦD_eq, scopedRest0_eq, Pipeline.ownSems0_eq_of_list c osem0 [0, 1, 2] (by decide) (by decide), ← cell_eq 0, ← cell_eq 1, ← cell_eq 2, bigSep_singleton]
  rfl

theorem ring_free (c : Dev nD) (x : S16384x2048.Idx → Elt F .f32) (Tf : ℕ → Fin 256 → Fin 16384) (n t : ℕ) (h : t = 0 ∨ n ≤ t) :
    ring c x Tf n t = iprop(slotFree c x (sl t) ∗ slotFree c x (sl (t + 1)) ∗ slotFree c x (sl (t + 2))) := by
  unfold ring
  rw [slot_neg c x Tf _ _ (by omega), slot_neg c x Tf _ _ (by omega), slot_neg c x Tf _ _ (fun h => h)]

theorem enter (c : Dev nD) : iprop(Pipeline.ΦD (τ := τ) osem0 spec0 H0 (V m) c ∗ Pipeline.ΦT pre0 (tbl m) c) ⊢ inv m hO c 0 := by
  rw [tables_eq, held_eq]
  unfold inv copies
  rw [ring_free c _ _ _ _ (Or.inl rfl), show sl 0 = 0 from rfl, show sl (0 + 1) = 1 from rfl, show sl (0 + 2) = 2 from rfl]
  unfold slotFree
  iintro ⟨⟨⟨⟨%f0, H0⟩, ⟨%f1, H1⟩, ⟨%f2, H2⟩, ⟨%f3, H3⟩⟩, Hr, ⟨Hs0, Hs1, Hs2⟩, Hx⟩, Ht⟩
  ihave HR := (rows_split c f0) $$ H0
  icases HR with ⟨HR0, HR1, HR2⟩
  ihave HT := (toks_split c (V m c main_arg0)).1 $$ Hx
  icases HT with ⟨HK, HT0, HT1, HT2⟩
  isplitl [Ht]; · iexact Ht
  isplitl [Hr]; · iexact Hr
  isplitl [H1 H2 H3]
  · iexists f1, f2, f3
    isplitr
    · ipureintro; intro u hu; exact absurd hu (by omega)
    rw [owns_whole, owns_whole, owns_whole]
    isplitl [H1]; · iexact H1
    isplitl [H2]; · iexact H2
    iexact H3
  isplitl [HK]; · iexact HK
  isplitl [Hs0 HR0 HT0]
  · isplitl [Hs0]; · iexact Hs0
    isplitl [HR0]; · iexact HR0
    iexact HT0
  isplitl [Hs1 HR1 HT1]
  · isplitl [Hs1]; · iexact Hs1
    isplitl [HR1]; · iexact HR1
    iexact HT1
  isplitl [Hs2]; · iexact Hs2
  isplitl [HR2]; · iexact HR2
  iexact HT2

theorem leave (c : Dev nD) (hF : Fits m c) : inv m hO c 160 ⊢ Pipeline.ΦD (τ := τ) osem0 spec0 H0 (V m) c := by
  rw [held_eq]
  unfold inv copies
  rw [ring_free c _ _ _ _ (Or.inr hF.le), show sl 160 = 1 from rfl, show sl (160 + 1) = 2 from rfl, show sl (160 + 2) = 0 from rfl]
  unfold slotFree
  simp only [owns_whole]
  iintro ⟨Ht, Hr, ⟨%sg, %su, %sd, -, H1, H2, H3⟩, HK, ⟨Hs1, HR1, HT1⟩, ⟨Hs2, HR2, HT2⟩, ⟨Hs0, HR0, HT0⟩⟩
  isplitl [H1 H2 H3 HR0 HR1 HR2]
  · isplitl [HR0 HR1 HR2]
    · iapply (rows_join c fun _ => FloatOps.ofBits .f32 0#32)
      isplitl [HR0]; · iexact HR0
      isplitl [HR1]; · iexact HR1
      iexact HR2
    isplitl [H1]; · iexists sg; iexact H1
    isplitl [H2]; · iexists su; iexact H2
    iexists sd; iexact H3
  isplitl [Hr]; · iexact Hr
  isplitl [Hs0 Hs1 Hs2]
  · isplitl [Hs0]; · iexact Hs0
    isplitl [Hs1]; · iexact Hs1
    iexact Hs2
  iapply (toks_split c (V m c main_arg0)).2
  isplitl [HK]; · iexact HK
  isplitl [HT0]; · iexact HT0
  isplitl [HT1]; · iexact HT1
  iexact HT2

end Cert.Proof.ExIdeal
-- ==== Proof.ExIdealRun.lean ====
module

public import proofs.«01_k».proof.Proof.ExIdealFrame
public import proofs.«01_k».proof.Proof.ExIdealEnds
public import proofs.«01_k».proof.Proof.Gen.ExIdeal.Launch
public import Idealize.ShloMosaic.Lib.Pipeline.Kit
public import Idealize.ShloMosaic.Lib.Pipeline.Frame

@[expose] public section

set_option maxRecDepth 16384

noncomputable section

namespace Cert.Proof.ExIdeal

open Cert.ExIdeal Cert.ExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hO : Ok m)

/-! ## The run -/

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

set_option backward.isDefEq.respectTransparency.types false in
set_option maxHeartbeats 800000 in
/-- Every run ends, with the arrays at what the launch's data says and every counter at zero. -/
theorem run_quiet (hF : ∀ c, Fits m c) : θ_run defs (onTc (τ := τ) (main (F := F))) (s₀ m ρ)
    (fun r => Pipeline.FramePost (Pipeline.pin pcfgs (fun _ => adm m hO)) (dats m hO) 0 (V m) r ∧ r.2.sem = fun _ => 0) :=
  Pipeline.θ_run_frameP_dma_shared (Q' := _) pcfgs (fun _ => adm m hO) (dats m hO) (0 : Fin 1) launch₀0 osem0 defs₀ Variants.none
    ownSemFacts0 H0 H0_sub m ρ main (hbody := fun c => (obligation m hO c (hF c)).loose) (hq := fun c w _ => rfl) (howed := fun _ _ => rfl) (V := V m)
    (hmain := hmain m Variants.none) (hA := A_eq m hO) (hpf := V_pre m) (hin := enter m hO) (hout := fun c => leave m hO c (hF c))

theorem rest (b : Ref sig .tc) (h : b ∈ Pipeline.restRefs sig spec0) : b ∈ Pipeline.restRefs sig ((Pipeline.pin (pcfgs (F := F)) (fun _ => adm m hO)) 0).spec := h

/-- The frame claim, at any float values: the arguments as they were, the counters at zero; and the result written as the data says. -/
theorem frame_post (hF : ∀ c, Fits m c) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v1) = (dats m hO 0 c).arrAt 6 (cfgM m hO).N) :=
  (θ_run defs _ _).mono (fun r h => ⟨⟨fun c =>
      ⟨((h.1 c).2 main_arg0 (rest m hO main_arg0 (by decide))).trans (V_arg m c main_arg0 (by decide)),
       ((h.1 c).2 main_arg1 (rest m hO main_arg1 (by decide))).trans (V_arg m c main_arg1 (by decide)),
       ((h.1 c).2 main_arg2 (rest m hO main_arg2 (by decide))).trans (V_arg m c main_arg2 (by decide)),
       ((h.1 c).2 main_arg3 (rest m hO main_arg3 (by decide))).trans (V_arg m c main_arg3 (by decide)),
       ((h.1 c).1 3).trans (((dats m hO 0 c).arrAt_in 3 rfl _).trans ((A_eq m hO c 3).trans (V_arg m c main_arg4 (by decide)))),
       ((h.1 c).1 4).trans (((dats m hO 0 c).arrAt_in 4 rfl _).trans ((A_eq m hO c 4).trans (V_arg m c main_arg5 (by decide)))),
       ((h.1 c).1 5).trans (((dats m hO 0 c).arrAt_in 5 rfl _).trans ((A_eq m hO c 5).trans (V_arg m c main_arg6 (by decide))))⟩, h.2⟩,
      fun c => (h.1 c).1 6⟩) (run_quiet m ρ hO hF)

end Cert.Proof.ExIdeal
-- ==== Proof.ExIdealOk.lean ====
module

public import proofs.«01_k».proof.Proof.ExIdealRun
public import proofs.«01_k».proof.Proof.ExWords

@[expose] public section

set_option maxRecDepth 16384

noncomputable section

namespace Cert.Proof.ExIdeal

open Cert.ExIdeal Cert.ExIdeal.Gen
open Idealize.ShloMosaic Idealize.ShloMosaic.TcCoe Idealize.SL.Sem
open Cert.Proof.ExWords (Addressed)

variable {F : FTy → Type} [FloatOps F]

variable (m : (ℓ : Loc nD τ sig) → Buf (Elt F) ℓ) (ρ : Dev nD → PrngReg)

/-- The words of a device are in range. -/
abbrev InRange (c : Dev nD) : Prop :=
  Addressed (m ((c.tc : Thread nD τ).loc main_arg1)) (m ((c.tc : Thread nD τ).loc main_arg2)) (m ((c.tc : Thread nD τ).loc main_arg3))

theorem be_arg (c : Dev nD) (b : Fin 160) : be m c (ix1 b) = m ((c.tc : Thread nD τ).loc main_arg2) (ix1 b) :=
  congrFun (V_arg m c main_arg2 (by decide)) (ix1 b)
theorem NB_arg (c : Dev nD) : NB m c = (m ((c.tc : Thread nD τ).loc main_arg3) (ix1 0) : BitVec 32).toNat :=
  congrArg (fun w : BitVec 32 => w.toNat) (congrFun (V_arg m c main_arg3 (by decide)) (ix1 0))

/-- Then the experts' weight blocks are inside the arrays of weights. -/
theorem ok_of (h : ∀ c, InRange m c) : Ok m := by
  have hb (b : Fin 160) : (be m 0 (ix1 b) : BitVec 32).toNat < 32 :=
    lt_of_eq_of_lt (congrArg (fun w : BitVec 32 => w.toNat) (be_arg m 0 b)) ((h 0).exp b)
  refine ⟨fun i => ⟨fun a => ?_, Or.inl rfl⟩, fun i => ⟨fun a => ?_, Or.inl rfl⟩, fun i => ⟨fun a => ?_, Or.inl rfl⟩⟩
  · rw [tr4 m i]
    have := hb (i 0)
    match a with
    | ⟨0, _⟩ => show (0 + 1) * 1 ≤ 4; omega
    | ⟨1, _⟩ => show ((be m 0 (ix1 (i 0)) : BitVec 32).toNat + 1) * 1 ≤ 32; omega
    | ⟨2, _⟩ => show (0 + 1) * 2048 ≤ 2048; omega
    | ⟨3, _⟩ => show (0 + 1) * 512 ≤ 512; omega
  · rw [tr5 m i]
    have := hb (i 0)
    match a with
    | ⟨0, _⟩ => show (0 + 1) * 1 ≤ 4; omega
    | ⟨1, _⟩ => show ((be m 0 (ix1 (i 0)) : BitVec 32).toNat + 1) * 1 ≤ 32; omega
    | ⟨2, _⟩ => show (0 + 1) * 2048 ≤ 2048; omega
    | ⟨3, _⟩ => show (0 + 1) * 512 ≤ 512; omega
  · rw [tr6 m i]
    have := hb (i 0)
    match a with
    | ⟨0, _⟩ => show (0 + 1) * 1 ≤ 4; omega
    | ⟨1, _⟩ => show ((be m 0 (ix1 (i 0)) : BitVec 32).toNat + 1) * 1 ≤ 32; omega
    | ⟨2, _⟩ => show (0 + 1) * 512 ≤ 512; omega
    | ⟨3, _⟩ => show (0 + 1) * 2048 ≤ 2048; omega

/-- And the tokens and the count are as asked. -/
theorem fits_of (h : ∀ c, InRange m c) (c : Dev nD) : Fits m c :=
  ⟨fun b r => lt_of_eq_of_lt (congrArg (fun w : BitVec 32 => w.toNat) (V_tok m c b r)) ((h c).tok b r),
    le_of_le_of_eq (h c).pos (NB_arg m c).symm, le_of_eq_of_le (NB_arg m c) (h c).le⟩

end Cert.Proof.ExIdeal
-- ==== Proof.ExRef.lean ====
module

public import proofs.«01_k».proof.Defs
public import proofs.«01_k».proof.Proof.Gen.ExRefIdeal.Run
public import proofs.«01_k».proof.Proof.ExWords
public import Idealize.ShloMosaic.Lib.Pointwise
public import Idealize.ShloMosaic.Lib.WordCmp

@[expose] public section

set_option maxRecDepth 16384

noncomputable section

namespace Cert.Proof.ExRef

open Cert.ExRefIdeal Cert.ExRefIdeal.Gen Idealize.ShloMosaic Idealize.ShloMosaic.TcCoe Idealize.SL.Sem
open Cert.Proof.ExWords (Addressed)

/-! ## The experts, written with indices

The token of a slot, the expert of a block and the number of blocks are numbers here. -/

section Math

variable (x : FVec Ideal S16384x2048 .f32) (wg wu : FVec Ideal S4x32x2048x512 .f32) (wd : FVec Ideal S4x32x512x2048 .f32)
  (tok : Fin 160 → Fin 256 → Fin 16384) (exp : Fin 160 → Fin 32) (n : ℕ)

/-- One of the two projections of a slot's token, by its block's expert. -/
def proj (w : FVec Ideal S4x32x2048x512 .f32) (b : Fin 160) (r : Fin 256) (k : Fin 512) : EReal :=
  ∑ l : Fin 2048, x (ix2 (tok b r) l) * w (ix4 0 (exp b) l k)

/-- The gated unit. -/
def gated (g u : EReal) : EReal := g * Ideal.div (Ideal.ofBits .f32 0x3F800000#32) (Ideal.ofBits .f32 0x3F800000#32 + Ideal.exp (-g)) * u

/-- A slot's result: its expert's, where the block is used, and zero where it is not. -/
def slotOf (b : Fin 160) (r : Fin 256) (j : Fin 2048) : EReal :=
  if b.val < n then ∑ k : Fin 512, gated (proj x tok exp wg b r k) (proj x tok exp wu b r k) * wd (ix4 0 (exp b) k j) else 0

/-- All slots' results. -/
def moe : FVec Ideal S40960x2048 .f32 := fun i => slotOf x wg wu wd tok exp n ⟨(i 0).val / 256, by have := (i 0).isLt; change (i 0).val < 40960 at this; omega⟩
  ⟨(i 0).val % 256, by omega⟩ (i 1)

end Math

/-! ## The reference's pieces -/

/-- A word below zero counts from the end. -/
def tokWords (a : IVec S40960 32) : IVec S40960x1 32 :=
  broadcastInDim S40960x1 ![0] bcast_S40960_S40960x1_0 (select (cmpi .slt a (broadcastInDim S40960 ![] bcast_S_S40960 (constantI S_ 32 0#32))) (addi a (broadcastInDim S40960 ![] bcast_S_S40960 (constantI S_ 32 16384#32))) a)
def expWords (a : IVec S160 32) : IVec S160x1 32 :=
  broadcastInDim S160x1 ![0] bcast_S160_S160x1_0 (select (cmpi .slt a (broadcastInDim S160 ![] bcast_S_S160 (constantI S_ 32 0#32))) (addi a (broadcastInDim S160 ![] bcast_S_S160 (constantI S_ 32 32#32))) a)
/-- The slots' tokens, by block. -/
def rows (x : FVec Ideal S16384x2048 .f32) (a : IVec S40960 32) : FVec Ideal S160x256x2048 .f32 :=
  shapeCast _ (Host.gather gather_S16384x2048_S40960x1_S40960x2048_1_0_n_n_0_1_12048 x (tokWords a)) shapeCasts_S40960x2048_S160x256x2048
/-- The first of the four sets of weights. -/
def first (w : FVec Ideal S4x32x2048x512 .f32) : FVec Ideal S32x2048x512 .f32 :=
  shapeCast _ (extractStridedSlice S1x32x2048x512 ![0, 0, 0, 0] w slices_S4x32x2048x512_S1x32x2048x512_0_0_0_0) shapeCasts_S1x32x2048x512_S32x2048x512
def firstD (w : FVec Ideal S4x32x512x2048 .f32) : FVec Ideal S32x512x2048 .f32 :=
  shapeCast _ (extractStridedSlice S1x32x512x2048 ![0, 0, 0, 0] w slices_S4x32x512x2048_S1x32x512x2048_0_0_0_0) shapeCasts_S1x32x512x2048_S32x512x2048
/-- The blocks' weights. -/
def weights (w : FVec Ideal S4x32x2048x512 .f32) (e : IVec S160 32) : FVec Ideal S160x2048x512 .f32 :=
  Host.gather gather_S32x2048x512_S160x1_S160x2048x512_12_0_n_n_0_1_12048512 (first w) (expWords e)
def weightsD (w : FVec Ideal S4x32x512x2048 .f32) (e : IVec S160 32) : FVec Ideal S160x512x2048 .f32 :=
  Host.gather gather_S32x512x2048_S160x1_S160x512x2048_12_0_n_n_0_1_15122048 (firstD w) (expWords e)
/-- A projection of all the slots. -/
def up (X : FVec Ideal S160x256x2048 .f32) (W : FVec Ideal S160x2048x512 .f32) : FVec Ideal S160x256x512 .f32 :=
  Host.dotGeneral dot_S160x256x2048_S160x2048x512_S160x256x512_2_1_1_2_0_0 none X W
/-- The gated unit of all the slots. -/
def unit (g u : FVec Ideal S160x256x512 .f32) : FVec Ideal S160x256x512 .f32 :=
  mulf (mulf g (Host.divf (broadcastInDim S160x256x512 ![] bcast_S_S160x256x512 (constant S_ .f32 0x3F800000#32)) (addf (broadcastInDim S160x256x512 ![] bcast_S_S160x256x512 (constant S_ .f32 0x3F800000#32)) (Host.exp (Host.negf g))))) u
/-- The result from the units. -/
def down (H : FVec Ideal S160x256x512 .f32) (W : FVec Ideal S160x512x2048 .f32) (n : IVec S1 32) : FVec Ideal S40960x2048 .f32 :=
  shapeCast _ (select (broadcastInDim S160x256x2048 ![0, 1, 2] bcast_S160x1x1_S160x256x2048_0_1_2 (broadcastInDim S160x1x1 ![0] bcast_S160_S160x1x1_0 (cmpi .slt (iotaInDim S160 32 0) (broadcastInDim S160 ![0] bcast_S1_S160_0 n))))
    (Host.dotGeneral dot_S160x256x512_S160x512x2048_S160x256x2048_2_1_1_2_0_0 none H W)
    (broadcastInDim S160x256x2048 ![] bcast_S_S160x256x2048 (id (constant S_ .f32 0x00000000#32)))) shapeCasts_S160x256x2048_S40960x2048

theorem ref_pieces (m : (ℓ : Loc nD τ sig) → Buf (Elt Ideal) ℓ) (c : Dev nD) : Value.res_main_v45 m c =
    down (unit (up (rows (m ((c.tc : Thread nD τ).loc main_arg0)) (m ((c.tc : Thread nD τ).loc main_arg1))) (weights (m ((c.tc : Thread nD τ).loc main_arg4)) (m ((c.tc : Thread nD τ).loc main_arg2))))
      (up (rows (m ((c.tc : Thread nD τ).loc main_arg0)) (m ((c.tc : Thread nD τ).loc main_arg1))) (weights (m ((c.tc : Thread nD τ).loc main_arg5)) (m ((c.tc : Thread nD τ).loc main_arg2)))))
      (weightsD (m ((c.tc : Thread nD τ).loc main_arg6)) (m ((c.tc : Thread nD τ).loc main_arg2))) (m ((c.tc : Thread nD τ).loc main_arg3)) := by
  unfold Value.res_main_v45; rfl

/-! ## The pieces, read -/

/-- A word that is no negative number stands. -/
theorem select_word (a k : BitVec 32) (h : a.toNat < 2 ^ 31) : Scalar.select (IntOp.cmpi .slt a 0#32) (IntOp.addi a k) a = a := by
  have h' : ¬ IntOp.cmpi .slt a 0#32 = 1 := fun e => by
    have := ExWords.lt_word e
    rw [BitVec.toInt_eq_toNat_of_lt (by omega)] at this
    rw [show (0#32 : BitVec 32).toInt = 0 from rfl] at this
    omega
  show (if IntOp.cmpi .slt a 0#32 = 1 then _ else a) = a
  rw [if_neg h']

theorem tokWords_apply (a : IVec S40960 32) (s : Fin 40960) (h : (a (ix1 s)).toNat < 16384) : tokWords a (ix2 s 0) = a (ix1 s) := by
  refine Eq.trans ?_ (select_word (a (ix1 s)) 16384#32 (by omega))
  pointwise [tokWords]
theorem expWords_apply (a : IVec S160 32) (b : Fin 160) (h : (a (ix1 b)).toNat < 32) : expWords a (ix2 b 0) = a (ix1 b) := by
  refine Eq.trans ?_ (select_word (a (ix1 b)) 32#32 (by omega))
  pointwise [expWords]
theorem first_apply (w) (e : Fin 32) (l : Fin 2048) (k : Fin 512) : first w (ix3 e l k) = w (ix4 0 e l k) := by
  pointwise [first]
theorem firstD_apply (w) (e : Fin 32) (l : Fin 512) (k : Fin 2048) : firstD w (ix3 e l k) = w (ix4 0 e l k) := by
  pointwise [firstD]
theorem up_apply (X W) (b : Fin 160) (r : Fin 256) (k : Fin 512) : up X W (ix3 b r k) = ∑ l, X (ix3 b r l) * W (ix3 b l k) := by
  pointwise [up]
theorem unit_apply (g u) (b : Fin 160) (r : Fin 256) (k : Fin 512) : unit g u (ix3 b r k) = gated (g (ix3 b r k)) (u (ix3 b r k)) := by
  pointwise [unit, gated]
theorem down_apply (H W n) (b : Fin 160) (r : Fin 256) (j : Fin 2048) : down H W n (ix2 ⟨b.val * 256 + r.val, by omega⟩ j)
    = Scalar.select (IntOp.cmpi .slt (BitVec.ofNat 32 b.val) (n (ix1 0))) (∑ k, H (ix3 b r k) * W (ix3 b k j)) 0 := by
  pointwise [down]
  rw [show id (constant (F := Ideal) S_ FTy.f32 0#32) ix0 = 0 from Ideal.ofBits_zero_f32]

/-- A gather's place along an axis: where the slice starts, and where in the slice. -/
theorem gather_at {α : Type} {w : Nat} {s si t : Shape} (d : GatherDims s si t) (hb : d.operandBatchingDims = []) (x : s.Idx → α) (idx : IVec si w) (i : t.Idx) (p : s.Idx)
    (h : ∀ a, d.start i idx a + d.offCoord i a = (p a).val) : Host.gather d x idx i = x p := by
  unfold Host.gather
  congr 1
  funext a
  refine Fin.ext ?_
  show d.start i idx a + d.batchCoord i a + d.offCoord i a = _
  rw [GatherDims.batchCoord_eq_zero _ _ _ (by rw [hb]; exact List.not_mem_nil)]
  exact h a

/-- An axis that is not indexed is read at the slice's own place. -/
theorem kept_at {w : Nat} {s si t : Shape} (d : GatherDims s si t) (idx : IVec si w) (i : t.Idx) (a : Fin s.rank)
    (h₁ : a ∉ d.startIndexMap) (h₂ : a ∉ d.collapsedSliceDims) (h₃ : a ∉ d.operandBatchingDims) :
    d.start i idx a + d.offCoord i a = (i (d.offsetDims[d.sKept.idxOf a]'(by
      rw [d.offset_length]; exact List.idxOf_lt_length_iff.2 ((GatherDims.mem_sKept _ a).2 ⟨h₂, h₃⟩)))).val := by
  unfold GatherDims.start GatherDims.offCoord
  rw [dif_neg h₁, dif_pos ((GatherDims.mem_sKept _ a).2 ⟨h₂, h₃⟩), Nat.zero_add]

/-- The indexed axis is read where the index's word says, the word held inside the array. -/
theorem indexed_at {w : Nat} {s si t : Shape} (d : GatherDims s si t) (idx : IVec si w) (i : t.Idx) (a : Fin s.rank)
    (h₁ : a ∈ d.startIndexMap) (h₂ : a ∈ d.collapsedSliceDims) (y : si.Idx) (hy : d.siIdx i ⟨d.startIndexMap.idxOf a, List.idxOf_lt_length_iff.2 h₁⟩ = y) :
    d.start i idx a + d.offCoord i a = min (idx y).toInt.toNat (s.size a - d.sliceSizes a) + 0 := by
  rw [GatherDims.offCoord_eq_zero _ _ _ (fun h => ((GatherDims.mem_sKept _ _).mp h).1 h₂)]
  unfold GatherDims.start
  rw [dif_pos h₁, hy]

/-- The clamped word of an index that is small enough. -/
theorem clamp {w : BitVec 32} {n t : ℕ} (h : w.toNat = t) (ht : t ≤ n) (hn : n < 2 ^ 31) : min w.toInt.toNat n + 0 = t := by
  rw [BitVec.toInt_eq_toNat_of_lt (by omega)]
  omega

theorem rows_gather (x : FVec Ideal S16384x2048 .f32) (idx : IVec S40960x1 32) (s : Fin 40960) (l : Fin 2048) (t : Fin 16384) (ht : (idx (ix2 s 0)).toNat = t.val) :
    Host.gather gather_S16384x2048_S40960x1_S40960x2048_1_0_n_n_0_1_12048 x idx (ix2 s l) = x (ix2 t l) := by
  refine gather_at _ rfl x idx _ _ fun a => ?_
  match a with
  | ⟨0, _⟩ =>
    refine (indexed_at gather_S16384x2048_S40960x1_S40960x2048_1_0_n_n_0_1_12048 idx (ix2 s l) ⟨0, by decide⟩ (List.mem_singleton.mpr rfl) (List.mem_singleton.mpr rfl) (ix2 s 0) (funext fun b' => Fin.ext ?_)).trans
      (clamp ht (by have := t.isLt; show t.val ≤ 16384 - 1; omega) (by decide))
    match b' with
    | ⟨0, _⟩ => rfl
    | ⟨1, _⟩ => rfl
  | ⟨1, _⟩ => exact kept_at gather_S16384x2048_S40960x1_S40960x2048_1_0_n_n_0_1_12048 idx (ix2 s l) ⟨1, by decide⟩ (by decide) (by decide) (by decide)

theorem weights_gather (x : FVec Ideal S32x2048x512 .f32) (idx : IVec S160x1 32) (b : Fin 160) (l : Fin 2048) (k : Fin 512) (t : Fin 32) (ht : (idx (ix2 b 0)).toNat = t.val) :
    Host.gather gather_S32x2048x512_S160x1_S160x2048x512_12_0_n_n_0_1_12048512 x idx (ix3 b l k) = x (ix3 t l k) := by
  refine gather_at _ rfl x idx _ _ fun a => ?_
  match a with
  | ⟨0, _⟩ =>
    refine (indexed_at gather_S32x2048x512_S160x1_S160x2048x512_12_0_n_n_0_1_12048512 idx (ix3 b l k) ⟨0, by decide⟩ (List.mem_singleton.mpr rfl) (List.mem_singleton.mpr rfl) (ix2 b 0) (funext fun b' => Fin.ext ?_)).trans
      (clamp ht (by have := t.isLt; show t.val ≤ 32 - 1; omega) (by decide))
    match b' with
    | ⟨0, _⟩ => rfl
    | ⟨1, _⟩ => rfl
  | ⟨1, _⟩ => exact kept_at gather_S32x2048x512_S160x1_S160x2048x512_12_0_n_n_0_1_12048512 idx (ix3 b l k) ⟨1, by decide⟩ (by decide) (by decide) (by decide)
  | ⟨2, _⟩ => exact kept_at gather_S32x2048x512_S160x1_S160x2048x512_12_0_n_n_0_1_12048512 idx (ix3 b l k) ⟨2, by decide⟩ (by decide) (by decide) (by decide)

theorem weightsD_gather (x : FVec Ideal S32x512x2048 .f32) (idx : IVec S160x1 32) (b : Fin 160) (l : Fin 512) (k : Fin 2048) (t : Fin 32) (ht : (idx (ix2 b 0)).toNat = t.val) :
    Host.gather gather_S32x512x2048_S160x1_S160x512x2048_12_0_n_n_0_1_15122048 x idx (ix3 b l k) = x (ix3 t l k) := by
  refine gather_at _ rfl x idx _ _ fun a => ?_
  match a with
  | ⟨0, _⟩ =>
    refine (indexed_at gather_S32x512x2048_S160x1_S160x512x2048_12_0_n_n_0_1_15122048 idx (ix3 b l k) ⟨0, by decide⟩ (List.mem_singleton.mpr rfl) (List.mem_singleton.mpr rfl) (ix2 b 0) (funext fun b' => Fin.ext ?_)).trans
      (clamp ht (by have := t.isLt; show t.val ≤ 32 - 1; omega) (by decide))
    match b' with
    | ⟨0, _⟩ => rfl
    | ⟨1, _⟩ => rfl
  | ⟨1, _⟩ => exact kept_at gather_S32x512x2048_S160x1_S160x512x2048_12_0_n_n_0_1_15122048 idx (ix3 b l k) ⟨1, by decide⟩ (by decide) (by decide) (by decide)
  | ⟨2, _⟩ => exact kept_at gather_S32x512x2048_S160x1_S160x512x2048_12_0_n_n_0_1_15122048 idx (ix3 b l k) ⟨2, by decide⟩ (by decide) (by decide) (by decide)

/-! ## The reference's result -/

section Result

variable (x : FVec Ideal S16384x2048 .f32) (a : IVec S40960 32) (e : IVec S160 32) (nw : IVec S1 32) (wg wu : FVec Ideal S4x32x2048x512 .f32) (wd : FVec Ideal S4x32x512x2048 .f32)

/-- The slots' tokens and the blocks' experts, as numbers. -/
def tokOf (b : Fin 160) (r : Fin 256) : Fin 16384 := ⟨(a (ix1 ⟨b.val * 256 + r.val, by omega⟩)).toNat % 16384, Nat.mod_lt _ (by decide)⟩
def expOf (b : Fin 160) : Fin 32 := ⟨(e (ix1 b)).toNat % 32, Nat.mod_lt _ (by decide)⟩

variable (h : Addressed a e nw)
include h

theorem rows_apply (b : Fin 160) (r : Fin 256) (l : Fin 2048) : rows x a (ix3 b r l) = x (ix2 (tokOf a b r) l) := by
  have ht := h.tok b r
  refine Eq.trans ?_ (rows_gather x (tokWords a) ⟨b.val * 256 + r.val, by omega⟩ l (tokOf a b r) ?_)
  · exact shapeCast_apply _ shapeCasts_S40960x2048_S160x256x2048 (ix3 b r l) (ix2 ⟨b.val * 256 + r.val, by omega⟩ l) (by
      rw [Shape.rowMajor_val_two, Shape.rowMajor_val_three]
      rfl)
  · rw [tokWords_apply _ _ ht]
    exact (Nat.mod_eq_of_lt ht).symm

theorem expWords_at (b : Fin 160) : (expWords e (ix2 b 0)).toNat = (expOf e b).val := by
  rw [expWords_apply _ _ (h.exp b)]
  exact (Nat.mod_eq_of_lt (h.exp b)).symm

theorem weights_apply (w) (b : Fin 160) (l : Fin 2048) (k : Fin 512) : weights w e (ix3 b l k) = w (ix4 0 (expOf e b) l k) :=
  (weights_gather (first w) (expWords e) b l k (expOf e b) (expWords_at a e nw h b)).trans (first_apply w _ l k)
theorem weightsD_apply (w) (b : Fin 160) (l : Fin 512) (k : Fin 2048) : weightsD w e (ix3 b l k) = w (ix4 0 (expOf e b) l k) :=
  (weightsD_gather (firstD w) (expWords e) b l k (expOf e b) (expWords_at a e nw h b)).trans (firstD_apply w _ l k)

/-- Whether a block is used, as a word's comparison. -/
theorem used_word (b : Fin 160) (u v : EReal) : Scalar.select (IntOp.cmpi .slt (BitVec.ofNat 32 b.val) (nw (ix1 0))) u v = if b.val < (nw (ix1 0)).toNat then u else v := by
  have e : IntOp.cmpi .slt (BitVec.ofNat 32 b.val) (nw (ix1 0)) = BitVec.ofBool (decide (b.val < (nw (ix1 0)).toNat)) := by
    have := h.le
    have hw : nw (ix1 0) = BitVec.ofNat 32 (nw (ix1 0)).toNat := BitVec.eq_of_toNat_eq (by rw [BitVec.toNat_ofNat, Nat.mod_eq_of_lt (nw (ix1 0)).isLt])
    conv_lhs => rw [hw]
    exact WordCmp.cmpi_slt_ofNat (by have := b.isLt; omega) (by omega)
  rw [e]
  by_cases hb : b.val < (nw (ix1 0)).toNat
  · rw [if_pos hb, decide_eq_true hb]; rfl
  · rw [if_neg hb, decide_eq_false hb]; rfl

theorem result : down (unit (up (rows x a) (weights wg e)) (up (rows x a) (weights wu e))) (weightsD wd e) nw = moe x wg wu wd (tokOf a) (expOf e) (nw (ix1 0)).toNat := by
  funext i
  obtain ⟨s, j, rfl⟩ : ∃ (s : Fin 40960) (j : Fin 2048), i = ix2 s j := ⟨i 0, i 1, eq_ix2 i⟩
  have hs : s = ⟨(⟨s.val / 256, by omega⟩ : Fin 160).val * 256 + (⟨s.val % 256, by omega⟩ : Fin 256).val, by show s.val / 256 * 256 + s.val % 256 < 40960; omega⟩ :=
    Fin.ext (by show s.val = s.val / 256 * 256 + s.val % 256; omega)
  show _ = slotOf x wg wu wd (tokOf a) (expOf e) (nw (ix1 0)).toNat ⟨s.val / 256, by omega⟩ ⟨s.val % 256, by omega⟩ j
  rw [congrArg (fun s => down _ _ nw (ix2 s j)) hs]
  rw [down_apply, used_word a e nw h]
  unfold slotOf
  simp only [unit_apply, up_apply, rows_apply x a e nw h, weights_apply a e nw h, weightsD_apply a e nw h]
  rfl

end Result

theorem ref_result (m : (ℓ : Loc nD τ sig) → Buf (Elt Ideal) ℓ) (c : Dev nD)
    (h : Addressed (m ((c.tc : Thread nD τ).loc main_arg1)) (m ((c.tc : Thread nD τ).loc main_arg2)) (m ((c.tc : Thread nD τ).loc main_arg3))) :
    Value.res_main_v45 m c = moe (m ((c.tc : Thread nD τ).loc main_arg0)) (m ((c.tc : Thread nD τ).loc main_arg4)) (m ((c.tc : Thread nD τ).loc main_arg5)) (m ((c.tc : Thread nD τ).loc main_arg6))
      (tokOf (m ((c.tc : Thread nD τ).loc main_arg1))) (expOf (m ((c.tc : Thread nD τ).loc main_arg2))) (m ((c.tc : Thread nD τ).loc main_arg3) (ix1 0) : BitVec 32).toNat :=
  (ref_pieces m c).trans (result _ _ _ _ _ _ _ h)

end Cert.Proof.ExRef
-- ==== Proof.ExValue.lean ====
module

public import proofs.«01_k».proof.Proof.ExIdealOk
public import proofs.«01_k».proof.Proof.ExRef
public import proofs.«01_k».proof.Defs
public import Idealize.ShloMosaic.Lib.Pipeline.Value
public import Idealize.ShloMosaic.Lib.Pointwise

@[expose] public section

set_option maxRecDepth 16384

noncomputable section

namespace Cert.Proof.ExIdeal

open Cert.ExIdeal Cert.ExIdeal.Gen
open Idealize.ShloMosaic Idealize.ShloMosaic.TcCoe Idealize.SL.Sem
open Cert.Proof.ExRef (moe slotOf proj gated tokOf expOf)

/-! ## A block's result, read -/

theorem pay1_apply (w : Vec Ideal S1x1x2048x512 .f32) (l : Fin 2048) (k : Fin 512) : k0_pay1 w (ix2 l k) = w (ix4 0 0 l k) := by
  pointwise [k0_pay1]
theorem pay2_apply (w : Vec Ideal S1x1x2048x512 .f32) (l : Fin 2048) (k : Fin 512) : k0_pay2 w (ix2 l k) = w (ix4 0 0 l k) := by
  pointwise [k0_pay2]
theorem pay3_apply (w : Vec Ideal S1x1x512x2048 .f32) (l : Fin 512) (k : Fin 2048) : k0_pay3 w (ix2 l k) = w (ix4 0 0 l k) := by
  pointwise [k0_pay3]
theorem pay5_apply (r : Fin 256) (j : Fin 2048) : (k0_pay5 (F := Ideal)) (ix2 r j) = 0 := by
  pointwise [k0_pay5]
theorem pay4_apply (x : Vec Ideal S1x256x2048 .f32) (wg wu : Vec Ideal S2048x512 .bf16) (wd : Vec Ideal S512x2048 .bf16) (r : Fin 256) (j : Fin 2048) :
    k0_pay4 x wg wu wd (ix2 r j) = ∑ k : Fin 512, gated (∑ l : Fin 2048, x (ix3 0 r l) * wg (ix2 l k)) (∑ l : Fin 2048, x (ix3 0 r l) * wu (ix2 l k)) * wd (ix2 k j) := by
  pointwise [k0_pay4, gated]
  simp only [zero_sub]

/-! ## The blocks of the launch -/

variable (m : (ℓ : Loc nD τ sig) → Buf (Elt Ideal) ℓ) (ρ : Dev nD → PrngReg) (hO : Ok m)

/-- The tokens, the three arrays of weights, the slots' words, the blocks' words and the number of blocks. -/
abbrev xs (c : Dev nD) : FVec Ideal Cert.ExRefIdeal.S16384x2048 .f32 := m ((c.tc : Thread nD τ).loc main_arg0)
abbrev gs (c : Dev nD) : FVec Ideal Cert.ExRefIdeal.S4x32x2048x512 .f32 := m ((c.tc : Thread nD τ).loc main_arg4)
abbrev us (c : Dev nD) : FVec Ideal Cert.ExRefIdeal.S4x32x2048x512 .f32 := m ((c.tc : Thread nD τ).loc main_arg5)
abbrev ds (c : Dev nD) : FVec Ideal Cert.ExRefIdeal.S4x32x512x2048 .f32 := m ((c.tc : Thread nD τ).loc main_arg6)
abbrev ts (c : Dev nD) : IVec Cert.ExRefIdeal.S40960 32 := m ((c.tc : Thread nD τ).loc main_arg1)
abbrev es (c : Dev nD) : IVec Cert.ExRefIdeal.S160 32 := m ((c.tc : Thread nD τ).loc main_arg2)
abbrev ns (c : Dev nD) : IVec Cert.ExRefIdeal.S1 32 := m ((c.tc : Thread nD τ).loc main_arg3)

/-- What all slots' results are to be. -/
abbrev want (c : Dev nD) : FVec Ideal S40960x2048 .f32 :=
  moe (xs m c) (gs m c) (us m c) (ds m c)
    (tokOf (ts m c)) (expOf (es m c)) (ns m c (ix1 0)).toNat

theorem T_tok (c : Dev nD) (b : Fin 160) (r : Fin 256) : T m c b.val r = tokOf (ts m c) b r := by
  unfold T tokOf
  rw [dif_pos b.isLt]
  exact Fin.ext (congrArg (fun w : BitVec 32 => w.toNat % 16384) (V_tok m c b r))

theorem expert_arg (c : Dev nD) (b : Fin 160) : expert m hO b = expOf (es m c) b := by
  obtain rfl : c = 0 := Subsingleton.elim _ _
  refine Fin.ext ((Nat.mod_eq_of_lt (expert_lt m hO b)).symm.trans ?_)
  exact congrArg (fun w : BitVec 32 => w.toNat % 32) (be_arg m 0 b)

theorem tr7 : ∀ t : Fin grid0.N, cc0_transform_7 (grid0.coords t) 0 = t.val ∧ cc0_transform_7 (grid0.coords t) 1 = 0 := by decide +kernel

/-- What a point stores, read. -/
theorem block_at (c : Dev nD) (t : Fin (cfgM m hO).N) (r : Fin 256) (j : Fin 2048) :
    (outB (V m c main_arg0) (T m c ((coords m hO t) 0).val) (iblk m hO c 3 t) (iblk m hO c 4 t) (iblk m hO c 5 t) (((coords m hO t) 0).val < NB m c) : FVec Ideal S256x2048 .f32) (ix2 r j)
      = slotOf (xs m c) (gs m c) (us m c) (ds m c)
        (tokOf (ts m c)) (expOf (es m c)) (ns m c (ix1 0)).toNat ((coords m hO t) 0) r j := by
  unfold outB slotOf
  rw [← NB_arg m c]
  by_cases h : ((coords m hO t) 0).val < NB m c
  · rw [if_pos h, if_pos h, pay4_apply]
    refine Finset.sum_congr rfl fun k _ => ?_
    have hx (l : Fin 2048) : rowsOf (V m c main_arg0) (T m c ((coords m hO t) 0).val) (ix3 0 r l)
        = xs m c (ix2 (tokOf (ts m c) ((coords m hO t) 0) r) l) := by
      show V m c main_arg0 (ix2 (T m c ((coords m hO t) 0).val r) l) = _
      exact (congrFun (V_arg m c main_arg0 (by decide)) _).trans (congrArg (fun t : Fin 16384 => xs m c (ix2 t l)) (T_tok m c _ r))
    have hg (l : Fin 2048) : k0_pay1 (F := Ideal) (iblk m hO c 3 t) (ix2 l k) = gs m c (ix4 0 (expOf (es m c) ((coords m hO t) 0)) l k) :=
      (pay1_apply _ l k).trans ((iblk3 m hO c t l k).trans ((congrFun (V_arg m c main_arg4 (by decide)) _).trans (congrArg (fun e : Fin 32 => gs m c (ix4 0 e l k)) (expert_arg m hO c _))))
    have hu (l : Fin 2048) : k0_pay2 (F := Ideal) (iblk m hO c 4 t) (ix2 l k) = us m c (ix4 0 (expOf (es m c) ((coords m hO t) 0)) l k) :=
      (pay2_apply _ l k).trans ((iblk4 m hO c t l k).trans ((congrFun (V_arg m c main_arg5 (by decide)) _).trans (congrArg (fun e : Fin 32 => us m c (ix4 0 e l k)) (expert_arg m hO c _))))
    have hd : k0_pay3 (F := Ideal) (iblk m hO c 5 t) (ix2 k j) = ds m c (ix4 0 (expOf (es m c) ((coords m hO t) 0)) k j) :=
      (pay3_apply _ k j).trans ((iblk5 m hO c t k j).trans ((congrFun (V_arg m c main_arg6 (by decide)) _).trans (congrArg (fun e : Fin 32 => ds m c (ix4 0 e k j)) (expert_arg m hO c _))))
    rw [hd]
    simp only [hx, hg, hu]
    rfl
  · rw [if_neg h, if_neg h, pay5_apply]

/-- What a point writes back is its block of the result. -/
theorem flushed_eq (c : Dev nD) (t : Fin (cfgM m hO).N) :
    (dats m hO 0 c).flushed 6 t = (((cfgM m hO).win 6).blk t).view.read (Elt Ideal) (want m c : Vec Ideal S40960x2048 .f32) := by
  show ((cfgM m hO).win 6).cut ((cfgM m hO).grid.coords t) ((dats m hO 0 c).after 6 t) = _
  rw [after6]
  funext y
  obtain ⟨r, j, rfl⟩ : ∃ (r : Fin 256) (j : Fin 2048), y = (ix2 r j : S256x2048.Idx) := ⟨(show S256x2048.Idx from y) 0, (show S256x2048.Idx from y) 1, eq_ix2 (show S256x2048.Idx from y)⟩
  have ht : t.val < 160 := lt_of_lt_of_eq t.isLt N_0
  obtain ⟨e0, e1⟩ := tr7 t
  have he : (((cfgM m hO).win 6).blk t).view.emb (ix2 r j : S256x2048.Idx) = (ix2 ⟨t.val * 256 + r.val, by omega⟩ j : S40960x2048.Idx) := by
    funext k; apply Fin.ext
    match k with
    | ⟨0, _⟩ => show cc0_transform_7 (grid0.coords t) 0 * 256 + 1 * r.val = t.val * 256 + r.val; omega
    | ⟨1, _⟩ => show cc0_transform_7 (grid0.coords t) 1 * 2048 + 1 * j.val = j.val; omega
  show outB (V m c main_arg0) (T m c ((coords m hO t) 0).val) (iblk m hO c 3 t) (iblk m hO c 4 t) (iblk m hO c 5 t) (((coords m hO t) 0).val < NB m c) (ix2 r j)
    = want m c ((((cfgM m hO).win 6).blk t).view.emb (ix2 r j : S256x2048.Idx))
  rw [he, block_at]
  have hb : (coords m hO t) 0 = (⟨(t.val * 256 + r.val) / 256, by omega⟩ : Fin 160) := Fin.ext ((coord_val m hO t).trans (by show t.val = (t.val * 256 + r.val) / 256; omega))
  have hr : r = (⟨(t.val * 256 + r.val) % 256, by omega⟩ : Fin 256) := Fin.ext (by show r.val = (t.val * 256 + r.val) % 256; omega)
  exact congrArg₂ (fun b r => slotOf _ _ _ _ _ _ _ b r j) hb hr

theorem flush6 (t : Fin (cfgM m hO).N) : ((cfgM m hO).win 6).flush t = true := by
  unfold Pipeline.Window.flush
  by_cases h : t.val + 1 < grid0.N
  · have hne : ((cfgM m hO).win 6).index ⟨t.val + 1, h⟩ ≠ ((cfgM m hO).win 6).index t := fun e => by
      have e' : cc0_transform_7 (grid0.coords ⟨t.val + 1, h⟩) 0 = cc0_transform_7 (grid0.coords t) 0 := congrFun e (0 : Fin 2)
      rw [(tr7 _).1, (tr7 t).1] at e'
      exact absurd e' (by show t.val + 1 ≠ t.val; omega)
    have : decide (∃ h : t.val + 1 < (cfgM m hO).grid.N, ((cfgM m hO).win 6).index ⟨t.val + 1, h⟩ ≠ ((cfgM m hO).win 6).index t) = true := decide_eq_true ⟨h, hne⟩
    rw [this, Bool.or_true]
    rfl
  · have : decide (t.val + 1 = (cfgM m hO).grid.N) = true := decide_eq_true (by have := t.isLt; change t.val < grid0.N at this; show t.val + 1 = grid0.N; omega)
    rw [this, Bool.true_or]
    rfl

/-- The points' blocks are all of the result. -/
theorem covered (i : S40960x2048.Idx) : ∃ t : Fin (cfgM m hO).N, ((cfgM m hO).win 6).flush t = true ∧ i ∈ (((cfgM m hO).win 6).blk t).view.set := by
  have h0 : (i 0 : Nat) < 40960 := (i 0).isLt
  have h1 : (i 1 : Nat) < 2048 := (i 1).isLt
  let t : Fin (cfgM m hO).N := (⟨(i 0 : Nat) / 256, lt_of_lt_of_eq (by omega : (i 0 : Nat) / 256 < 160) N_0.symm⟩ : Fin grid0.N)
  have tv : t.val = (i 0 : Nat) / 256 := rfl
  obtain ⟨e0, e1⟩ := tr7 t
  refine ⟨t, flush6 m hO t, ?_⟩
  show i ∈ ((View.whole main_v1).slice (Rect.block (s := S40960x2048) S256x2048.size (cc0_transform_7 (grid0.coords t)) (hinb0_6 _))).set
  rw [View.set_slice_whole, Rect.mem_set_unit]
  intro a
  match a with
  | ⟨0, _⟩ => show cc0_transform_7 (grid0.coords t) 0 * 256 ≤ (i 0 : Nat) ∧ (i 0 : Nat) < cc0_transform_7 (grid0.coords t) 0 * 256 + 256; omega
  | ⟨1, _⟩ => show cc0_transform_7 (grid0.coords t) 1 * 2048 ≤ (i 1 : Nat) ∧ (i 1 : Nat) < cc0_transform_7 (grid0.coords t) 1 * 2048 + 2048; omega

/-- The result after the run. -/
theorem final (c : Dev nD) : (dats m hO 0 c).arrAt 6 (cfgM m hO).N = (want m c : Vec Ideal S40960x2048 .f32) :=
  (dats m hO 0 c).arrAt_eq_of_cover 6 (want m c : Vec Ideal S40960x2048 .f32) (fun t _ => flushed_eq m hO c t) (covered m hO)

/-- The precondition's words. -/
theorem in_range (h : Cert.Pre_ExIdeal (hPre_ex_addressed := Cert.Pre_ex_addressed.Gen.facts) m) (c : Dev nD) : InRange m c :=
  Cert.Proof.ExWords.addressed _ _ _ _ _ _ _ (h c)

/-- The kernel and the reference run to the same result. -/
theorem value : Cert.algebraic_ExIdeal_ExRefIdeal (hExIdeal := Cert.ExIdeal.Gen.facts) (hExRefIdeal := Cert.ExRefIdeal.Gen.facts) (hPre_ex_addressed := Cert.Pre_ex_addressed.Gen.facts) := by
  intro m g m' g' hpre hargs
  have hr := in_range m hpre
  have hO := ok_of m hr
  refine ⟨fun c => want m c,
    (θ_run Cert.ExIdeal.defs _ _).mono (fun r h c => ⟨(h.2 c).trans (final m hO c), h.1.1 c⟩) (frame_post m g hO (fits_of m hr)), ?_⟩
  refine (θ_run Cert.ExRefIdeal.defs _ _).mono (fun r h c => ⟨(h c).1.trans ?_, (h c).2⟩) (Cert.ExRefIdeal.Value.run m' g')
  obtain ⟨h0, h1, h2, h3, h4, h5, h6⟩ := hargs c
  have hr' : Cert.Proof.ExWords.Addressed (m' ((c.tc : Thread Cert.ExRefIdeal.nD Cert.ExRefIdeal.τ).loc Cert.ExRefIdeal.main_arg1)) (m' ((c.tc : Thread Cert.ExRefIdeal.nD Cert.ExRefIdeal.τ).loc Cert.ExRefIdeal.main_arg2))
      (m' ((c.tc : Thread Cert.ExRefIdeal.nD Cert.ExRefIdeal.τ).loc Cert.ExRefIdeal.main_arg3)) := by rw [h1, h2, h3]; exact hr c
  refine (Cert.Proof.ExRef.ref_result m' c hr').trans ?_
  rw [h0, h1, h2, h3, h4, h5, h6]

end Cert.Proof.ExIdeal
-- ==== Proof.lean ====
module

public import proofs.«01_k».proof.Defs
public import proofs.«01_k».proof.Proof.SbFrame
public import proofs.«01_k».proof.Proof.SbIdealFrame
public import proofs.«01_k».proof.Proof.SbValue
public import proofs.«01_k».proof.Proof.MergeValue
public import proofs.«01_k».proof.Proof.OutLnValue
public import proofs.«01_k».proof.Proof.InAValue
public import proofs.«01_k».proof.Proof.InBValue
public import proofs.«01_k».proof.Proof.UqValue
public import proofs.«01_k».proof.Proof.ExOk
public import proofs.«01_k».proof.Proof.ExIdealOk
public import proofs.«01_k».proof.Proof.ExValue
public import proofs.«01_k».proof.Proof.Gen.Pre_sb_finite
public import proofs.«01_k».proof.Proof.Gen.Pre_ex_addressed
public import proofs.«01_k».proof.Proof.Gen.ExRefIdeal.Run
public import proofs.«01_k».proof.Proof.Gen.SbRefIdeal.Run
public import proofs.«01_k».proof.Proof.Gen.Merge.Frame
public import proofs.«01_k».proof.Proof.Gen.OutLn.Frame
public import proofs.«01_k».proof.Proof.Gen.InA.Frame
public import proofs.«01_k».proof.Proof.Gen.InB.Frame
public import proofs.«01_k».proof.Proof.Gen.Uq.Frame
public import proofs.«01_k».proof.Proof.Gen.UqIdeal.Value
public import proofs.«01_k».proof.Proof.Gen.UqRefIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-! ## The references' frames: a reference owns no semaphore, so its counters stay at zero -/

theorem frame_SbRef : Cert.quiescent_SbRefIdeal (hSbRefIdeal := Cert.SbRefIdeal.Gen.facts) := fun m ρ _ =>
  (θ_run Cert.SbRefIdeal.defs _ _).mono (fun r h => ⟨fun c => (h c).2, sem_eq_zero_of_no_sems (by decide) r.2⟩) (Cert.SbRefIdeal.Value.run m ρ)
theorem frame_MergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩) (Cert.MergeRefIdeal.Value.run m ρ)
theorem frame_OutLnRef : Cert.quiescent_OutLnRefIdeal (hOutLnRefIdeal := Cert.OutLnRefIdeal.Gen.facts) := fun m ρ _ =>
  (θ_run Cert.OutLnRefIdeal.defs _ _).mono (fun r h => ⟨fun c => (h c).2.2, sem_eq_zero_of_no_sems (by decide) r.2⟩) (Cert.OutLnRefIdeal.Value.run m ρ)
theorem frame_InARef : Cert.quiescent_InARefIdeal (hInARefIdeal := Cert.InARefIdeal.Gen.facts) := fun m ρ _ =>
  (θ_run Cert.InARefIdeal.defs _ _).mono (fun r h => ⟨fun c => (h c).2, sem_eq_zero_of_no_sems (by decide) r.2⟩) (Cert.InARefIdeal.Value.run m ρ)
theorem frame_InBRef : Cert.quiescent_InBRefIdeal (hInBRefIdeal := Cert.InBRefIdeal.Gen.facts) := fun m ρ _ =>
  (θ_run Cert.InBRefIdeal.defs _ _).mono (fun r h => ⟨fun c => (h c).2, sem_eq_zero_of_no_sems (by decide) r.2⟩) (Cert.InBRefIdeal.Value.run m ρ)
theorem frame_UqRef : Cert.quiescent_UqRefIdeal (hUqRefIdeal := Cert.UqRefIdeal.Gen.facts) := fun m ρ _ =>
  (θ_run Cert.UqRefIdeal.defs _ _).mono (fun r h => ⟨fun c => (h c).2, sem_eq_zero_of_no_sems (by decide) r.2⟩) (Cert.UqRefIdeal.Value.run m ρ)

theorem frame_ExRef : Cert.quiescent_ExRefIdeal (hExRefIdeal := Cert.ExRefIdeal.Gen.facts) (hPre_ex_addressed := Cert.Pre_ex_addressed.Gen.facts) := fun m ρ _ =>
  (θ_run Cert.ExRefIdeal.defs _ _).mono (fun r h => ⟨fun c => (h c).2, sem_eq_zero_of_no_sems (by decide) r.2⟩) (Cert.ExRefIdeal.Value.run m ρ)

/-! ## The experts' frames: the precondition puts the words in range -/

theorem frame_Ex : Cert.quiescent_Ex (hEx := Cert.Ex.Gen.facts) (hPre_ex_addressed := Cert.Pre_ex_addressed.Gen.facts) := fun m ρ h =>
  have hr : ∀ c, Cert.Proof.Ex.InRange m c := fun c => Cert.Proof.ExWords.addressed _ _ _ _ _ _ _ (h c)
  (θ_run Cert.Ex.defs _ _).mono (fun r h => h.1) (Cert.Proof.Ex.frame_post m ρ (Cert.Proof.Ex.ok_of m hr) (Cert.Proof.Ex.fits_of m hr))
theorem frame_ExIdeal : Cert.quiescent_ExIdeal (hExIdeal := Cert.ExIdeal.Gen.facts) (hPre_ex_addressed := Cert.Pre_ex_addressed.Gen.facts) := fun m ρ h =>
  have hr : ∀ c, Cert.Proof.ExIdeal.InRange m c := fun c => Cert.Proof.ExWords.addressed _ _ _ _ _ _ _ (h c)
  (θ_run Cert.ExIdeal.defs _ _).mono (fun r h => h.1) (Cert.Proof.ExIdeal.frame_post m ρ (Cert.Proof.ExIdeal.ok_of m hr) (Cert.Proof.ExIdeal.fits_of m hr))

theorem claim : Cert.Claim :=
  ⟨Cert.Sb.Gen.facts, Cert.SbIdeal.Gen.facts, Cert.SbRefIdeal.Gen.facts, Cert.Merge.Gen.facts, Cert.MergeIdeal.Gen.facts, Cert.MergeRefIdeal.Gen.facts,
    Cert.OutLn.Gen.facts, Cert.OutLnIdeal.Gen.facts, Cert.OutLnRefIdeal.Gen.facts, Cert.InA.Gen.facts, Cert.InAIdeal.Gen.facts, Cert.InARefIdeal.Gen.facts,
    Cert.InB.Gen.facts, Cert.InBIdeal.Gen.facts, Cert.InBRefIdeal.Gen.facts, Cert.Uq.Gen.facts, Cert.UqIdeal.Gen.facts, Cert.UqRefIdeal.Gen.facts,
    Cert.Ex.Gen.facts, Cert.ExIdeal.Gen.facts, Cert.ExRefIdeal.Gen.facts,
    Cert.Pre_sb_finite.Gen.facts, Cert.Pre_ex_addressed.Gen.facts,
    fun m ρ _ => Cert.Proof.Sb.frame m ρ, fun m ρ _ => Cert.Proof.SbIdeal.frame m ρ, fun m ρ _ => Cert.Proof.SbIdeal.frame m ρ, frame_SbRef, fun m ρ _ => frame_SbRef m ρ trivial,
    fun m ρ _ => Cert.Merge.Gen.frame m ρ, fun m ρ _ => Cert.MergeIdeal.Gen.frame m ρ, frame_MergeRef,
    fun m ρ _ => Cert.OutLn.Gen.frame m ρ, fun m ρ _ => Cert.OutLnIdeal.Gen.frame m ρ, frame_OutLnRef,
    fun m ρ _ => Cert.InA.Gen.frame m ρ, fun m ρ _ => Cert.InAIdeal.Gen.frame m ρ, frame_InARef,
    fun m ρ _ => Cert.InB.Gen.frame m ρ, fun m ρ _ => Cert.InBIdeal.Gen.frame m ρ, frame_InBRef,
    fun m ρ _ => Cert.Uq.Gen.frame m ρ, fun m ρ _ => Cert.UqIdeal.Gen.frame m ρ, frame_UqRef,
    frame_Ex, frame_ExIdeal, frame_ExRef,
    trivial, Cert.Proof.SbIdeal.value,
    trivial, Cert.Proof.Merge.value,
    trivial, Cert.Proof.OutLn.value,
    trivial, Cert.Proof.InA.value,
    trivial, Cert.Proof.InB.value,
    trivial, Cert.Proof.Uq.value,
    trivial, Cert.Proof.ExIdeal.value⟩

end Cert.Proof

end
